-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_DWUp (m : (ℓ : Loc Cert.DWUp.nD Cert.DWUp.τ Cert.DWUp.sig) → Buf (Elt Bits) ℓ) : Prop :=
  True

def Pre_DWUpIdeal (m : (ℓ : Loc Cert.DWUpIdeal.nD Cert.DWUpIdeal.τ Cert.DWUpIdeal.sig) → Buf (Elt Ideal) ℓ) : Prop :=
  True

def Pre_DWUpReferenceIdeal (m : (ℓ : Loc Cert.DWUpReferenceIdeal.nD Cert.DWUpReferenceIdeal.τ Cert.DWUpReferenceIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2ReferenceIdeal (m : (ℓ : Loc Cert.DH2ReferenceIdeal.nD Cert.DH2ReferenceIdeal.τ Cert.DH2ReferenceIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownReferenceIdeal (m : (ℓ : Loc Cert.DWDownReferenceIdeal.nD Cert.DWDownReferenceIdeal.τ Cert.DWDownReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActReferenceIdeal (m : (ℓ : Loc Cert.DActReferenceIdeal.nD Cert.DActReferenceIdeal.τ Cert.DActReferenceIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutReferenceIdeal (m : (ℓ : Loc Cert.DWOutReferenceIdeal.nD Cert.DWOutReferenceIdeal.τ Cert.DWOutReferenceIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInReferenceIdeal (m : (ℓ : Loc Cert.DWInReferenceIdeal.nD Cert.DWInReferenceIdeal.τ Cert.DWInReferenceIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHReferenceIdeal (m : (ℓ : Loc Cert.DHReferenceIdeal.nD Cert.DHReferenceIdeal.τ Cert.DHReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossReferenceIdeal (m : (ℓ : Loc Cert.DownLossReferenceIdeal.nD Cert.DownLossReferenceIdeal.τ Cert.DownLossReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_InNormBwd (m : (ℓ : Loc Cert.InNormBwd.nD Cert.InNormBwd.τ Cert.InNormBwd.sig) → Buf (Elt Bits) ℓ) : Prop :=
  True

def Pre_InNormBwdIdeal (m : (ℓ : Loc Cert.InNormBwdIdeal.nD Cert.InNormBwdIdeal.τ Cert.InNormBwdIdeal.sig) → Buf (Elt Ideal) ℓ) : Prop :=
  True

def Pre_InNormBwdReferenceIdeal (m : (ℓ : Loc Cert.InNormBwdReferenceIdeal.nD Cert.InNormBwdReferenceIdeal.τ Cert.InNormBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_DWUp [hDWUp : Cert.DWUp.Facts] : Prop :=
  ∀ (m : (ℓ : Loc Cert.DWUp.nD Cert.DWUp.τ Cert.DWUp.sig) → Buf (Elt Bits) ℓ) (g : Dev Cert.DWUp.nD → PrngReg), Pre_DWUp m →
    θ_run (Cert.DWUp.defs (F := Bits)) (onTc (τ := Cert.DWUp.τ) (Cert.DWUp.main (F := Bits))) ⟨m, fun _ => 0, g⟩ (fun r => (∀ c : Dev Cert.DWUp.nD,
      r.2.mem ((c.tc : Thread Cert.DWUp.nD Cert.DWUp.τ).loc Cert.DWUp.main_arg0) = m ((c.tc : Thread Cert.DWUp.nD Cert.DWUp.τ).loc Cert.DWUp.main_arg0)
      ∧ r.2.mem ((c.tc : Thread Cert.DWUp.nD Cert.DWUp.τ).loc Cert.DWUp.main_arg1) = m ((c.tc : Thread Cert.DWUp.nD Cert.DWUp.τ).loc Cert.DWUp.main_arg1))
      ∧ r.2.sem = fun _ => 0)

def quiescent_DWUpIdeal [hDWUpIdeal : Cert.DWUpIdeal.Facts] : Prop :=
  ∀ (m : (ℓ : Loc Cert.DWUpIdeal.nD Cert.DWUpIdeal.τ Cert.DWUpIdeal.sig) → Buf (Elt Ideal) ℓ) (g : Dev Cert.DWUpIdeal.nD → PrngReg), Pre_DWUpIdeal m →
    θ_run (Cert.DWUpIdeal.defs (F := Ideal)) (onTc (τ := Cert.DWUpIdeal.τ) (Cert.DWUpIdeal.main (F := Ideal))) ⟨m, fun _ => 0, g⟩ (fun r => (∀ c : Dev Cert.DWUpIdeal.nD,
      r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
      ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ r.2.sem = fun _ => 0)

def quiescent_DWUpReferenceIdeal [hDWUpReferenceIdeal : Cert.DWUpReferenceIdeal.Facts] : Prop :=
  ∀ (m : (ℓ : Loc Cert.DWUpReferenceIdeal.nD Cert.DWUpReferenceIdeal.τ Cert.DWUpReferenceIdeal.sig) → Buf (Elt Ideal) ℓ) (g : Dev Cert.DWUpReferenceIdeal.nD → PrngReg), Pre_DWUpReferenceIdeal m →
    θ_run (Cert.DWUpReferenceIdeal.defs (F := Ideal)) (onTc (τ := Cert.DWUpReferenceIdeal.τ) (Cert.DWUpReferenceIdeal.main (F := Ideal))) ⟨m, fun _ => 0, g⟩ (fun r => (∀ c : Dev Cert.DWUpReferenceIdeal.nD,
      r.2.mem ((c.tc : Thread Cert.DWUpReferenceIdeal.nD Cert.DWUpReferenceIdeal.τ).loc Cert.DWUpReferenceIdeal.main_arg0) = m ((c.tc : Thread Cert.DWUpReferenceIdeal.nD Cert.DWUpReferenceIdeal.τ).loc Cert.DWUpReferenceIdeal.main_arg0)
      ∧ r.2.mem ((c.tc : Thread Cert.DWUpReferenceIdeal.nD Cert.DWUpReferenceIdeal.τ).loc Cert.DWUpReferenceIdeal.main_arg1) = m ((c.tc : Thread Cert.DWUpReferenceIdeal.nD Cert.DWUpReferenceIdeal.τ).loc Cert.DWUpReferenceIdeal.main_arg1))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2ReferenceIdeal [hDH2ReferenceIdeal : Cert.DH2ReferenceIdeal.Facts] : Prop :=
  ∀ (m : (ℓ : Loc Cert.DH2ReferenceIdeal.nD Cert.DH2ReferenceIdeal.τ Cert.DH2ReferenceIdeal.sig) → Buf (Elt Ideal) ℓ) (g : Dev Cert.DH2ReferenceIdeal.nD → PrngReg), Pre_DH2ReferenceIdeal m →
    θ_run (Cert.DH2ReferenceIdeal.defs (F := Ideal)) (onTc (τ := Cert.DH2ReferenceIdeal.τ) (Cert.DH2ReferenceIdeal.main (F := Ideal))) ⟨m, fun _ => 0, g⟩ (fun r => (∀ c : Dev Cert.DH2ReferenceIdeal.nD,
      r.2.mem ((c.tc : Thread Cert.DH2ReferenceIdeal.nD Cert.DH2ReferenceIdeal.τ).loc Cert.DH2ReferenceIdeal.main_arg0) = m ((c.tc : Thread Cert.DH2ReferenceIdeal.nD Cert.DH2ReferenceIdeal.τ).loc Cert.DH2ReferenceIdeal.main_arg0)
      ∧ r.2.mem ((c.tc : Thread Cert.DH2ReferenceIdeal.nD Cert.DH2ReferenceIdeal.τ).loc Cert.DH2ReferenceIdeal.main_arg1) = m ((c.tc : Thread Cert.DH2ReferenceIdeal.nD Cert.DH2ReferenceIdeal.τ).loc Cert.DH2ReferenceIdeal.main_arg1))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownReferenceIdeal [hDWDownReferenceIdeal : Cert.DWDownReferenceIdeal.Facts] : Prop :=
  ∀ (m : (ℓ : Loc Cert.DWDownReferenceIdeal.nD Cert.DWDownReferenceIdeal.τ Cert.DWDownReferenceIdeal.sig) → Buf (Elt Ideal) ℓ) (g : Dev Cert.DWDownReferenceIdeal.nD → PrngReg), Pre_DWDownReferenceIdeal m →
    θ_run (Cert.DWDownReferenceIdeal.defs (F := Ideal)) (onTc (τ := Cert.DWDownReferenceIdeal.τ) (Cert.DWDownReferenceIdeal.main (F := Ideal))) ⟨m, fun _ => 0, g⟩ (fun r => (∀ c : Dev Cert.DWDownReferenceIdeal.nD,
      r.2.mem ((c.tc : Thread Cert.DWDownReferenceIdeal.nD Cert.DWDownReferenceIdeal.τ).loc Cert.DWDownReferenceIdeal.main_arg0) = m ((c.tc : Thread Cert.DWDownReferenceIdeal.nD Cert.DWDownReferenceIdeal.τ).loc Cert.DWDownReferenceIdeal.main_arg0)
      ∧ r.2.mem ((c.tc : Thread Cert.DWDownReferenceIdeal.nD Cert.DWDownReferenceIdeal.τ).loc Cert.DWDownReferenceIdeal.main_arg1) = m ((c.tc : Thread Cert.DWDownReferenceIdeal.nD Cert.DWDownReferenceIdeal.τ).loc Cert.DWDownReferenceIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActReferenceIdeal [hDActReferenceIdeal : Cert.DActReferenceIdeal.Facts] : Prop :=
  ∀ (m : (ℓ : Loc Cert.DActReferenceIdeal.nD Cert.DActReferenceIdeal.τ Cert.DActReferenceIdeal.sig) → Buf (Elt Ideal) ℓ) (g : Dev Cert.DActReferenceIdeal.nD → PrngReg), Pre_DActReferenceIdeal m →
    θ_run (Cert.DActReferenceIdeal.defs (F := Ideal)) (onTc (τ := Cert.DActReferenceIdeal.τ) (Cert.DActReferenceIdeal.main (F := Ideal))) ⟨m, fun _ => 0, g⟩ (fun r => (∀ c : Dev Cert.DActReferenceIdeal.nD,
      r.2.mem ((c.tc : Thread Cert.DActReferenceIdeal.nD Cert.DActReferenceIdeal.τ).loc Cert.DActReferenceIdeal.main_arg0) = m ((c.tc : Thread Cert.DActReferenceIdeal.nD Cert.DActReferenceIdeal.τ).loc Cert.DActReferenceIdeal.main_arg0)
      ∧ r.2.mem ((c.tc : Thread Cert.DActReferenceIdeal.nD Cert.DActReferenceIdeal.τ).loc Cert.DActReferenceIdeal.main_arg1) = m ((c.tc : Thread Cert.DActReferenceIdeal.nD Cert.DActReferenceIdeal.τ).loc Cert.DActReferenceIdeal.main_arg1))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutReferenceIdeal [hDWOutReferenceIdeal : Cert.DWOutReferenceIdeal.Facts] : Prop :=
  ∀ (m : (ℓ : Loc Cert.DWOutReferenceIdeal.nD Cert.DWOutReferenceIdeal.τ Cert.DWOutReferenceIdeal.sig) → Buf (Elt Ideal) ℓ) (g : Dev Cert.DWOutReferenceIdeal.nD → PrngReg), Pre_DWOutReferenceIdeal m →
    θ_run (Cert.DWOutReferenceIdeal.defs (F := Ideal)) (onTc (τ := Cert.DWOutReferenceIdeal.τ) (Cert.DWOutReferenceIdeal.main (F := Ideal))) ⟨m, fun _ => 0, g⟩ (fun r => (∀ c : Dev Cert.DWOutReferenceIdeal.nD,
      r.2.mem ((c.tc : Thread Cert.DWOutReferenceIdeal.nD Cert.DWOutReferenceIdeal.τ).loc Cert.DWOutReferenceIdeal.main_arg0) = m ((c.tc : Thread Cert.DWOutReferenceIdeal.nD Cert.DWOutReferenceIdeal.τ).loc Cert.DWOutReferenceIdeal.main_arg0)
      ∧ r.2.mem ((c.tc : Thread Cert.DWOutReferenceIdeal.nD Cert.DWOutReferenceIdeal.τ).loc Cert.DWOutReferenceIdeal.main_arg1) = m ((c.tc : Thread Cert.DWOutReferenceIdeal.nD Cert.DWOutReferenceIdeal.τ).loc Cert.DWOutReferenceIdeal.main_arg1))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInReferenceIdeal [hDWInReferenceIdeal : Cert.DWInReferenceIdeal.Facts] : Prop :=
  ∀ (m : (ℓ : Loc Cert.DWInReferenceIdeal.nD Cert.DWInReferenceIdeal.τ Cert.DWInReferenceIdeal.sig) → Buf (Elt Ideal) ℓ) (g : Dev Cert.DWInReferenceIdeal.nD → PrngReg), Pre_DWInReferenceIdeal m →
    θ_run (Cert.DWInReferenceIdeal.defs (F := Ideal)) (onTc (τ := Cert.DWInReferenceIdeal.τ) (Cert.DWInReferenceIdeal.main (F := Ideal))) ⟨m, fun _ => 0, g⟩ (fun r => (∀ c : Dev Cert.DWInReferenceIdeal.nD,
      r.2.mem ((c.tc : Thread Cert.DWInReferenceIdeal.nD Cert.DWInReferenceIdeal.τ).loc Cert.DWInReferenceIdeal.main_arg0) = m ((c.tc : Thread Cert.DWInReferenceIdeal.nD Cert.DWInReferenceIdeal.τ).loc Cert.DWInReferenceIdeal.main_arg0)
      ∧ r.2.mem ((c.tc : Thread Cert.DWInReferenceIdeal.nD Cert.DWInReferenceIdeal.τ).loc Cert.DWInReferenceIdeal.main_arg1) = m ((c.tc : Thread Cert.DWInReferenceIdeal.nD Cert.DWInReferenceIdeal.τ).loc Cert.DWInReferenceIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHReferenceIdeal [hDHReferenceIdeal : Cert.DHReferenceIdeal.Facts] : Prop :=
  ∀ (m : (ℓ : Loc Cert.DHReferenceIdeal.nD Cert.DHReferenceIdeal.τ Cert.DHReferenceIdeal.sig) → Buf (Elt Ideal) ℓ) (g : Dev Cert.DHReferenceIdeal.nD → PrngReg), Pre_DHReferenceIdeal m →
    θ_run (Cert.DHReferenceIdeal.defs (F := Ideal)) (onTc (τ := Cert.DHReferenceIdeal.τ) (Cert.DHReferenceIdeal.main (F := Ideal))) ⟨m, fun _ => 0, g⟩ (fun r => (∀ c : Dev Cert.DHReferenceIdeal.nD,
      r.2.mem ((c.tc : Thread Cert.DHReferenceIdeal.nD Cert.DHReferenceIdeal.τ).loc Cert.DHReferenceIdeal.main_arg0) = m ((c.tc : Thread Cert.DHReferenceIdeal.nD Cert.DHReferenceIdeal.τ).loc Cert.DHReferenceIdeal.main_arg0)
      ∧ r.2.mem ((c.tc : Thread Cert.DHReferenceIdeal.nD Cert.DHReferenceIdeal.τ).loc Cert.DHReferenceIdeal.main_arg1) = m ((c.tc : Thread Cert.DHReferenceIdeal.nD Cert.DHReferenceIdeal.τ).loc Cert.DHReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7)
      ∧ r.2.mem ((c.tc : Thread Cert.MixOutReferenceIdeal.nD Cert.MixOutReferenceIdeal.τ).loc Cert.MixOutReferenceIdeal.main_arg8) = m ((c.tc : Thread Cert.MixOutReferenceIdeal.nD Cert.MixOutReferenceIdeal.τ).loc Cert.MixOutReferenceIdeal.main_arg8))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ r.2.sem = fun _ => 0)

def quiescent_DownLossReferenceIdeal [hDownLossReferenceIdeal : Cert.DownLossReferenceIdeal.Facts] : Prop :=
  ∀ (m : (ℓ : Loc Cert.DownLossReferenceIdeal.nD Cert.DownLossReferenceIdeal.τ Cert.DownLossReferenceIdeal.sig) → Buf (Elt Ideal) ℓ) (g : Dev Cert.DownLossReferenceIdeal.nD → PrngReg), Pre_DownLossReferenceIdeal m →
    θ_run (Cert.DownLossReferenceIdeal.defs (F := Ideal)) (onTc (τ := Cert.DownLossReferenceIdeal.τ) (Cert.DownLossReferenceIdeal.main (F := Ideal))) ⟨m, fun _ => 0, g⟩ (fun r => (∀ c : Dev Cert.DownLossReferenceIdeal.nD,
      r.2.mem ((c.tc : Thread Cert.DownLossReferenceIdeal.nD Cert.DownLossReferenceIdeal.τ).loc Cert.DownLossReferenceIdeal.main_arg0) = m ((c.tc : Thread Cert.DownLossReferenceIdeal.nD Cert.DownLossReferenceIdeal.τ).loc Cert.DownLossReferenceIdeal.main_arg0)
      ∧ r.2.mem ((c.tc : Thread Cert.DownLossReferenceIdeal.nD Cert.DownLossReferenceIdeal.τ).loc Cert.DownLossReferenceIdeal.main_arg1) = m ((c.tc : Thread Cert.DownLossReferenceIdeal.nD Cert.DownLossReferenceIdeal.τ).loc Cert.DownLossReferenceIdeal.main_arg1)
      ∧ r.2.mem ((c.tc : Thread Cert.DownLossReferenceIdeal.nD Cert.DownLossReferenceIdeal.τ).loc Cert.DownLossReferenceIdeal.main_arg2) = m ((c.tc : Thread Cert.DownLossReferenceIdeal.nD Cert.DownLossReferenceIdeal.τ).loc Cert.DownLossReferenceIdeal.main_arg2)
      ∧ r.2.mem ((c.tc : Thread Cert.DownLossReferenceIdeal.nD Cert.DownLossReferenceIdeal.τ).loc Cert.DownLossReferenceIdeal.main_arg3) = m ((c.tc : Thread Cert.DownLossReferenceIdeal.nD Cert.DownLossReferenceIdeal.τ).loc Cert.DownLossReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_InNormBwd [hInNormBwd : Cert.InNormBwd.Facts] : Prop :=
  ∀ (m : (ℓ : Loc Cert.InNormBwd.nD Cert.InNormBwd.τ Cert.InNormBwd.sig) → Buf (Elt Bits) ℓ) (g : Dev Cert.InNormBwd.nD → PrngReg), Pre_InNormBwd m →
    θ_run (Cert.InNormBwd.defs (F := Bits)) (onTc (τ := Cert.InNormBwd.τ) (Cert.InNormBwd.main (F := Bits))) ⟨m, fun _ => 0, g⟩ (fun r => (∀ c : Dev Cert.InNormBwd.nD,
      r.2.mem ((c.tc : Thread Cert.InNormBwd.nD Cert.InNormBwd.τ).loc Cert.InNormBwd.main_arg0) = m ((c.tc : Thread Cert.InNormBwd.nD Cert.InNormBwd.τ).loc Cert.InNormBwd.main_arg0)
      ∧ r.2.mem ((c.tc : Thread Cert.InNormBwd.nD Cert.InNormBwd.τ).loc Cert.InNormBwd.main_arg1) = m ((c.tc : Thread Cert.InNormBwd.nD Cert.InNormBwd.τ).loc Cert.InNormBwd.main_arg1)
      ∧ r.2.mem ((c.tc : Thread Cert.InNormBwd.nD Cert.InNormBwd.τ).loc Cert.InNormBwd.main_arg2) = m ((c.tc : Thread Cert.InNormBwd.nD Cert.InNormBwd.τ).loc Cert.InNormBwd.main_arg2)
      ∧ r.2.mem ((c.tc : Thread Cert.InNormBwd.nD Cert.InNormBwd.τ).loc Cert.InNormBwd.main_arg3) = m ((c.tc : Thread Cert.InNormBwd.nD Cert.InNormBwd.τ).loc Cert.InNormBwd.main_arg3))
      ∧ r.2.sem = fun _ => 0)

def quiescent_InNormBwdIdeal [hInNormBwdIdeal : Cert.InNormBwdIdeal.Facts] : Prop :=
  ∀ (m : (ℓ : Loc Cert.InNormBwdIdeal.nD Cert.InNormBwdIdeal.τ Cert.InNormBwdIdeal.sig) → Buf (Elt Ideal) ℓ) (g : Dev Cert.InNormBwdIdeal.nD → PrngReg), Pre_InNormBwdIdeal m →
    θ_run (Cert.InNormBwdIdeal.defs (F := Ideal)) (onTc (τ := Cert.InNormBwdIdeal.τ) (Cert.InNormBwdIdeal.main (F := Ideal))) ⟨m, fun _ => 0, g⟩ (fun r => (∀ c : Dev Cert.InNormBwdIdeal.nD,
      r.2.mem ((c.tc : Thread Cert.InNormBwdIdeal.nD Cert.InNormBwdIdeal.τ).loc Cert.InNormBwdIdeal.main_arg0) = m ((c.tc : Thread Cert.InNormBwdIdeal.nD Cert.InNormBwdIdeal.τ).loc Cert.InNormBwdIdeal.main_arg0)
      ∧ r.2.mem ((c.tc : Thread Cert.InNormBwdIdeal.nD Cert.InNormBwdIdeal.τ).loc Cert.InNormBwdIdeal.main_arg1) = m ((c.tc : Thread Cert.InNormBwdIdeal.nD Cert.InNormBwdIdeal.τ).loc Cert.InNormBwdIdeal.main_arg1)
      ∧ r.2.mem ((c.tc : Thread Cert.InNormBwdIdeal.nD Cert.InNormBwdIdeal.τ).loc Cert.InNormBwdIdeal.main_arg2) = m ((c.tc : Thread Cert.InNormBwdIdeal.nD Cert.InNormBwdIdeal.τ).loc Cert.InNormBwdIdeal.main_arg2)
      ∧ r.2.mem ((c.tc : Thread Cert.InNormBwdIdeal.nD Cert.InNormBwdIdeal.τ).loc Cert.InNormBwdIdeal.main_arg3) = m ((c.tc : Thread Cert.InNormBwdIdeal.nD Cert.InNormBwdIdeal.τ).loc Cert.InNormBwdIdeal.main_arg3))
      ∧ r.2.sem = fun _ => 0)

def quiescent_InNormBwdReferenceIdeal [hInNormBwdReferenceIdeal : Cert.InNormBwdReferenceIdeal.Facts] : Prop :=
  ∀ (m : (ℓ : Loc Cert.InNormBwdReferenceIdeal.nD Cert.InNormBwdReferenceIdeal.τ Cert.InNormBwdReferenceIdeal.sig) → Buf (Elt Ideal) ℓ) (g : Dev Cert.InNormBwdReferenceIdeal.nD → PrngReg), Pre_InNormBwdReferenceIdeal m →
    θ_run (Cert.InNormBwdReferenceIdeal.defs (F := Ideal)) (onTc (τ := Cert.InNormBwdReferenceIdeal.τ) (Cert.InNormBwdReferenceIdeal.main (F := Ideal))) ⟨m, fun _ => 0, g⟩ (fun r => (∀ c : Dev Cert.InNormBwdReferenceIdeal.nD,
      r.2.mem ((c.tc : Thread Cert.InNormBwdReferenceIdeal.nD Cert.InNormBwdReferenceIdeal.τ).loc Cert.InNormBwdReferenceIdeal.main_arg0) = m ((c.tc : Thread Cert.InNormBwdReferenceIdeal.nD Cert.InNormBwdReferenceIdeal.τ).loc Cert.InNormBwdReferenceIdeal.main_arg0)
      ∧ r.2.mem ((c.tc : Thread Cert.InNormBwdReferenceIdeal.nD Cert.InNormBwdReferenceIdeal.τ).loc Cert.InNormBwdReferenceIdeal.main_arg1) = m ((c.tc : Thread Cert.InNormBwdReferenceIdeal.nD Cert.InNormBwdReferenceIdeal.τ).loc Cert.InNormBwdReferenceIdeal.main_arg1)
      ∧ r.2.mem ((c.tc : Thread Cert.InNormBwdReferenceIdeal.nD Cert.InNormBwdReferenceIdeal.τ).loc Cert.InNormBwdReferenceIdeal.main_arg2) = m ((c.tc : Thread Cert.InNormBwdReferenceIdeal.nD Cert.InNormBwdReferenceIdeal.τ).loc Cert.InNormBwdReferenceIdeal.main_arg2)
      ∧ r.2.mem ((c.tc : Thread Cert.InNormBwdReferenceIdeal.nD Cert.InNormBwdReferenceIdeal.τ).loc Cert.InNormBwdReferenceIdeal.main_arg3) = m ((c.tc : Thread Cert.InNormBwdReferenceIdeal.nD Cert.InNormBwdReferenceIdeal.τ).loc Cert.InNormBwdReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v2) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_DWUp_DWUpIdeal : Prop :=
  True

def algebraic_DWUpIdeal_DWUpReferenceIdeal [hDWUpIdeal : Cert.DWUpIdeal.Facts] [hDWUpReferenceIdeal : Cert.DWUpReferenceIdeal.Facts] : Prop :=
  ∀ (m : (ℓ : Loc Cert.DWUpIdeal.nD Cert.DWUpIdeal.τ Cert.DWUpIdeal.sig) → Buf (Elt Ideal) ℓ) (g : Dev Cert.DWUpIdeal.nD → PrngReg)
    (m' : (ℓ : Loc Cert.DWUpReferenceIdeal.nD Cert.DWUpReferenceIdeal.τ Cert.DWUpReferenceIdeal.sig) → Buf (Elt Ideal) ℓ) (g' : Dev Cert.DWUpReferenceIdeal.nD → PrngReg), Pre_DWUpIdeal m →
    (∀ c : Dev Cert.DWUpIdeal.nD,
      m' ((c.tc : Thread Cert.DWUpReferenceIdeal.nD Cert.DWUpReferenceIdeal.τ).loc Cert.DWUpReferenceIdeal.main_arg0) = m ((c.tc : Thread Cert.DWUpIdeal.nD Cert.DWUpIdeal.τ).loc Cert.DWUpIdeal.main_arg0)
      ∧ m' ((c.tc : Thread Cert.DWUpReferenceIdeal.nD Cert.DWUpReferenceIdeal.τ).loc Cert.DWUpReferenceIdeal.main_arg1) = m ((c.tc : Thread Cert.DWUpIdeal.nD Cert.DWUpIdeal.τ).loc Cert.DWUpIdeal.main_arg1)) →
    ∃ (v0 : (c : Dev Cert.DWUpIdeal.nD) → Buf (Elt Ideal) ((c.tc : Thread Cert.DWUpIdeal.nD Cert.DWUpIdeal.τ).loc Cert.DWUpIdeal.main_v0)),
      θ_run (Cert.DWUpIdeal.defs (F := Ideal)) (onTc (τ := Cert.DWUpIdeal.τ) (Cert.DWUpIdeal.main (F := Ideal))) ⟨m, fun _ => 0, g⟩ (fun r => ∀ c : Dev Cert.DWUpIdeal.nD,
          r.2.mem ((c.tc : Thread Cert.DWUpIdeal.nD Cert.DWUpIdeal.τ).loc Cert.DWUpIdeal.main_v0) = v0 c
          ∧ r.2.mem ((c.tc : Thread Cert.DWUpIdeal.nD Cert.DWUpIdeal.τ).loc Cert.DWUpIdeal.main_arg0) = m ((c.tc : Thread Cert.DWUpIdeal.nD Cert.DWUpIdeal.τ).loc Cert.DWUpIdeal.main_arg0)
          ∧ r.2.mem ((c.tc : Thread Cert.DWUpIdeal.nD Cert.DWUpIdeal.τ).loc Cert.DWUpIdeal.main_arg1) = m ((c.tc : Thread Cert.DWUpIdeal.nD Cert.DWUpIdeal.τ).loc Cert.DWUpIdeal.main_arg1))
      ∧ θ_run (Cert.DWUpReferenceIdeal.defs (F := Ideal)) (onTc (τ := Cert.DWUpReferenceIdeal.τ) (Cert.DWUpReferenceIdeal.main (F := Ideal))) ⟨m', fun _ => 0, g'⟩ (fun r => ∀ c : Dev Cert.DWUpReferenceIdeal.nD,
          r.2.mem ((c.tc : Thread Cert.DWUpReferenceIdeal.nD Cert.DWUpReferenceIdeal.τ).loc Cert.DWUpReferenceIdeal.main_v10) = v0 c
          ∧ r.2.mem ((c.tc : Thread Cert.DWUpReferenceIdeal.nD Cert.DWUpReferenceIdeal.τ).loc Cert.DWUpReferenceIdeal.main_arg0) = m' ((c.tc : Thread Cert.DWUpReferenceIdeal.nD Cert.DWUpReferenceIdeal.τ).loc Cert.DWUpReferenceIdeal.main_arg0)
          ∧ r.2.mem ((c.tc : Thread Cert.DWUpReferenceIdeal.nD Cert.DWUpReferenceIdeal.τ).loc Cert.DWUpReferenceIdeal.main_arg1) = m' ((c.tc : Thread Cert.DWUpReferenceIdeal.nD Cert.DWUpReferenceIdeal.τ).loc Cert.DWUpReferenceIdeal.main_arg1))

def preserves_DH2_DH2Ideal : Prop :=
  True

def algebraic_DH2Ideal_DH2ReferenceIdeal [hDH2Ideal : Cert.DH2Ideal.Facts] [hDH2ReferenceIdeal : Cert.DH2ReferenceIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2ReferenceIdeal.nD Cert.DH2ReferenceIdeal.τ Cert.DH2ReferenceIdeal.sig) → Buf (Elt Ideal) ℓ) (g' : Dev Cert.DH2ReferenceIdeal.nD → PrngReg), Pre_DH2Ideal m →
    (∀ c : Dev Cert.DH2Ideal.nD,
      m' ((c.tc : Thread Cert.DH2ReferenceIdeal.nD Cert.DH2ReferenceIdeal.τ).loc Cert.DH2ReferenceIdeal.main_arg0) = m ((c.tc : Thread Cert.DH2Ideal.nD Cert.DH2Ideal.τ).loc Cert.DH2Ideal.main_arg0)
      ∧ m' ((c.tc : Thread Cert.DH2ReferenceIdeal.nD Cert.DH2ReferenceIdeal.τ).loc Cert.DH2ReferenceIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2ReferenceIdeal.defs (F := Ideal)) (onTc (τ := Cert.DH2ReferenceIdeal.τ) (Cert.DH2ReferenceIdeal.main (F := Ideal))) ⟨m', fun _ => 0, g'⟩ (fun r => ∀ c : Dev Cert.DH2ReferenceIdeal.nD,
          r.2.mem ((c.tc : Thread Cert.DH2ReferenceIdeal.nD Cert.DH2ReferenceIdeal.τ).loc Cert.DH2ReferenceIdeal.main_v9) = v0 c
          ∧ r.2.mem ((c.tc : Thread Cert.DH2ReferenceIdeal.nD Cert.DH2ReferenceIdeal.τ).loc Cert.DH2ReferenceIdeal.main_arg0) = m' ((c.tc : Thread Cert.DH2ReferenceIdeal.nD Cert.DH2ReferenceIdeal.τ).loc Cert.DH2ReferenceIdeal.main_arg0)
          ∧ r.2.mem ((c.tc : Thread Cert.DH2ReferenceIdeal.nD Cert.DH2ReferenceIdeal.τ).loc Cert.DH2ReferenceIdeal.main_arg1) = m' ((c.tc : Thread Cert.DH2ReferenceIdeal.nD Cert.DH2ReferenceIdeal.τ).loc Cert.DH2ReferenceIdeal.main_arg1))

def preserves_DWDown_DWDownIdeal : Prop :=
  True

def algebraic_DWDownIdeal_DWDownReferenceIdeal [hDWDownIdeal : Cert.DWDownIdeal.Facts] [hDWDownReferenceIdeal : Cert.DWDownReferenceIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownReferenceIdeal.nD Cert.DWDownReferenceIdeal.τ Cert.DWDownReferenceIdeal.sig) → Buf (Elt Ideal) ℓ) (g' : Dev Cert.DWDownReferenceIdeal.nD → PrngReg), Pre_DWDownIdeal m →
    (∀ c : Dev Cert.DWDownIdeal.nD,
      m' ((c.tc : Thread Cert.DWDownReferenceIdeal.nD Cert.DWDownReferenceIdeal.τ).loc Cert.DWDownReferenceIdeal.main_arg0) = m ((c.tc : Thread Cert.DWDownIdeal.nD Cert.DWDownIdeal.τ).loc Cert.DWDownIdeal.main_arg0)
      ∧ m' ((c.tc : Thread Cert.DWDownReferenceIdeal.nD Cert.DWDownReferenceIdeal.τ).loc Cert.DWDownReferenceIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v0)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v0) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownReferenceIdeal.defs (F := Ideal)) (onTc (τ := Cert.DWDownReferenceIdeal.τ) (Cert.DWDownReferenceIdeal.main (F := Ideal))) ⟨m', fun _ => 0, g'⟩ (fun r => ∀ c : Dev Cert.DWDownReferenceIdeal.nD,
          r.2.mem ((c.tc : Thread Cert.DWDownReferenceIdeal.nD Cert.DWDownReferenceIdeal.τ).loc Cert.DWDownReferenceIdeal.main_v5) = v0 c
          ∧ r.2.mem ((c.tc : Thread Cert.DWDownReferenceIdeal.nD Cert.DWDownReferenceIdeal.τ).loc Cert.DWDownReferenceIdeal.main_arg0) = m' ((c.tc : Thread Cert.DWDownReferenceIdeal.nD Cert.DWDownReferenceIdeal.τ).loc Cert.DWDownReferenceIdeal.main_arg0)
          ∧ r.2.mem ((c.tc : Thread Cert.DWDownReferenceIdeal.nD Cert.DWDownReferenceIdeal.τ).loc Cert.DWDownReferenceIdeal.main_arg1) = m' ((c.tc : Thread Cert.DWDownReferenceIdeal.nD Cert.DWDownReferenceIdeal.τ).loc Cert.DWDownReferenceIdeal.main_arg1))

def preserves_DAct_DActIdeal : Prop :=
  True

def algebraic_DActIdeal_DActReferenceIdeal [hDActIdeal : Cert.DActIdeal.Facts] [hDActReferenceIdeal : Cert.DActReferenceIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DActIdeal m →
    (∀ c : Dev Cert.DActIdeal.nD,
      m' ((c.tc : Thread Cert.DActReferenceIdeal.nD Cert.DActReferenceIdeal.τ).loc Cert.DActReferenceIdeal.main_arg0) = m ((c.tc : Thread Cert.DActIdeal.nD Cert.DActIdeal.τ).loc Cert.DActIdeal.main_arg0)
      ∧ m' ((c.tc : Thread Cert.DActReferenceIdeal.nD Cert.DActReferenceIdeal.τ).loc Cert.DActReferenceIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v4) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1))

def preserves_DWOut_DWOutIdeal : Prop :=
  True

def algebraic_DWOutIdeal_DWOutReferenceIdeal [hDWOutIdeal : Cert.DWOutIdeal.Facts] [hDWOutReferenceIdeal : Cert.DWOutReferenceIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutReferenceIdeal.nD Cert.DWOutReferenceIdeal.τ Cert.DWOutReferenceIdeal.sig) → Buf (Elt Ideal) ℓ) (g' : Dev Cert.DWOutReferenceIdeal.nD → PrngReg), Pre_DWOutIdeal m →
    (∀ c : Dev Cert.DWOutIdeal.nD,
      m' ((c.tc : Thread Cert.DWOutReferenceIdeal.nD Cert.DWOutReferenceIdeal.τ).loc Cert.DWOutReferenceIdeal.main_arg0) = m ((c.tc : Thread Cert.DWOutIdeal.nD Cert.DWOutIdeal.τ).loc Cert.DWOutIdeal.main_arg0)
      ∧ m' ((c.tc : Thread Cert.DWOutReferenceIdeal.nD Cert.DWOutReferenceIdeal.τ).loc Cert.DWOutReferenceIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v0)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v0) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutReferenceIdeal.defs (F := Ideal)) (onTc (τ := Cert.DWOutReferenceIdeal.τ) (Cert.DWOutReferenceIdeal.main (F := Ideal))) ⟨m', fun _ => 0, g'⟩ (fun r => ∀ c : Dev Cert.DWOutReferenceIdeal.nD,
          r.2.mem ((c.tc : Thread Cert.DWOutReferenceIdeal.nD Cert.DWOutReferenceIdeal.τ).loc Cert.DWOutReferenceIdeal.main_v5) = v0 c
          ∧ r.2.mem ((c.tc : Thread Cert.DWOutReferenceIdeal.nD Cert.DWOutReferenceIdeal.τ).loc Cert.DWOutReferenceIdeal.main_arg0) = m' ((c.tc : Thread Cert.DWOutReferenceIdeal.nD Cert.DWOutReferenceIdeal.τ).loc Cert.DWOutReferenceIdeal.main_arg0)
          ∧ r.2.mem ((c.tc : Thread Cert.DWOutReferenceIdeal.nD Cert.DWOutReferenceIdeal.τ).loc Cert.DWOutReferenceIdeal.main_arg1) = m' ((c.tc : Thread Cert.DWOutReferenceIdeal.nD Cert.DWOutReferenceIdeal.τ).loc Cert.DWOutReferenceIdeal.main_arg1))

def preserves_DWIn_DWInIdeal : Prop :=
  True

def algebraic_DWInIdeal_DWInReferenceIdeal [hDWInIdeal : Cert.DWInIdeal.Facts] [hDWInReferenceIdeal : Cert.DWInReferenceIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInReferenceIdeal.nD Cert.DWInReferenceIdeal.τ Cert.DWInReferenceIdeal.sig) → Buf (Elt Ideal) ℓ) (g' : Dev Cert.DWInReferenceIdeal.nD → PrngReg), Pre_DWInIdeal m →
    (∀ c : Dev Cert.DWInIdeal.nD,
      m' ((c.tc : Thread Cert.DWInReferenceIdeal.nD Cert.DWInReferenceIdeal.τ).loc Cert.DWInReferenceIdeal.main_arg0) = m ((c.tc : Thread Cert.DWInIdeal.nD Cert.DWInIdeal.τ).loc Cert.DWInIdeal.main_arg0)
      ∧ m' ((c.tc : Thread Cert.DWInReferenceIdeal.nD Cert.DWInReferenceIdeal.τ).loc Cert.DWInReferenceIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInReferenceIdeal.defs (F := Ideal)) (onTc (τ := Cert.DWInReferenceIdeal.τ) (Cert.DWInReferenceIdeal.main (F := Ideal))) ⟨m', fun _ => 0, g'⟩ (fun r => ∀ c : Dev Cert.DWInReferenceIdeal.nD,
          r.2.mem ((c.tc : Thread Cert.DWInReferenceIdeal.nD Cert.DWInReferenceIdeal.τ).loc Cert.DWInReferenceIdeal.main_v5) = v0 c
          ∧ r.2.mem ((c.tc : Thread Cert.DWInReferenceIdeal.nD Cert.DWInReferenceIdeal.τ).loc Cert.DWInReferenceIdeal.main_arg0) = m' ((c.tc : Thread Cert.DWInReferenceIdeal.nD Cert.DWInReferenceIdeal.τ).loc Cert.DWInReferenceIdeal.main_arg0)
          ∧ r.2.mem ((c.tc : Thread Cert.DWInReferenceIdeal.nD Cert.DWInReferenceIdeal.τ).loc Cert.DWInReferenceIdeal.main_arg1) = m' ((c.tc : Thread Cert.DWInReferenceIdeal.nD Cert.DWInReferenceIdeal.τ).loc Cert.DWInReferenceIdeal.main_arg1))

def preserves_DH_DHIdeal : Prop :=
  True

def algebraic_DHIdeal_DHReferenceIdeal [hDHIdeal : Cert.DHIdeal.Facts] [hDHReferenceIdeal : Cert.DHReferenceIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHReferenceIdeal.nD Cert.DHReferenceIdeal.τ Cert.DHReferenceIdeal.sig) → Buf (Elt Ideal) ℓ) (g' : Dev Cert.DHReferenceIdeal.nD → PrngReg), Pre_DHIdeal m →
    (∀ c : Dev Cert.DHIdeal.nD,
      m' ((c.tc : Thread Cert.DHReferenceIdeal.nD Cert.DHReferenceIdeal.τ).loc Cert.DHReferenceIdeal.main_arg0) = m ((c.tc : Thread Cert.DHIdeal.nD Cert.DHIdeal.τ).loc Cert.DHIdeal.main_arg0)
      ∧ m' ((c.tc : Thread Cert.DHReferenceIdeal.nD Cert.DHReferenceIdeal.τ).loc Cert.DHReferenceIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHReferenceIdeal.defs (F := Ideal)) (onTc (τ := Cert.DHReferenceIdeal.τ) (Cert.DHReferenceIdeal.main (F := Ideal))) ⟨m', fun _ => 0, g'⟩ (fun r => ∀ c : Dev Cert.DHReferenceIdeal.nD,
          r.2.mem ((c.tc : Thread Cert.DHReferenceIdeal.nD Cert.DHReferenceIdeal.τ).loc Cert.DHReferenceIdeal.main_v4) = v0 c
          ∧ r.2.mem ((c.tc : Thread Cert.DHReferenceIdeal.nD Cert.DHReferenceIdeal.τ).loc Cert.DHReferenceIdeal.main_arg0) = m' ((c.tc : Thread Cert.DHReferenceIdeal.nD Cert.DHReferenceIdeal.τ).loc Cert.DHReferenceIdeal.main_arg0)
          ∧ r.2.mem ((c.tc : Thread Cert.DHReferenceIdeal.nD Cert.DHReferenceIdeal.τ).loc Cert.DHReferenceIdeal.main_arg1) = m' ((c.tc : Thread Cert.DHReferenceIdeal.nD Cert.DHReferenceIdeal.τ).loc Cert.DHReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v12) = v0 c
          ∧ r.2.mem ((c.tc : Thread Cert.InProjReferenceIdeal.nD Cert.InProjReferenceIdeal.τ).loc Cert.InProjReferenceIdeal.main_v14) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)
      ∧ m' ((c.tc : Thread Cert.MixOutReferenceIdeal.nD Cert.MixOutReferenceIdeal.τ).loc Cert.MixOutReferenceIdeal.main_arg7) = m ((c.tc : Thread Cert.MixOutIdeal.nD Cert.MixOutIdeal.τ).loc Cert.MixOutIdeal.main_arg7)
      ∧ m' ((c.tc : Thread Cert.MixOutReferenceIdeal.nD Cert.MixOutReferenceIdeal.τ).loc Cert.MixOutReferenceIdeal.main_arg8) = m ((c.tc : Thread Cert.MixOutIdeal.nD Cert.MixOutIdeal.τ).loc Cert.MixOutIdeal.main_arg8)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v53) = v0 c
          ∧ r.2.mem ((c.tc : Thread Cert.MixOutReferenceIdeal.nD Cert.MixOutReferenceIdeal.τ).loc Cert.MixOutReferenceIdeal.main_v54) = v1 c
          ∧ r.2.mem ((c.tc : Thread Cert.MixOutReferenceIdeal.nD Cert.MixOutReferenceIdeal.τ).loc Cert.MixOutReferenceIdeal.main_v67) = v2 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6)
          ∧ r.2.mem ((c.tc : Thread Cert.MixOutReferenceIdeal.nD Cert.MixOutReferenceIdeal.τ).loc Cert.MixOutReferenceIdeal.main_arg7) = m' ((c.tc : Thread Cert.MixOutReferenceIdeal.nD Cert.MixOutReferenceIdeal.τ).loc Cert.MixOutReferenceIdeal.main_arg7)
          ∧ r.2.mem ((c.tc : Thread Cert.MixOutReferenceIdeal.nD Cert.MixOutReferenceIdeal.τ).loc Cert.MixOutReferenceIdeal.main_arg8) = m' ((c.tc : Thread Cert.MixOutReferenceIdeal.nD Cert.MixOutReferenceIdeal.τ).loc Cert.MixOutReferenceIdeal.main_arg8))

def preserves_DownLoss_DownLossIdeal : Prop :=
  True

def algebraic_DownLossIdeal_DownLossReferenceIdeal [hDownLossIdeal : Cert.DownLossIdeal.Facts] [hDownLossReferenceIdeal : Cert.DownLossReferenceIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossReferenceIdeal.nD Cert.DownLossReferenceIdeal.τ Cert.DownLossReferenceIdeal.sig) → Buf (Elt Ideal) ℓ) (g' : Dev Cert.DownLossReferenceIdeal.nD → PrngReg), Pre_DownLossIdeal m →
    (∀ c : Dev Cert.DownLossIdeal.nD,
      m' ((c.tc : Thread Cert.DownLossReferenceIdeal.nD Cert.DownLossReferenceIdeal.τ).loc Cert.DownLossReferenceIdeal.main_arg0) = m ((c.tc : Thread Cert.DownLossIdeal.nD Cert.DownLossIdeal.τ).loc Cert.DownLossIdeal.main_arg0)
      ∧ m' ((c.tc : Thread Cert.DownLossReferenceIdeal.nD Cert.DownLossReferenceIdeal.τ).loc Cert.DownLossReferenceIdeal.main_arg1) = m ((c.tc : Thread Cert.DownLossIdeal.nD Cert.DownLossIdeal.τ).loc Cert.DownLossIdeal.main_arg1)
      ∧ m' ((c.tc : Thread Cert.DownLossReferenceIdeal.nD Cert.DownLossReferenceIdeal.τ).loc Cert.DownLossReferenceIdeal.main_arg2) = m ((c.tc : Thread Cert.DownLossIdeal.nD Cert.DownLossIdeal.τ).loc Cert.DownLossIdeal.main_arg2)
      ∧ m' ((c.tc : Thread Cert.DownLossReferenceIdeal.nD Cert.DownLossReferenceIdeal.τ).loc Cert.DownLossReferenceIdeal.main_arg3) = m ((c.tc : Thread Cert.DownLossIdeal.nD Cert.DownLossIdeal.τ).loc Cert.DownLossIdeal.main_arg3)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3))
      ∧ θ_run (Cert.DownLossReferenceIdeal.defs (F := Ideal)) (onTc (τ := Cert.DownLossReferenceIdeal.τ) (Cert.DownLossReferenceIdeal.main (F := Ideal))) ⟨m', fun _ => 0, g'⟩ (fun r => ∀ c : Dev Cert.DownLossReferenceIdeal.nD,
          r.2.mem ((c.tc : Thread Cert.DownLossReferenceIdeal.nD Cert.DownLossReferenceIdeal.τ).loc Cert.DownLossReferenceIdeal.main_v18) = v0 c
          ∧ r.2.mem ((c.tc : Thread Cert.DownLossReferenceIdeal.nD Cert.DownLossReferenceIdeal.τ).loc Cert.DownLossReferenceIdeal.main_v19) = v1 c
          ∧ r.2.mem ((c.tc : Thread Cert.DownLossReferenceIdeal.nD Cert.DownLossReferenceIdeal.τ).loc Cert.DownLossReferenceIdeal.main_v20) = v2 c
          ∧ r.2.mem ((c.tc : Thread Cert.DownLossReferenceIdeal.nD Cert.DownLossReferenceIdeal.τ).loc Cert.DownLossReferenceIdeal.main_arg0) = m' ((c.tc : Thread Cert.DownLossReferenceIdeal.nD Cert.DownLossReferenceIdeal.τ).loc Cert.DownLossReferenceIdeal.main_arg0)
          ∧ r.2.mem ((c.tc : Thread Cert.DownLossReferenceIdeal.nD Cert.DownLossReferenceIdeal.τ).loc Cert.DownLossReferenceIdeal.main_arg1) = m' ((c.tc : Thread Cert.DownLossReferenceIdeal.nD Cert.DownLossReferenceIdeal.τ).loc Cert.DownLossReferenceIdeal.main_arg1)
          ∧ r.2.mem ((c.tc : Thread Cert.DownLossReferenceIdeal.nD Cert.DownLossReferenceIdeal.τ).loc Cert.DownLossReferenceIdeal.main_arg2) = m' ((c.tc : Thread Cert.DownLossReferenceIdeal.nD Cert.DownLossReferenceIdeal.τ).loc Cert.DownLossReferenceIdeal.main_arg2)
          ∧ r.2.mem ((c.tc : Thread Cert.DownLossReferenceIdeal.nD Cert.DownLossReferenceIdeal.τ).loc Cert.DownLossReferenceIdeal.main_arg3) = m' ((c.tc : Thread Cert.DownLossReferenceIdeal.nD Cert.DownLossReferenceIdeal.τ).loc Cert.DownLossReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v23) = v0 c
          ∧ r.2.mem ((c.tc : Thread Cert.AdamInReferenceIdeal.nD Cert.AdamInReferenceIdeal.τ).loc Cert.AdamInReferenceIdeal.main_v4) = v1 c
          ∧ r.2.mem ((c.tc : Thread Cert.AdamInReferenceIdeal.nD Cert.AdamInReferenceIdeal.τ).loc Cert.AdamInReferenceIdeal.main_v10) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamGlu_AdamGluIdeal : Prop :=
  True

def algebraic_AdamGluIdeal_AdamGluReferenceIdeal [hAdamGluIdeal : Cert.AdamGluIdeal.Facts] [hAdamGluReferenceIdeal : Cert.AdamGluReferenceIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluIdeal m →
    (∀ c : Dev Cert.AdamGluIdeal.nD,
      m' ((c.tc : Thread Cert.AdamGluReferenceIdeal.nD Cert.AdamGluReferenceIdeal.τ).loc Cert.AdamGluReferenceIdeal.main_arg0) = m ((c.tc : Thread Cert.AdamGluIdeal.nD Cert.AdamGluIdeal.τ).loc Cert.AdamGluIdeal.main_arg0)
      ∧ m' ((c.tc : Thread Cert.AdamGluReferenceIdeal.nD Cert.AdamGluReferenceIdeal.τ).loc Cert.AdamGluReferenceIdeal.main_arg1) = m ((c.tc : Thread Cert.AdamGluIdeal.nD Cert.AdamGluIdeal.τ).loc Cert.AdamGluIdeal.main_arg1)
      ∧ m' ((c.tc : Thread Cert.AdamGluReferenceIdeal.nD Cert.AdamGluReferenceIdeal.τ).loc Cert.AdamGluReferenceIdeal.main_arg2) = m ((c.tc : Thread Cert.AdamGluIdeal.nD Cert.AdamGluIdeal.τ).loc Cert.AdamGluIdeal.main_arg2)
      ∧ m' ((c.tc : Thread Cert.AdamGluReferenceIdeal.nD Cert.AdamGluReferenceIdeal.τ).loc Cert.AdamGluReferenceIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v23) = v0 c
          ∧ r.2.mem ((c.tc : Thread Cert.AdamGluReferenceIdeal.nD Cert.AdamGluReferenceIdeal.τ).loc Cert.AdamGluReferenceIdeal.main_v4) = v1 c
          ∧ r.2.mem ((c.tc : Thread Cert.AdamGluReferenceIdeal.nD Cert.AdamGluReferenceIdeal.τ).loc Cert.AdamGluReferenceIdeal.main_v10) = v2 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v23) = v0 c
          ∧ r.2.mem ((c.tc : Thread Cert.AdamUpReferenceIdeal.nD Cert.AdamUpReferenceIdeal.τ).loc Cert.AdamUpReferenceIdeal.main_v4) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_InNormBwd_InNormBwdIdeal : Prop :=
  True

def algebraic_InNormBwdIdeal_InNormBwdReferenceIdeal [hInNormBwdIdeal : Cert.InNormBwdIdeal.Facts] [hInNormBwdReferenceIdeal : Cert.InNormBwdReferenceIdeal.Facts] : Prop :=
  ∀ (m : (ℓ : Loc Cert.InNormBwdIdeal.nD Cert.InNormBwdIdeal.τ Cert.InNormBwdIdeal.sig) → Buf (Elt Ideal) ℓ) (g : Dev Cert.InNormBwdIdeal.nD → PrngReg)
    (m' : (ℓ : Loc Cert.InNormBwdReferenceIdeal.nD Cert.InNormBwdReferenceIdeal.τ Cert.InNormBwdReferenceIdeal.sig) → Buf (Elt Ideal) ℓ) (g' : Dev Cert.InNormBwdReferenceIdeal.nD → PrngReg), Pre_InNormBwdIdeal m →
    (∀ c : Dev Cert.InNormBwdIdeal.nD,
      m' ((c.tc : Thread Cert.InNormBwdReferenceIdeal.nD Cert.InNormBwdReferenceIdeal.τ).loc Cert.InNormBwdReferenceIdeal.main_arg0) = m ((c.tc : Thread Cert.InNormBwdIdeal.nD Cert.InNormBwdIdeal.τ).loc Cert.InNormBwdIdeal.main_arg0)
      ∧ m' ((c.tc : Thread Cert.InNormBwdReferenceIdeal.nD Cert.InNormBwdReferenceIdeal.τ).loc Cert.InNormBwdReferenceIdeal.main_arg1) = m ((c.tc : Thread Cert.InNormBwdIdeal.nD Cert.InNormBwdIdeal.τ).loc Cert.InNormBwdIdeal.main_arg1)
      ∧ m' ((c.tc : Thread Cert.InNormBwdReferenceIdeal.nD Cert.InNormBwdReferenceIdeal.τ).loc Cert.InNormBwdReferenceIdeal.main_arg2) = m ((c.tc : Thread Cert.InNormBwdIdeal.nD Cert.InNormBwdIdeal.τ).loc Cert.InNormBwdIdeal.main_arg2)
      ∧ m' ((c.tc : Thread Cert.InNormBwdReferenceIdeal.nD Cert.InNormBwdReferenceIdeal.τ).loc Cert.InNormBwdReferenceIdeal.main_arg3) = m ((c.tc : Thread Cert.InNormBwdIdeal.nD Cert.InNormBwdIdeal.τ).loc Cert.InNormBwdIdeal.main_arg3)) →
    ∃ (v0 : (c : Dev Cert.InNormBwdIdeal.nD) → Buf (Elt Ideal) ((c.tc : Thread Cert.InNormBwdIdeal.nD Cert.InNormBwdIdeal.τ).loc Cert.InNormBwdIdeal.main_v0_0)) (v1 : (c : Dev Cert.InNormBwdIdeal.nD) → Buf (Elt Ideal) ((c.tc : Thread Cert.InNormBwdIdeal.nD Cert.InNormBwdIdeal.τ).loc Cert.InNormBwdIdeal.main_v0_1)),
      θ_run (Cert.InNormBwdIdeal.defs (F := Ideal)) (onTc (τ := Cert.InNormBwdIdeal.τ) (Cert.InNormBwdIdeal.main (F := Ideal))) ⟨m, fun _ => 0, g⟩ (fun r => ∀ c : Dev Cert.InNormBwdIdeal.nD,
          r.2.mem ((c.tc : Thread Cert.InNormBwdIdeal.nD Cert.InNormBwdIdeal.τ).loc Cert.InNormBwdIdeal.main_v0_0) = v0 c
          ∧ r.2.mem ((c.tc : Thread Cert.InNormBwdIdeal.nD Cert.InNormBwdIdeal.τ).loc Cert.InNormBwdIdeal.main_v0_1) = v1 c
          ∧ r.2.mem ((c.tc : Thread Cert.InNormBwdIdeal.nD Cert.InNormBwdIdeal.τ).loc Cert.InNormBwdIdeal.main_arg0) = m ((c.tc : Thread Cert.InNormBwdIdeal.nD Cert.InNormBwdIdeal.τ).loc Cert.InNormBwdIdeal.main_arg0)
          ∧ r.2.mem ((c.tc : Thread Cert.InNormBwdIdeal.nD Cert.InNormBwdIdeal.τ).loc Cert.InNormBwdIdeal.main_arg1) = m ((c.tc : Thread Cert.InNormBwdIdeal.nD Cert.InNormBwdIdeal.τ).loc Cert.InNormBwdIdeal.main_arg1)
          ∧ r.2.mem ((c.tc : Thread Cert.InNormBwdIdeal.nD Cert.InNormBwdIdeal.τ).loc Cert.InNormBwdIdeal.main_arg2) = m ((c.tc : Thread Cert.InNormBwdIdeal.nD Cert.InNormBwdIdeal.τ).loc Cert.InNormBwdIdeal.main_arg2)
          ∧ r.2.mem ((c.tc : Thread Cert.InNormBwdIdeal.nD Cert.InNormBwdIdeal.τ).loc Cert.InNormBwdIdeal.main_arg3) = m ((c.tc : Thread Cert.InNormBwdIdeal.nD Cert.InNormBwdIdeal.τ).loc Cert.InNormBwdIdeal.main_arg3))
      ∧ θ_run (Cert.InNormBwdReferenceIdeal.defs (F := Ideal)) (onTc (τ := Cert.InNormBwdReferenceIdeal.τ) (Cert.InNormBwdReferenceIdeal.main (F := Ideal))) ⟨m', fun _ => 0, g'⟩ (fun r => ∀ c : Dev Cert.InNormBwdReferenceIdeal.nD,
          r.2.mem ((c.tc : Thread Cert.InNormBwdReferenceIdeal.nD Cert.InNormBwdReferenceIdeal.τ).loc Cert.InNormBwdReferenceIdeal.main_v34) = v0 c
          ∧ r.2.mem ((c.tc : Thread Cert.InNormBwdReferenceIdeal.nD Cert.InNormBwdReferenceIdeal.τ).loc Cert.InNormBwdReferenceIdeal.main_v17) = v1 c
          ∧ r.2.mem ((c.tc : Thread Cert.InNormBwdReferenceIdeal.nD Cert.InNormBwdReferenceIdeal.τ).loc Cert.InNormBwdReferenceIdeal.main_arg0) = m' ((c.tc : Thread Cert.InNormBwdReferenceIdeal.nD Cert.InNormBwdReferenceIdeal.τ).loc Cert.InNormBwdReferenceIdeal.main_arg0)
          ∧ r.2.mem ((c.tc : Thread Cert.InNormBwdReferenceIdeal.nD Cert.InNormBwdReferenceIdeal.τ).loc Cert.InNormBwdReferenceIdeal.main_arg1) = m' ((c.tc : Thread Cert.InNormBwdReferenceIdeal.nD Cert.InNormBwdReferenceIdeal.τ).loc Cert.InNormBwdReferenceIdeal.main_arg1)
          ∧ r.2.mem ((c.tc : Thread Cert.InNormBwdReferenceIdeal.nD Cert.InNormBwdReferenceIdeal.τ).loc Cert.InNormBwdReferenceIdeal.main_arg2) = m' ((c.tc : Thread Cert.InNormBwdReferenceIdeal.nD Cert.InNormBwdReferenceIdeal.τ).loc Cert.InNormBwdReferenceIdeal.main_arg2)
          ∧ r.2.mem ((c.tc : Thread Cert.InNormBwdReferenceIdeal.nD Cert.InNormBwdReferenceIdeal.τ).loc Cert.InNormBwdReferenceIdeal.main_arg3) = m' ((c.tc : Thread Cert.InNormBwdReferenceIdeal.nD Cert.InNormBwdReferenceIdeal.τ).loc Cert.InNormBwdReferenceIdeal.main_arg3))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpReferenceIdeal : Cert.FfnUpReferenceIdeal.Facts) (hDWUp : Cert.DWUp.Facts) (hDWUpIdeal : Cert.DWUpIdeal.Facts) (hDWUpReferenceIdeal : Cert.DWUpReferenceIdeal.Facts) (hDH2 : Cert.DH2.Facts) (hDH2Ideal : Cert.DH2Ideal.Facts) (hDH2ReferenceIdeal : Cert.DH2ReferenceIdeal.Facts) (hDWDown : Cert.DWDown.Facts) (hDWDownIdeal : Cert.DWDownIdeal.Facts) (hDWDownReferenceIdeal : Cert.DWDownReferenceIdeal.Facts) (hDAct : Cert.DAct.Facts) (hDActIdeal : Cert.DActIdeal.Facts) (hDActReferenceIdeal : Cert.DActReferenceIdeal.Facts) (hDWOut : Cert.DWOut.Facts) (hDWOutIdeal : Cert.DWOutIdeal.Facts) (hDWOutReferenceIdeal : Cert.DWOutReferenceIdeal.Facts) (hDWIn : Cert.DWIn.Facts) (hDWInIdeal : Cert.DWInIdeal.Facts) (hDWInReferenceIdeal : Cert.DWInReferenceIdeal.Facts) (hDH : Cert.DH.Facts) (hDHIdeal : Cert.DHIdeal.Facts) (hDHReferenceIdeal : Cert.DHReferenceIdeal.Facts) (hInProj : Cert.InProj.Facts) (hInProjIdeal : Cert.InProjIdeal.Facts) (hInProjReferenceIdeal : Cert.InProjReferenceIdeal.Facts) (hMixOut : Cert.MixOut.Facts) (hMixOutIdeal : Cert.MixOutIdeal.Facts) (hMixOutReferenceIdeal : Cert.MixOutReferenceIdeal.Facts) (hDownLoss : Cert.DownLoss.Facts) (hDownLossIdeal : Cert.DownLossIdeal.Facts) (hDownLossReferenceIdeal : Cert.DownLossReferenceIdeal.Facts) (hAdamIn : Cert.AdamIn.Facts) (hAdamInIdeal : Cert.AdamInIdeal.Facts) (hAdamInReferenceIdeal : Cert.AdamInReferenceIdeal.Facts) (hAdamGlu : Cert.AdamGlu.Facts) (hAdamGluIdeal : Cert.AdamGluIdeal.Facts) (hAdamGluReferenceIdeal : Cert.AdamGluReferenceIdeal.Facts) (hAdamOut : Cert.AdamOut.Facts) (hAdamOutIdeal : Cert.AdamOutIdeal.Facts) (hAdamOutReferenceIdeal : Cert.AdamOutReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamConv : Cert.AdamConv.Facts) (hAdamConvIdeal : Cert.AdamConvIdeal.Facts) (hAdamConvReferenceIdeal : Cert.AdamConvReferenceIdeal.Facts) (hInNormBwd : Cert.InNormBwd.Facts) (hInNormBwdIdeal : Cert.InNormBwdIdeal.Facts) (hInNormBwdReferenceIdeal : Cert.InNormBwdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_DWUp (hDWUp := hDWUp)
    ∧ quiescent_DWUpIdeal (hDWUpIdeal := hDWUpIdeal)
    ∧ quiescent_DWUpReferenceIdeal (hDWUpReferenceIdeal := hDWUpReferenceIdeal)
    ∧ quiescent_DH2 (hDH2 := hDH2)
    ∧ quiescent_DH2Ideal (hDH2Ideal := hDH2Ideal)
    ∧ quiescent_DH2ReferenceIdeal (hDH2ReferenceIdeal := hDH2ReferenceIdeal)
    ∧ quiescent_DWDown (hDWDown := hDWDown)
    ∧ quiescent_DWDownIdeal (hDWDownIdeal := hDWDownIdeal)
    ∧ quiescent_DWDownReferenceIdeal (hDWDownReferenceIdeal := hDWDownReferenceIdeal)
    ∧ quiescent_DAct (hDAct := hDAct)
    ∧ quiescent_DActIdeal (hDActIdeal := hDActIdeal)
    ∧ quiescent_DActReferenceIdeal (hDActReferenceIdeal := hDActReferenceIdeal)
    ∧ quiescent_DWOut (hDWOut := hDWOut)
    ∧ quiescent_DWOutIdeal (hDWOutIdeal := hDWOutIdeal)
    ∧ quiescent_DWOutReferenceIdeal (hDWOutReferenceIdeal := hDWOutReferenceIdeal)
    ∧ quiescent_DWIn (hDWIn := hDWIn)
    ∧ quiescent_DWInIdeal (hDWInIdeal := hDWInIdeal)
    ∧ quiescent_DWInReferenceIdeal (hDWInReferenceIdeal := hDWInReferenceIdeal)
    ∧ quiescent_DH (hDH := hDH)
    ∧ quiescent_DHIdeal (hDHIdeal := hDHIdeal)
    ∧ quiescent_DHReferenceIdeal (hDHReferenceIdeal := hDHReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_DownLoss (hDownLoss := hDownLoss)
    ∧ quiescent_DownLossIdeal (hDownLossIdeal := hDownLossIdeal)
    ∧ quiescent_DownLossReferenceIdeal (hDownLossReferenceIdeal := hDownLossReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamGlu (hAdamGlu := hAdamGlu)
    ∧ quiescent_AdamGluIdeal (hAdamGluIdeal := hAdamGluIdeal)
    ∧ quiescent_AdamGluReferenceIdeal (hAdamGluReferenceIdeal := hAdamGluReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_InNormBwd (hInNormBwd := hInNormBwd)
    ∧ quiescent_InNormBwdIdeal (hInNormBwdIdeal := hInNormBwdIdeal)
    ∧ quiescent_InNormBwdReferenceIdeal (hInNormBwdReferenceIdeal := hInNormBwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnUp_FfnUpIdeal
    ∧ algebraic_FfnUpIdeal_FfnUpReferenceIdeal (hFfnUpIdeal := hFfnUpIdeal) (hFfnUpReferenceIdeal := hFfnUpReferenceIdeal)
    ∧ preserves_DWUp_DWUpIdeal
    ∧ algebraic_DWUpIdeal_DWUpReferenceIdeal (hDWUpIdeal := hDWUpIdeal) (hDWUpReferenceIdeal := hDWUpReferenceIdeal)
    ∧ preserves_DH2_DH2Ideal
    ∧ algebraic_DH2Ideal_DH2ReferenceIdeal (hDH2Ideal := hDH2Ideal) (hDH2ReferenceIdeal := hDH2ReferenceIdeal)
    ∧ preserves_DWDown_DWDownIdeal
    ∧ algebraic_DWDownIdeal_DWDownReferenceIdeal (hDWDownIdeal := hDWDownIdeal) (hDWDownReferenceIdeal := hDWDownReferenceIdeal)
    ∧ preserves_DAct_DActIdeal
    ∧ algebraic_DActIdeal_DActReferenceIdeal (hDActIdeal := hDActIdeal) (hDActReferenceIdeal := hDActReferenceIdeal)
    ∧ preserves_DWOut_DWOutIdeal
    ∧ algebraic_DWOutIdeal_DWOutReferenceIdeal (hDWOutIdeal := hDWOutIdeal) (hDWOutReferenceIdeal := hDWOutReferenceIdeal)
    ∧ preserves_DWIn_DWInIdeal
    ∧ algebraic_DWInIdeal_DWInReferenceIdeal (hDWInIdeal := hDWInIdeal) (hDWInReferenceIdeal := hDWInReferenceIdeal)
    ∧ preserves_DH_DHIdeal
    ∧ algebraic_DHIdeal_DHReferenceIdeal (hDHIdeal := hDHIdeal) (hDHReferenceIdeal := hDHReferenceIdeal)
    ∧ preserves_InProj_InProjIdeal
    ∧ algebraic_InProjIdeal_InProjReferenceIdeal (hInProjIdeal := hInProjIdeal) (hInProjReferenceIdeal := hInProjReferenceIdeal)
    ∧ preserves_MixOut_MixOutIdeal
    ∧ algebraic_MixOutIdeal_MixOutReferenceIdeal (hMixOutIdeal := hMixOutIdeal) (hMixOutReferenceIdeal := hMixOutReferenceIdeal)
    ∧ preserves_DownLoss_DownLossIdeal
    ∧ algebraic_DownLossIdeal_DownLossReferenceIdeal (hDownLossIdeal := hDownLossIdeal) (hDownLossReferenceIdeal := hDownLossReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamGlu_AdamGluIdeal
    ∧ algebraic_AdamGluIdeal_AdamGluReferenceIdeal (hAdamGluIdeal := hAdamGluIdeal) (hAdamGluReferenceIdeal := hAdamGluReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_InNormBwd_InNormBwdIdeal
    ∧ algebraic_InNormBwdIdeal_InNormBwdReferenceIdeal (hInNormBwdIdeal := hInNormBwdIdeal) (hInNormBwdReferenceIdeal := hInNormBwdReferenceIdeal)
-- ==== Pre_finite.lean ====
abbrev S8x2048x64 : Shape := ⟨3, ![8, 2048, 64]⟩
abbrev S8x1x2048 : Shape := ⟨3, ![8, 1, 2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x1x2048 : S_.BroadcastsInDim S8x1x2048 (![] : Fin 0 → Fin S8x1x2048.rank)
  reducesTo_S8x1x2048_S_d0_1_2 : S8x1x2048.ReducesTo [0, 1, 2] S_

variable [Facts]

def fn_part1 {F : FTy → Type} [FloatOps F] (main_arg4 : FVec F S8x2048x64 .f32) (main_v13 : IVec S_ 1) (main_v16 : IVec S8x1x2048 1) : IVec S_ 1 :=
  let main_c_5 : IVec S_ 1 := constantI S_ 1 1#1
  let main_v17 : IVec S_ 1 := (fun x v => Host.reduce IntOp.andi x v reducesTo_S8x1x2048_S_d0_1_2 h_S_) main_v16 main_c_5
  let main_v18 : IVec S_ 1 := andi main_v13 main_v17
  let main_v19 : FVec F S8x2048x64 .f32 := Host.absf main_arg4
  let main_cst_6 : FVec F S_ .f32 := constant S_ .f32 0x7F800000#32
  let main_v20 : FVec F S8x2048x64 .f32 := broadcastInDim S8x2048x64 ![] bcast_S_S8x2048x64 main_cst_6
  let main_v21 : IVec S8x2048x64 1 := cmpf .olt main_v19 main_v20
  let main_c_7 : IVec S_ 1 := constantI S_ 1 1#1
  let main_v22 : IVec S_ 1 := (fun x v => Host.reduce IntOp.andi x v reducesTo_S8x2048x64_S_d0_1_2 h_S_) main_v21 main_c_7
  let main_v23 : IVec S_ 1 := andi main_v18 main_v22
  main_v23

def fn {F : FTy → Type} [FloatOps F] (main_arg0 : FVec F S8x2048x64 .f32) (main_arg1 : FVec F S8x2048x64 .f32) (main_arg2 : FVec F S8x2048x64 .f32) (main_arg3 : FVec F S8x1x2048 .f32) (main_arg4 : FVec F S8x2048x64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  let main_v14 : FVec F S8x1x2048 .f32 := Host.absf main_arg3
  let main_cst_4 : FVec F S_ .f32 := constant S_ .f32 0x7F800000#32
  let main_v15 : FVec F S8x1x2048 .f32 := broadcastInDim S8x1x2048 ![] bcast_S_S8x1x2048 main_cst_4
  let main_v16 : IVec S8x1x2048 1 := cmpf .olt main_v14 main_v15
  fn_part1 (F := F) main_arg4 main_v13 main_v16
-- ==== Kernel.lean ====
abbrev S8x2048x64 : Shape := ⟨3, ![8, 2048, 64]⟩
abbrev S8x1x2048 : Shape := ⟨3, ![8, 1, 2048]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S4x256x64 : Shape := ⟨3, ![4, 256, 64]⟩
abbrev S4x2048x64 : Shape := ⟨3, ![4, 2048, 64]⟩
abbrev S4x1x2048 : Shape := ⟨3, ![4, 1, 2048]⟩
abbrev S4x256x1 : Shape := ⟨3, ![4, 256, 1]⟩
abbrev S4x8x256x256 : Shape := ⟨4, ![4, 8, 256, 256]⟩
abbrev S1x256x64 : Shape := ⟨3, ![1, 256, 64]⟩
abbrev S256x64 : Shape := ⟨2, ![256, 64]⟩
abbrev S256x1 : Shape := ⟨2, ![256, 1]⟩
abbrev S1x1x256 : Shape := ⟨3, ![1, 1, 256]⟩
abbrev S1x256 : Shape := ⟨2, ![1, 256]⟩
abbrev S1x256x1 : Shape := ⟨3, ![1, 256, 1]⟩
abbrev S256x256 : Shape := ⟨2, ![256, 256]⟩
abbrev S1x1x256x256 : Shape := ⟨4, ![1, 1, 256, 256]⟩
abbrev S256 : Shape := ⟨1, ![256]⟩

abbrev nBuf : Space → Nat
  | .hbm => 41
  | .vmem => 22
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x1x2048, .f32⟩
  | .hbm, ⟨4, _⟩ => ⟨S8x2048x64, .f32⟩
  | .hbm, ⟨5, _⟩ => ⟨S8x2048x64, .bf16⟩
  | .hbm, ⟨6, _⟩ => ⟨S8x2048x64, .bf16⟩
  | .hbm, ⟨7, _⟩ => ⟨S8x2048x64, .bf16⟩
  | .hbm, ⟨8, _⟩ => ⟨S8x2048x2048, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S2048, .i32⟩
  | .hbm, ⟨15, _⟩ => ⟨S1x2048, .i32⟩
  | .hbm, ⟨16, _⟩ => ⟨S2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S8x2048x2048, .i1⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x64, .f32⟩
  | .hbm, ⟨38, _⟩ => ⟨S8x2048x64, .f32⟩
  | .hbm, ⟨39, _⟩ => ⟨S8x2048x64, .f32⟩
  | .hbm, ⟨40, _⟩ => ⟨S8x1x2048, .f32⟩
  | .local _ .vmem, ⟨0, _⟩ => ⟨S4x256x64, .bf16⟩
  | .local _ .vmem, ⟨1, _⟩ => ⟨S4x256x64, .bf16⟩
  | .local _ .vmem, ⟨2, _⟩ => ⟨S4x2048x64, .bf16⟩
  | .local _ .vmem, ⟨3, _⟩ => ⟨S4x2048x64, .bf16⟩
  | .local _ .vmem, ⟨4, _⟩ => ⟨S4x2048x64, .bf16⟩
  | .local _ .vmem, ⟨5, _⟩ => ⟨S4x2048x64, .bf16⟩
  | .local _ .vmem, ⟨6, _⟩ => ⟨S4x1x2048, .f32⟩
  | .local _ .vmem, ⟨7, _⟩ => ⟨S4x1x2048, .f32⟩
  | .local _ .vmem, ⟨8, _⟩ => ⟨S4x256x1, .f32⟩
  | .local _ .vmem, ⟨9, _⟩ => ⟨S4x256x1, .f32⟩
  | .local _ .vmem, ⟨10, _⟩ => ⟨S4x256x64, .f32⟩
  | .local _ .vmem, ⟨11, _⟩ => ⟨S4x256x64, .f32⟩
  | .local _ .vmem, ⟨12, _⟩ => ⟨S4x256x64, .f32⟩
  | .local _ .vmem, ⟨13, _⟩ => ⟨S4x256x64, .f32⟩
  | .local _ .vmem, ⟨14, _⟩ => ⟨S4x2048x64, .f32⟩
  | .local _ .vmem, ⟨15, _⟩ => ⟨S4x2048x64, .f32⟩
  | .local _ .vmem, ⟨16, _⟩ => ⟨S4x2048x64, .f32⟩
  | .local _ .vmem, ⟨17, _⟩ => ⟨S4x2048x64, .f32⟩
  | .local _ .vmem, ⟨18, _⟩ => ⟨S4x1x2048, .f32⟩
  | .local _ .vmem, ⟨19, _⟩ => ⟨S4x1x2048, .f32⟩
  | .local _ .vmem, ⟨20, _⟩ => ⟨S4x8x256x256, .f32⟩
  | .local _ .vmem, ⟨21, _⟩ => ⟨S4x8x256x256, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 8], ![false, false]⟩

@[reducible] def k0_t1_loop (i : grid0.Coords) : Scf.Loop 32 :=
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_10 : BitVec 32 := 1#32
  ⟨c0_i32_9, v20, c1_i32_10⟩
def k0_mult1 (i : grid0.Coords) (k0_t1 : Fin (k0_t1_loop i).trips) : BitVec 32 :=
  let c0_i32_9 : BitVec 32 := 0#32
  let c1_i32_10 : BitVec 32 := 1#32
  let arg14 : BitVec 32 := Scf.iv c0_i32_9 c1_i32_10 k0_t1
  let c256_i32_126 : BitVec 32 := 256#32
  let v210 : BitVec 32 := Scalar.muli arg14 c256_i32_126
  v210
def k0_off1 (i : grid0.Coords) (k0_t1 : Fin (k0_t1_loop i).trips) : Fin 3 → Nat :=
  let c0_130 : Index := 0#32
  let c0_i32_9 : BitVec 32 := 0#32
  let c1_i32_10 : BitVec 32 := 1#32
  let arg14 : BitVec 32 := Scf.iv c0_i32_9 c1_i32_10 k0_t1
  let c256_i32_126 : BitVec 32 := 256#32
  let v210 : BitVec 32 := Scalar.muli arg14 c256_i32_126
  let v211 : BitVec 32 := v210
  let v214 : Index := Scalar.indexCast v211
  let c0_131 : Index := 0#32
  ![0, v214.toNat, 0]
def k0_off2 (i : grid0.Coords) (k0_t1 : Fin (k0_t1_loop i).trips) : Fin 3 → Nat :=
  let c0_132 : Index := 0#32
  let c0_133 : Index := 0#32
  let c0_i32_9 : BitVec 32 := 0#32
  let c1_i32_10 : BitVec 32 := 1#32
  let arg14 : BitVec 32 := Scf.iv c0_i32_9 c1_i32_10 k0_t1
  let c256_i32_126 : BitVec 32 := 256#32
  let v210 : BitVec 32 := Scalar.muli arg14 c256_i32_126
  let v211 : BitVec 32 := v210
  let v217 : Index := Scalar.indexCast v211
  ![0, 0, v217.toNat]
def k0_off3 (i : grid0.Coords) (k0_t1 : Fin (k0_t1_loop i).trips) : Fin 4 → Nat :=
  let c0_142 : Index := 0#32
  let c0_i32_9 : BitVec 32 := 0#32
  let c1_i32_10 : BitVec 32 := 1#32
  let arg14 : BitVec 32 := Scf.iv c0_i32_9 c1_i32_10 k0_t1
  let v234 : Index := Scalar.indexCast arg14
  let c0_143 : Index := 0#32
  let c0_144 : Index := 0#32
  ![0, v234.toNat, 0, 0]
def k0_off4 (i : grid0.Coords) (k0_t1 : Fin (k0_t1_loop i).trips) : Fin 3 → Nat :=
  let c1_152 : Index := 1#32
  let c0_i32_9 : BitVec 32 := 0#32
  let c1_i32_10 : BitVec 32 := 1#32
  let arg14 : BitVec 32 := Scf.iv c0_i32_9 c1_i32_10 k0_t1
  let c256_i32_126 : BitVec 32 := 256#32
  let v210 : BitVec 32 := Scalar.muli arg14 c256_i32_126
  let v211 : BitVec 32 := v210
  let v248 : Index := Scalar.indexCast v211
  let c0_153 : Index := 0#32
  ![1, v248.toNat, 0]
def k0_off5 (i : grid0.Coords) (k0_t1 : Fin (k0_t1_loop i).trips) : Fin 3 → Nat :=
  let c1_154 : Index := 1#32
  let c0_155 : Index := 0#32
  let c0_i32_9 : BitVec 32 := 0#32
  let c1_i32_10 : BitVec 32 := 1#32
  let arg14 : BitVec 32 := Scf.iv c0_i32_9 c1_i32_10 k0_t1
  let c256_i32_126 : BitVec 32 := 256#32
  let v210 : BitVec 32 := Scalar.muli arg14 c256_i32_126
  let v211 : BitVec 32 := v210
  let v251 : Index := Scalar.indexCast v211
  ![1, 0, v251.toNat]
def k0_off6 (i : grid0.Coords) (k0_t1 : Fin (k0_t1_loop i).trips) : Fin 4 → Nat :=
  let c1_164 : Index := 1#32
  let c0_i32_9 : BitVec 32 := 0#32
  let c1_i32_10 : BitVec 32 := 1#32
  let arg14 : BitVec 32 := Scf.iv c0_i32_9 c1_i32_10 k0_t1
  let v268 : Index := Scalar.indexCast arg14
  let c0_165 : Index := 0#32
  let c0_166 : Index := 0#32
  ![1, v268.toNat, 0, 0]
def k0_off7 (i : grid0.Coords) (k0_t1 : Fin (k0_t1_loop i).trips) : Fin 3 → Nat :=
  let c2_174 : Index := 2#32
  let c0_i32_9 : BitVec 32 := 0#32
  let c1_i32_10 : BitVec 32 := 1#32
  let arg14 : BitVec 32 := Scf.iv c0_i32_9 c1_i32_10 k0_t1
  let c256_i32_126 : BitVec 32 := 256#32
  let v210 : BitVec 32 := Scalar.muli arg14 c256_i32_126
  let v211 : BitVec 32 := v210
  let v282 : Index := Scalar.indexCast v211
  let c0_175 : Index := 0#32
  ![2, v282.toNat, 0]
def k0_off8 (i : grid0.Coords) (k0_t1 : Fin (k0_t1_loop i).trips) : Fin 3 → Nat :=
  let c2_176 : Index := 2#32
  let c0_177 : Index := 0#32
  let c0_i32_9 : BitVec 32 := 0#32
  let c1_i32_10 : BitVec 32 := 1#32
  let arg14 : BitVec 32 := Scf.iv c0_i32_9 c1_i32_10 k0_t1
  let c256_i32_126 : BitVec 32 := 256#32
  let v210 : BitVec 32 := Scalar.muli arg14 c256_i32_126
  let v211 : BitVec 32 := v210
  let v285 : Index := Scalar.indexCast v211
  ![2, 0, v285.toNat]
def k0_off9 (i : grid0.Coords) (k0_t1 : Fin (k0_t1_loop i).trips) : Fin 4 → Nat :=
  let c2_186 : Index := 2#32
  let c0_i32_9 : BitVec 32 := 0#32
  let c1_i32_10 : BitVec 32 := 1#32
  let arg14 : BitVec 32 := Scf.iv c0_i32_9 c1_i32_10 k0_t1
  let v302 : Index := Scalar.indexCast arg14
  let c0_187 : Index := 0#32
  let c0_188 : Index := 0#32
  ![2, v302.toNat, 0, 0]
def k0_off10 (i : grid0.Coords) (k0_t1 : Fin (k0_t1_loop i).trips) : Fin 3 → Nat :=
  let c3_196 : Index := 3#32
  let c0_i32_9 : BitVec 32 := 0#32
  let c1_i32_10 : BitVec 32 := 1#32
  let arg14 : BitVec 32 := Scf.iv c0_i32_9 c1_i32_10 k0_t1
  let c256_i32_126 : BitVec 32 := 256#32
  let v210 : BitVec 32 := Scalar.muli arg14 c256_i32_126
  let v211 : BitVec 32 := v210
  let v316 : Index := Scalar.indexCast v211
  let c0_197 : Index := 0#32
  ![3, v316.toNat, 0]
def k0_off11 (i : grid0.Coords) (k0_t1 : Fin (k0_t1_loop i).trips) : Fin 3 → Nat :=
  let c3_198 : Index := 3#32
  let c0_199 : Index := 0#32
  let c0_i32_9 : BitVec 32 := 0#32
  let c1_i32_10 : BitVec 32 := 1#32
  let arg14 : BitVec 32 := Scf.iv c0_i32_9 c1_i32_10 k0_t1
  let c256_i32_126 : BitVec 32 := 256#32
  let v210 : BitVec 32 := Scalar.muli arg14 c256_i32_126
  let v211 : BitVec 32 := v210
  let v319 : Index := Scalar.indexCast v211
  ![3, 0, v319.toNat]
def k0_off12 (i : grid0.Coords) (k0_t1 : Fin (k0_t1_loop i).trips) : Fin 4 → Nat :=
  let c3_208 : Index := 3#32
  let c0_i32_9 : BitVec 32 := 0#32
  let c1_i32_10 : BitVec 32 := 1#32
  let arg14 : BitVec 32 := Scf.iv c0_i32_9 c1_i32_10 k0_t1
  let v336 : Index := Scalar.indexCast arg14
  let c0_209 : Index := 0#32
  let c0_210 : Index := 0#32
  ![3, v336.toNat, 0, 0]
@[reducible] def k0_t2_loop (i : grid0.Coords) : Scf.Loop 32 :=
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let v17 : BitVec 32 := Scalar.addi c0_i32_9 v16
  let c1_i32_11 : BitVec 32 := 1#32
  ⟨v20, v17, c1_i32_11⟩
def k0_mult2 (i : grid0.Coords) (k0_t2 : Fin (k0_t2_loop i).trips) : BitVec 32 :=
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let c256_i32_126 : BitVec 32 := 256#32
  let v210 : BitVec 32 := Scalar.muli arg14 c256_i32_126
  v210
def k0_off13 (i : grid0.Coords) (k0_t2 : Fin (k0_t2_loop i).trips) : Fin 3 → Nat :=
  let c0_130 : Index := 0#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let c256_i32_126 : BitVec 32 := 256#32
  let v210 : BitVec 32 := Scalar.muli arg14 c256_i32_126
  let v211 : BitVec 32 := v210
  let v214 : Index := Scalar.indexCast v211
  let c0_131 : Index := 0#32
  ![0, v214.toNat, 0]
def k0_off14 (i : grid0.Coords) (k0_t2 : Fin (k0_t2_loop i).trips) : Fin 3 → Nat :=
  let c0_132 : Index := 0#32
  let c0_133 : Index := 0#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let c256_i32_126 : BitVec 32 := 256#32
  let v210 : BitVec 32 := Scalar.muli arg14 c256_i32_126
  let v211 : BitVec 32 := v210
  let v217 : Index := Scalar.indexCast v211
  ![0, 0, v217.toNat]
def k0_off15 (i : grid0.Coords) (k0_t2 : Fin (k0_t2_loop i).trips) : Fin 4 → Nat :=
  let c0_142 : Index := 0#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let v234 : Index := Scalar.indexCast arg14
  let c0_143 : Index := 0#32
  let c0_144 : Index := 0#32
  ![0, v234.toNat, 0, 0]
def k0_off16 (i : grid0.Coords) (k0_t2 : Fin (k0_t2_loop i).trips) : Fin 3 → Nat :=
  let c1_152 : Index := 1#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let c256_i32_126 : BitVec 32 := 256#32
  let v210 : BitVec 32 := Scalar.muli arg14 c256_i32_126
  let v211 : BitVec 32 := v210
  let v248 : Index := Scalar.indexCast v211
  let c0_153 : Index := 0#32
  ![1, v248.toNat, 0]
def k0_off17 (i : grid0.Coords) (k0_t2 : Fin (k0_t2_loop i).trips) : Fin 3 → Nat :=
  let c1_154 : Index := 1#32
  let c0_155 : Index := 0#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let c256_i32_126 : BitVec 32 := 256#32
  let v210 : BitVec 32 := Scalar.muli arg14 c256_i32_126
  let v211 : BitVec 32 := v210
  let v251 : Index := Scalar.indexCast v211
  ![1, 0, v251.toNat]
def k0_off18 (i : grid0.Coords) (k0_t2 : Fin (k0_t2_loop i).trips) : Fin 4 → Nat :=
  let c1_164 : Index := 1#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let v268 : Index := Scalar.indexCast arg14
  let c0_165 : Index := 0#32
  let c0_166 : Index := 0#32
  ![1, v268.toNat, 0, 0]
def k0_off19 (i : grid0.Coords) (k0_t2 : Fin (k0_t2_loop i).trips) : Fin 3 → Nat :=
  let c2_174 : Index := 2#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let c256_i32_126 : BitVec 32 := 256#32
  let v210 : BitVec 32 := Scalar.muli arg14 c256_i32_126
  let v211 : BitVec 32 := v210
  let v282 : Index := Scalar.indexCast v211
  let c0_175 : Index := 0#32
  ![2, v282.toNat, 0]
def k0_off20 (i : grid0.Coords) (k0_t2 : Fin (k0_t2_loop i).trips) : Fin 3 → Nat :=
  let c2_176 : Index := 2#32
  let c0_177 : Index := 0#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let c256_i32_126 : BitVec 32 := 256#32
  let v210 : BitVec 32 := Scalar.muli arg14 c256_i32_126
  let v211 : BitVec 32 := v210
  let v285 : Index := Scalar.indexCast v211
  ![2, 0, v285.toNat]
def k0_off21 (i : grid0.Coords) (k0_t2 : Fin (k0_t2_loop i).trips) : Fin 4 → Nat :=
  let c2_186 : Index := 2#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let v302 : Index := Scalar.indexCast arg14
  let c0_187 : Index := 0#32
  let c0_188 : Index := 0#32
  ![2, v302.toNat, 0, 0]
def k0_off22 (i : grid0.Coords) (k0_t2 : Fin (k0_t2_loop i).trips) : Fin 3 → Nat :=
  let c3_196 : Index := 3#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let c256_i32_126 : BitVec 32 := 256#32
  let v210 : BitVec 32 := Scalar.muli arg14 c256_i32_126
  let v211 : BitVec 32 := v210
  let v316 : Index := Scalar.indexCast v211
  let c0_197 : Index := 0#32
  ![3, v316.toNat, 0]
def k0_off23 (i : grid0.Coords) (k0_t2 : Fin (k0_t2_loop i).trips) : Fin 3 → Nat :=
  let c3_198 : Index := 3#32
  let c0_199 : Index := 0#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let c256_i32_126 : BitVec 32 := 256#32
  let v210 : BitVec 32 := Scalar.muli arg14 c256_i32_126
  let v211 : BitVec 32 := v210
  let v319 : Index := Scalar.indexCast v211
  ![3, 0, v319.toNat]
def k0_off24 (i : grid0.Coords) (k0_t2 : Fin (k0_t2_loop i).trips) : Fin 4 → Nat :=
  let c3_208 : Index := 3#32
  let c0_i32_9 : BitVec 32 := 0#32
  let arg1 : BitVec 32 := BitVec.ofNat 32 (i 1).val
  let v16 : BitVec 32 := Scalar.subi arg1 c0_i32_9
  let c1_i32 : BitVec 32 := 1#32
  let v18 : BitVec 32 := Scalar.divsi v16 c1_i32
  let v19 : BitVec 32 := Scalar.muli v18 c1_i32
  let v20 : BitVec 32 := Scalar.addi c0_i32_9 v19
  let c1_i32_11 : BitVec 32 := 1#32
  let arg14 : BitVec 32 := Scf.iv v20 c1_i32_11 k0_t2
  let v336 : Index := Scalar.indexCast arg14
  let c0_209 : Index := 0#32
  let c0_210 : Index := 0#32
  ![3, v336.toNat, 0, 0]
def k0_mult3 (i : grid0.Coords) : BitVec 32 :=
  let arg1 : BitVec 32 := BitVec.ofNat 32 (i 1).val
  let c256_i32 : BitVec 32 := 256#32
  let v23 : BitVec 32 := Scalar.muli arg1 c256_i32
  v23
def k0_off25 (i : grid0.Coords) : Fin 3 → Nat :=
  let c0_15 : Index := 0#32
  let arg1 : BitVec 32 := BitVec.ofNat 32 (i 1).val
  let c256_i32 : BitVec 32 := 256#32
  let v23 : BitVec 32 := Scalar.muli arg1 c256_i32
  let v24 : BitVec 32 := v23
  let v27 : Index := Scalar.indexCast v24
  let c0_16 : Index := 0#32
  ![0, v27.toNat, 0]
def k0_off26 (i : grid0.Coords) : Fin 3 → Nat :=
  let c0_17 : Index := 0#32
  let c0_18 : Index := 0#32
  let arg1 : BitVec 32 := BitVec.ofNat 32 (i 1).val
  let c256_i32 : BitVec 32 := 256#32
  let v23 : BitVec 32 := Scalar.muli arg1 c256_i32
  let v24 : BitVec 32 := v23
  let v30 : Index := Scalar.indexCast v24
  ![0, 0, v30.toNat]
def k0_off27 (i : grid0.Coords) : Fin 4 → Nat :=
  let c0_28 : Index := 0#32
  let arg1 : BitVec 32 := BitVec.ofNat 32 (i 1).val
  let v52 : Index := Scalar.indexCast arg1
  let c0_29 : Index := 0#32
  let c0_30 : Index := 0#32
  ![0, v52.toNat, 0, 0]
def k0_off28 (i : grid0.Coords) : Fin 3 → Nat :=
  let c1_38 : Index := 1#32
  let arg1 : BitVec 32 := BitVec.ofNat 32 (i 1).val
  let c256_i32 : BitVec 32 := 256#32
  let v23 : BitVec 32 := Scalar.muli arg1 c256_i32
  let v24 : BitVec 32 := v23
  let v66 : Index := Scalar.indexCast v24
  let c0_39 : Index := 0#32
  ![1, v66.toNat, 0]
def k0_off29 (i : grid0.Coords) : Fin 3 → Nat :=
  let c1_40 : Index := 1#32
  let c0_41 : Index := 0#32
  let arg1 : BitVec 32 := BitVec.ofNat 32 (i 1).val
  let c256_i32 : BitVec 32 := 256#32
  let v23 : BitVec 32 := Scalar.muli arg1 c256_i32
  let v24 : BitVec 32 := v23
  let v69 : Index := Scalar.indexCast v24
  ![1, 0, v69.toNat]
def k0_off30 (i : grid0.Coords) : Fin 4 → Nat :=
  let c1_51 : Index := 1#32
  let arg1 : BitVec 32 := BitVec.ofNat 32 (i 1).val
  let v91 : Index := Scalar.indexCast arg1
  let c0_52 : Index := 0#32
  let c0_53 : Index := 0#32
  ![1, v91.toNat, 0, 0]
def k0_off31 (i : grid0.Coords) : Fin 3 → Nat :=
  let c2_61 : Index := 2#32
  let arg1 : BitVec 32 := BitVec.ofNat 32 (i 1).val
  let c256_i32 : BitVec 32 := 256#32
  let v23 : BitVec 32 := Scalar.muli arg1 c256_i32
  let v24 : BitVec 32 := v23
  let v105 : Index := Scalar.indexCast v24
  let c0_62 : Index := 0#32
  ![2, v105.toNat, 0]
def k0_off32 (i : grid0.Coords) : Fin 3 → Nat :=
  let c2_63 : Index := 2#32
  let c0_64 : Index := 0#32
  let arg1 : BitVec 32 := BitVec.ofNat 32 (i 1).val
  let c256_i32 : BitVec 32 := 256#32
  let v23 : BitVec 32 := Scalar.muli arg1 c256_i32
  let v24 : BitVec 32 := v23
  let v108 : Index := Scalar.indexCast v24
  ![2, 0, v108.toNat]
def k0_off33 (i : grid0.Coords) : Fin 4 → Nat :=
  let c2_74 : Index := 2#32
  let arg1 : BitVec 32 := BitVec.ofNat 32 (i 1).val
  let v130 : Index := Scalar.indexCast arg1
  let c0_75 : Index := 0#32
  let c0_76 : Index := 0#32
  ![2, v130.toNat, 0, 0]
def k0_off34 (i : grid0.Coords) : Fin 3 → Nat :=
  let c3_84 : Index := 3#32
  let arg1 : BitVec 32 := BitVec.ofNat 32 (i 1).val
  let c256_i32 : BitVec 32 := 256#32
  let v23 : BitVec 32 := Scalar.muli arg1 c256_i32
  let v24 : BitVec 32 := v23
  let v144 : Index := Scalar.indexCast v24
  let c0_85 : Index := 0#32
  ![3, v144.toNat, 0]
def k0_off35 (i : grid0.Coords) : Fin 3 → Nat :=
  let c3_86 : Index := 3#32
  let c0_87 : Index := 0#32
  let arg1 : BitVec 32 := BitVec.ofNat 32 (i 1).val
  let c256_i32 : BitVec 32 := 256#32
  let v23 : BitVec 32 := Scalar.muli arg1 c256_i32
  let v24 : BitVec 32 := v23
  let v147 : Index := Scalar.indexCast v24
  ![3, 0, v147.toNat]
def k0_off36 (i : grid0.Coords) : Fin 4 → Nat :=
  let c3_97 : Index := 3#32
  let arg1 : BitVec 32 := BitVec.ofNat 32 (i 1).val
  let v169 : Index := Scalar.indexCast arg1
  let c0_98 : Index := 0#32
  let c0_99 : Index := 0#32
  ![3, v169.toNat, 0, 0]
@[reducible] def k0_t3_loop (i : grid0.Coords) : Scf.Loop 32 :=
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_108 : BitVec 32 := 1#32
  ⟨c0_i32_106, v187, c1_i32_108⟩
def k0_mult4 (i : grid0.Coords) (k0_t3 : Fin (k0_t3_loop i).trips) : BitVec 32 :=
  let c0_i32_106 : BitVec 32 := 0#32
  let c1_i32_108 : BitVec 32 := 1#32
  let arg14 : BitVec 32 := Scf.iv c0_i32_106 c1_i32_108 k0_t3
  let c256_i32_126 : BitVec 32 := 256#32
  let v210 : BitVec 32 := Scalar.muli arg14 c256_i32_126
  v210
def k0_off37 (i : grid0.Coords) (k0_t3 : Fin (k0_t3_loop i).trips) : Fin 4 → Nat :=
  let c0_127 : Index := 0#32
  let c0_i32_106 : BitVec 32 := 0#32
  let c1_i32_108 : BitVec 32 := 1#32
  let arg14 : BitVec 32 := Scf.iv c0_i32_106 c1_i32_108 k0_t3
  let v212 : Index := Scalar.indexCast arg14
  let c0_128 : Index := 0#32
  let c0_129 : Index := 0#32
  ![0, v212.toNat, 0, 0]
def k0_off38 (i : grid0.Coords) (k0_t3 : Fin (k0_t3_loop i).trips) : Fin 3 → Nat :=
  let c0_133 : Index := 0#32
  let c0_i32_106 : BitVec 32 := 0#32
  let c1_i32_108 : BitVec 32 := 1#32
  let arg14 : BitVec 32 := Scf.iv c0_i32_106 c1_i32_108 k0_t3
  let c256_i32_126 : BitVec 32 := 256#32
  let v210 : BitVec 32 := Scalar.muli arg14 c256_i32_126
  let v211 : BitVec 32 := v210
  let v222 : Index := Scalar.indexCast v211
  let c0_134 : Index := 0#32
  ![0, v222.toNat, 0]
def k0_off39 (i : grid0.Coords) (k0_t3 : Fin (k0_t3_loop i).trips) : Fin 3 → Nat :=
  let c0_147 : Index := 0#32
  let c0_148 : Index := 0#32
  let c0_i32_106 : BitVec 32 := 0#32
  let c1_i32_108 : BitVec 32 := 1#32
  let arg14 : BitVec 32 := Scf.iv c0_i32_106 c1_i32_108 k0_t3
  let c256_i32_126 : BitVec 32 := 256#32
  let v210 : BitVec 32 := Scalar.muli arg14 c256_i32_126
  let v211 : BitVec 32 := v210
  let v245 : Index := Scalar.indexCast v211
  ![0, 0, v245.toNat]
def k0_off40 (i : grid0.Coords) (k0_t3 : Fin (k0_t3_loop i).trips) : Fin 4 → Nat :=
  let c1_155 : Index := 1#32
  let c0_i32_106 : BitVec 32 := 0#32
  let c1_i32_108 : BitVec 32 := 1#32
  let arg14 : BitVec 32 := Scf.iv c0_i32_106 c1_i32_108 k0_t3
  let v260 : Index := Scalar.indexCast arg14
  let c0_156 : Index := 0#32
  let c0_157 : Index := 0#32
  ![1, v260.toNat, 0, 0]
def k0_off41 (i : grid0.Coords) (k0_t3 : Fin (k0_t3_loop i).trips) : Fin 3 → Nat :=
  let c1_161 : Index := 1#32
  let c0_i32_106 : BitVec 32 := 0#32
  let c1_i32_108 : BitVec 32 := 1#32
  let arg14 : BitVec 32 := Scf.iv c0_i32_106 c1_i32_108 k0_t3
  let c256_i32_126 : BitVec 32 := 256#32
  let v210 : BitVec 32 := Scalar.muli arg14 c256_i32_126
  let v211 : BitVec 32 := v210
  let v270 : Index := Scalar.indexCast v211
  let c0_162 : Index := 0#32
  ![1, v270.toNat, 0]
def k0_off42 (i : grid0.Coords) (k0_t3 : Fin (k0_t3_loop i).trips) : Fin 3 → Nat :=
  let c1_175 : Index := 1#32
  let c0_176 : Index := 0#32
  let c0_i32_106 : BitVec 32 := 0#32
  let c1_i32_108 : BitVec 32 := 1#32
  let arg14 : BitVec 32 := Scf.iv c0_i32_106 c1_i32_108 k0_t3
  let c256_i32_126 : BitVec 32 := 256#32
  let v210 : BitVec 32 := Scalar.muli arg14 c256_i32_126
  let v211 : BitVec 32 := v210
  let v293 : Index := Scalar.indexCast v211
  ![1, 0, v293.toNat]
def k0_off43 (i : grid0.Coords) (k0_t3 : Fin (k0_t3_loop i).trips) : Fin 4 → Nat :=
  let c2_183 : Index := 2#32
  let c0_i32_106 : BitVec 32 := 0#32
  let c1_i32_108 : BitVec 32 := 1#32
  let arg14 : BitVec 32 := Scf.iv c0_i32_106 c1_i32_108 k0_t3
  let v308 : Index := Scalar.indexCast arg14
  let c0_184 : Index := 0#32
  let c0_185 : Index := 0#32
  ![2, v308.toNat, 0, 0]
def k0_off44 (i : grid0.Coords) (k0_t3 : Fin (k0_t3_loop i).trips) : Fin 3 → Nat :=
  let c2_189 : Index := 2#32
  let c0_i32_106 : BitVec 32 := 0#32
  let c1_i32_108 : BitVec 32 := 1#32
  let arg14 : BitVec 32 := Scf.iv c0_i32_106 c1_i32_108 k0_t3
  let c256_i32_126 : BitVec 32 := 256#32
  let v210 : BitVec 32 := Scalar.muli arg14 c256_i32_126
  let v211 : BitVec 32 := v210
  let v318 : Index := Scalar.indexCast v211
  let c0_190 : Index := 0#32
  ![2, v318.toNat, 0]
def k0_off45 (i : grid0.Coords) (k0_t3 : Fin (k0_t3_loop i).trips) : Fin 3 → Nat :=
  let c2_203 : Index := 2#32
  let c0_204 : Index := 0#32
  let c0_i32_106 : BitVec 32 := 0#32
  let c1_i32_108 : BitVec 32 := 1#32
  let arg14 : BitVec 32 := Scf.iv c0_i32_106 c1_i32_108 k0_t3
  let c256_i32_126 : BitVec 32 := 256#32
  let v210 : BitVec 32 := Scalar.muli arg14 c256_i32_126
  let v211 : BitVec 32 := v210
  let v341 : Index := Scalar.indexCast v211
  ![2, 0, v341.toNat]
def k0_off46 (i : grid0.Coords) (k0_t3 : Fin (k0_t3_loop i).trips) : Fin 4 → Nat :=
  let c3_211 : Index := 3#32
  let c0_i32_106 : BitVec 32 := 0#32
  let c1_i32_108 : BitVec 32 := 1#32
  let arg14 : BitVec 32 := Scf.iv c0_i32_106 c1_i32_108 k0_t3
  let v356 : Index := Scalar.indexCast arg14
  let c0_212 : Index := 0#32
  let c0_213 : Index := 0#32
  ![3, v356.toNat, 0, 0]
def k0_off47 (i : grid0.Coords) (k0_t3 : Fin (k0_t3_loop i).trips) : Fin 3 → Nat :=
  let c3_217 : Index := 3#32
  let c0_i32_106 : BitVec 32 := 0#32
  let c1_i32_108 : BitVec 32 := 1#32
  let arg14 : BitVec 32 := Scf.iv c0_i32_106 c1_i32_108 k0_t3
  let c256_i32_126 : BitVec 32 := 256#32
  let v210 : BitVec 32 := Scalar.muli arg14 c256_i32_126
  let v211 : BitVec 32 := v210
  let v366 : Index := Scalar.indexCast v211
  let c0_218 : Index := 0#32
  ![3, v366.toNat, 0]
def k0_off48 (i : grid0.Coords) (k0_t3 : Fin (k0_t3_loop i).trips) : Fin 3 → Nat :=
  let c3_231 : Index := 3#32
  let c0_232 : Index := 0#32
  let c0_i32_106 : BitVec 32 := 0#32
  let c1_i32_108 : BitVec 32 := 1#32
  let arg14 : BitVec 32 := Scf.iv c0_i32_106 c1_i32_108 k0_t3
  let c256_i32_126 : BitVec 32 := 256#32
  let v210 : BitVec 32 := Scalar.muli arg14 c256_i32_126
  let v211 : BitVec 32 := v210
  let v389 : Index := Scalar.indexCast v211
  ![3, 0, v389.toNat]
@[reducible] def k0_t4_loop (i : grid0.Coords) : Scf.Loop 32 :=
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let v184 : BitVec 32 := Scalar.addi c0_i32_106 v183
  let c1_i32_109 : BitVec 32 := 1#32
  ⟨v187, v184, c1_i32_109⟩
def k0_mult5 (i : grid0.Coords) (k0_t4 : Fin (k0_t4_loop i).trips) : BitVec 32 :=
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let c256_i32_126 : BitVec 32 := 256#32
  let v210 : BitVec 32 := Scalar.muli arg14 c256_i32_126
  v210
def k0_off49 (i : grid0.Coords) (k0_t4 : Fin (k0_t4_loop i).trips) : Fin 4 → Nat :=
  let c0_127 : Index := 0#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let v212 : Index := Scalar.indexCast arg14
  let c0_128 : Index := 0#32
  let c0_129 : Index := 0#32
  ![0, v212.toNat, 0, 0]
def k0_off50 (i : grid0.Coords) (k0_t4 : Fin (k0_t4_loop i).trips) : Fin 3 → Nat :=
  let c0_133 : Index := 0#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let c256_i32_126 : BitVec 32 := 256#32
  let v210 : BitVec 32 := Scalar.muli arg14 c256_i32_126
  let v211 : BitVec 32 := v210
  let v222 : Index := Scalar.indexCast v211
  let c0_134 : Index := 0#32
  ![0, v222.toNat, 0]
def k0_off51 (i : grid0.Coords) (k0_t4 : Fin (k0_t4_loop i).trips) : Fin 3 → Nat :=
  let c0_147 : Index := 0#32
  let c0_148 : Index := 0#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let c256_i32_126 : BitVec 32 := 256#32
  let v210 : BitVec 32 := Scalar.muli arg14 c256_i32_126
  let v211 : BitVec 32 := v210
  let v245 : Index := Scalar.indexCast v211
  ![0, 0, v245.toNat]
def k0_off52 (i : grid0.Coords) (k0_t4 : Fin (k0_t4_loop i).trips) : Fin 4 → Nat :=
  let c1_155 : Index := 1#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let v260 : Index := Scalar.indexCast arg14
  let c0_156 : Index := 0#32
  let c0_157 : Index := 0#32
  ![1, v260.toNat, 0, 0]
def k0_off53 (i : grid0.Coords) (k0_t4 : Fin (k0_t4_loop i).trips) : Fin 3 → Nat :=
  let c1_161 : Index := 1#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let c256_i32_126 : BitVec 32 := 256#32
  let v210 : BitVec 32 := Scalar.muli arg14 c256_i32_126
  let v211 : BitVec 32 := v210
  let v270 : Index := Scalar.indexCast v211
  let c0_162 : Index := 0#32
  ![1, v270.toNat, 0]
def k0_off54 (i : grid0.Coords) (k0_t4 : Fin (k0_t4_loop i).trips) : Fin 3 → Nat :=
  let c1_175 : Index := 1#32
  let c0_176 : Index := 0#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let c256_i32_126 : BitVec 32 := 256#32
  let v210 : BitVec 32 := Scalar.muli arg14 c256_i32_126
  let v211 : BitVec 32 := v210
  let v293 : Index := Scalar.indexCast v211
  ![1, 0, v293.toNat]
def k0_off55 (i : grid0.Coords) (k0_t4 : Fin (k0_t4_loop i).trips) : Fin 4 → Nat :=
  let c2_183 : Index := 2#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let v308 : Index := Scalar.indexCast arg14
  let c0_184 : Index := 0#32
  let c0_185 : Index := 0#32
  ![2, v308.toNat, 0, 0]
def k0_off56 (i : grid0.Coords) (k0_t4 : Fin (k0_t4_loop i).trips) : Fin 3 → Nat :=
  let c2_189 : Index := 2#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let c256_i32_126 : BitVec 32 := 256#32
  let v210 : BitVec 32 := Scalar.muli arg14 c256_i32_126
  let v211 : BitVec 32 := v210
  let v318 : Index := Scalar.indexCast v211
  let c0_190 : Index := 0#32
  ![2, v318.toNat, 0]
def k0_off57 (i : grid0.Coords) (k0_t4 : Fin (k0_t4_loop i).trips) : Fin 3 → Nat :=
  let c2_203 : Index := 2#32
  let c0_204 : Index := 0#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let c256_i32_126 : BitVec 32 := 256#32
  let v210 : BitVec 32 := Scalar.muli arg14 c256_i32_126
  let v211 : BitVec 32 := v210
  let v341 : Index := Scalar.indexCast v211
  ![2, 0, v341.toNat]
def k0_off58 (i : grid0.Coords) (k0_t4 : Fin (k0_t4_loop i).trips) : Fin 4 → Nat :=
  let c3_211 : Index := 3#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let v356 : Index := Scalar.indexCast arg14
  let c0_212 : Index := 0#32
  let c0_213 : Index := 0#32
  ![3, v356.toNat, 0, 0]
def k0_off59 (i : grid0.Coords) (k0_t4 : Fin (k0_t4_loop i).trips) : Fin 3 → Nat :=
  let c3_217 : Index := 3#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let c256_i32_126 : BitVec 32 := 256#32
  let v210 : BitVec 32 := Scalar.muli arg14 c256_i32_126
  let v211 : BitVec 32 := v210
  let v366 : Index := Scalar.indexCast v211
  let c0_218 : Index := 0#32
  ![3, v366.toNat, 0]
def k0_off60 (i : grid0.Coords) (k0_t4 : Fin (k0_t4_loop i).trips) : Fin 3 → Nat :=
  let c3_231 : Index := 3#32
  let c0_232 : Index := 0#32
  let c0_i32_106 : BitVec 32 := 0#32
  let arg1 : BitVec 32 := BitVec.ofNat 32 (i 1).val
  let c1_i32_104 : BitVec 32 := 1#32
  let v181 : BitVec 32 := Scalar.addi arg1 c1_i32_104
  let v183 : BitVec 32 := Scalar.subi v181 c0_i32_106
  let c1_i32_107 : BitVec 32 := 1#32
  let v185 : BitVec 32 := Scalar.divsi v183 c1_i32_107
  let v186 : BitVec 32 := Scalar.muli v185 c1_i32_107
  let v187 : BitVec 32 := Scalar.addi c0_i32_106 v186
  let c1_i32_109 : BitVec 32 := 1#32
  let arg14 : BitVec 32 := Scf.iv v187 c1_i32_109 k0_t4
  let c256_i32_126 : BitVec 32 := 256#32
  let v210 : BitVec 32 := Scalar.muli arg14 c256_i32_126
  let v211 : BitVec 32 := v210
  let v389 : Index := Scalar.indexCast v211
  ![3, 0, v389.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8x2048x64 : Shape := ⟨3, ![8, 2048, 64]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x1x2048, .f32⟩
  | .hbm, ⟨4, _⟩ => ⟨S8x2048x64, .f32⟩
  | .hbm, ⟨5, _⟩ => ⟨S8x2048x2048, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S8x2048, .f32⟩
  | .hbm, ⟨10, _⟩ => ⟨S8x2048x1, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .i1⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .i1⟩
  | .hbm, ⟨43, _⟩ => ⟨S_, .f32⟩
  | .hbm, ⟨44, _⟩ => ⟨S8x2048, .f32⟩
  | .hbm, ⟨45, _⟩ => ⟨S8x2048, .i1⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S_, .f32⟩
  | .hbm, ⟨51, _⟩ => ⟨S8x2048, .f32⟩
  | .hbm, ⟨52, _⟩ => ⟨S8x2048, .f32⟩
  | .hbm, ⟨53, _⟩ => ⟨S8x2048, .f32⟩
  | .hbm, ⟨54, _⟩ => ⟨S8x2048x1, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x64, .f32⟩
  | .hbm, ⟨68, _⟩ => ⟨S8x64x2048, .f32⟩
  | .hbm, ⟨69, _⟩ => ⟨S8x2048x64, .f32⟩
  | .hbm, ⟨70, _⟩ => ⟨S8x2048x2048, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S8x2048x1, .f32⟩
  | .hbm, ⟨78, _⟩ => ⟨S8x2048x2048, .f32⟩
  | .hbm, ⟨79, _⟩ => ⟨S8x2048x2048, .f32⟩
  | .hbm, ⟨80, _⟩ => ⟨S_, .f32⟩
  | .hbm, ⟨81, _⟩ => ⟨S8x2048, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S8x2048x2048, .f32⟩
  | .hbm, ⟨87, _⟩ => ⟨S8x2048x2048, .f32⟩
  | .hbm, ⟨88, _⟩ => ⟨S8x2048x2048, .f32⟩
  | .hbm, ⟨89, _⟩ => ⟨S_, .f32⟩
  | .hbm, ⟨90, _⟩ => ⟨S8x2048, .f32⟩
  | .hbm, ⟨91, _⟩ => ⟨S8x1x2048, .f32⟩
  | .hbm, ⟨92, _⟩ => ⟨S_, .f32⟩
  | .hbm, ⟨93, _⟩ => ⟨S8x2048, .f32⟩
  | .hbm, ⟨94, _⟩ => ⟨S8x2048x1, .f32⟩
  | .hbm, ⟨95, _⟩ => ⟨S_, .f32⟩
  | .hbm, ⟨96, _⟩ => ⟨S8x2048, .f32⟩
  | .hbm, ⟨97, _⟩ => ⟨S8x1x2048, .f32⟩
  | .hbm, ⟨98, _⟩ => ⟨S8x1x2048, .f32⟩
  | .hbm, ⟨99, _⟩ => ⟨S_, .f32⟩
  | .hbm, ⟨100, _⟩ => ⟨S8x2048x2048, .f32⟩
  | .hbm, ⟨101, _⟩ => ⟨S8x2048x2048, .f32⟩
  | .hbm, ⟨102, _⟩ => ⟨S8x2048x64, .f32⟩
  | .hbm, ⟨103, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== FfnUp.lean ====
abbrev S2048x1024 : Shape := ⟨2, ![2048, 1024]⟩
abbrev S1024x5632 : Shape := ⟨2, ![1024, 5632]⟩
abbrev S2048x5632 : Shape := ⟨2, ![2048, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpReferenceIdeal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DWUp.lean ====
abbrev S2048x1024 : Shape := ⟨2, ![2048, 1024]⟩
abbrev S2x2048x2816 : Shape := ⟨3, ![2, 2048, 2816]⟩
abbrev S1024x5632 : Shape := ⟨2, ![1024, 5632]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S1024x5632, .f32⟩
  | .local _ .vmem, ⟨0, _⟩ => ⟨S2048x1024, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1024x1408, .f32⟩
  | .local _ .vmem, ⟨4, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWUpReferenceIdeal.lean ====
abbrev S2048x1024 : Shape := ⟨2, ![2048, 1024]⟩
abbrev S2x2048x2816 : Shape := ⟨3, ![2, 2048, 2816]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S2048x5632, .bf16⟩
  | .hbm, ⟨7, _⟩ => ⟨S_, .f32⟩
  | .hbm, ⟨8, _⟩ => ⟨S1024x5632, .f32⟩
  | .hbm, ⟨9, _⟩ => ⟨S2048x1024, .f32⟩
  | .hbm, ⟨10, _⟩ => ⟨S2048x5632, .f32⟩
  | .hbm, ⟨11, _⟩ => ⟨S2048x5632, .f32⟩
  | .hbm, ⟨12, _⟩ => ⟨S5632x1024, .f32⟩
  | .hbm, ⟨13, _⟩ => ⟨S1024x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DH2.lean ====
abbrev S2x2048x2816 : Shape := ⟨3, ![2, 2048, 2816]⟩
abbrev S1024x5632 : Shape := ⟨2, ![1024, 5632]⟩
abbrev S2048x1024 : Shape := ⟨2, ![2048, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2x2048x2816, .bf16⟩
  | .hbm, ⟨1, _⟩ => ⟨S1024x5632, .bf16⟩
  | .hbm, ⟨2, _⟩ => ⟨S2048x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH2ReferenceIdeal.lean ====
abbrev S2x2048x2816 : Shape := ⟨3, ![2, 2048, 2816]⟩
abbrev S1024x5632 : Shape := ⟨2, ![1024, 5632]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S1024x5632, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S2048x5632, .bf16⟩
  | .hbm, ⟨7, _⟩ => ⟨S_, .f32⟩
  | .hbm, ⟨8, _⟩ => ⟨S2048x1024, .f32⟩
  | .hbm, ⟨9, _⟩ => ⟨S1024x5632, .f32⟩
  | .hbm, ⟨10, _⟩ => ⟨S2048x5632, .f32⟩
  | .hbm, ⟨11, _⟩ => ⟨S2048x5632, .f32⟩
  | .hbm, ⟨12, _⟩ => ⟨S2048x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DWDown.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .f32⟩
  | .local _ .vmem, ⟨4, _⟩ => ⟨S1408x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWDownReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DAct.lean ====
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActReferenceIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWOut.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DWOutReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DWIn.lean ====
abbrev S2048x1024 : Shape := ⟨2, ![2048, 1024]⟩
abbrev S2048x2176 : Shape := ⟨2, ![2048, 2176]⟩
abbrev S1024x2176 : Shape := ⟨2, ![1024, 2176]⟩
abbrev S2048x512 : Shape := ⟨2, ![2048, 512]⟩
abbrev S512x2176 : Shape := ⟨2, ![512, 2176]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2176, .bf16⟩
  | .hbm, ⟨2, _⟩ => ⟨S1024x2176, .f32⟩
  | .local _ .vmem, ⟨0, _⟩ => ⟨S2048x512, .bf16⟩
  | .local _ .vmem, ⟨1, _⟩ => ⟨S2048x512, .bf16⟩
  | .local _ .vmem, ⟨2, _⟩ => ⟨S2048x2176, .bf16⟩
  | .local _ .vmem, ⟨3, _⟩ => ⟨S512x2176, .f32⟩
  | .local _ .vmem, ⟨4, _⟩ => ⟨S512x2176, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInReferenceIdeal.lean ====
abbrev S2048x1024 : Shape := ⟨2, ![2048, 1024]⟩
abbrev S2048x2176 : Shape := ⟨2, ![2048, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2176, .bf16⟩
  | .hbm, ⟨2, _⟩ => ⟨S_, .f32⟩
  | .hbm, ⟨3, _⟩ => ⟨S1024x2176, .f32⟩
  | .hbm, ⟨4, _⟩ => ⟨S2048x1024, .f32⟩
  | .hbm, ⟨5, _⟩ => ⟨S2048x2176, .f32⟩
  | .hbm, ⟨6, _⟩ => ⟨S2048x2176, .f32⟩
  | .hbm, ⟨7, _⟩ => ⟨S2176x1024, .f32⟩
  | .hbm, ⟨8, _⟩ => ⟨S1024x2176, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DH.lean ====
abbrev S2048x2176 : Shape := ⟨2, ![2048, 2176]⟩
abbrev S1024x2176 : Shape := ⟨2, ![1024, 2176]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2176, .bf16⟩
  | .hbm, ⟨1, _⟩ => ⟨S1024x2176, .bf16⟩
  | .hbm, ⟨2, _⟩ => ⟨S2048x1024, .f32⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x1024, .f32⟩
  | .local _ .vmem, ⟨4, _⟩ => ⟨S1024x1024, .f32⟩
  | _, _ => ⟨S2048x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHReferenceIdeal.lean ====
abbrev S2048x2176 : Shape := ⟨2, ![2048, 2176]⟩
abbrev S1024x2176 : Shape := ⟨2, ![1024, 2176]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2176, .bf16⟩
  | .hbm, ⟨1, _⟩ => ⟨S1024x2176, .bf16⟩
  | .hbm, ⟨2, _⟩ => ⟨S_, .f32⟩
  | .hbm, ⟨3, _⟩ => ⟨S2048x1024, .f32⟩
  | .hbm, ⟨4, _⟩ => ⟨S1024x2176, .f32⟩
  | .hbm, ⟨5, _⟩ => ⟨S2048x2176, .f32⟩
  | .hbm, ⟨6, _⟩ => ⟨S2048x2176, .f32⟩
  | .hbm, ⟨7, _⟩ => ⟨S2048x1024, .f32⟩
  | _, _ => ⟨S2048x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S2048x1024 : Shape := ⟨2, ![2048, 1024]⟩
abbrev S1x1024 : Shape := ⟨2, ![1, 1024]⟩
abbrev S1024x2176 : Shape := ⟨2, ![1024, 2176]⟩
abbrev S2048x2176 : Shape := ⟨2, ![2048, 2176]⟩
abbrev S512x1024 : Shape := ⟨2, ![512, 1024]⟩
abbrev S512x2176 : Shape := ⟨2, ![512, 2176]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2176, .bf16⟩
  | .hbm, ⟨3, _⟩ => ⟨S2048x1024, .bf16⟩
  | .hbm, ⟨4, _⟩ => ⟨S2048x2176, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2176, .bf16⟩
  | .local _ .vmem, ⟨4, _⟩ => ⟨S512x1024, .bf16⟩
  | .local _ .vmem, ⟨5, _⟩ => ⟨S512x1024, .bf16⟩
  | .local _ .vmem, ⟨6, _⟩ => ⟨S512x2176, .f32⟩
  | .local _ .vmem, ⟨7, _⟩ => ⟨S512x2176, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjReferenceIdeal.lean ====
abbrev S2048x1024 : Shape := ⟨2, ![2048, 1024]⟩
abbrev S1x1024 : Shape := ⟨2, ![1, 1024]⟩
abbrev S1024x2176 : Shape := ⟨2, ![1024, 2176]⟩
abbrev S_ : Shape := ⟨0, ![]⟩
abbrev S2048 : Shape := ⟨1, ![2048]⟩
abbrev S2048x1 : Shape := ⟨2, ![2048, 1]⟩
abbrev S2048x2176 : Shape := ⟨2, ![2048, 2176]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2176, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S1024x2176, .f32⟩
  | .hbm, ⟨20, _⟩ => ⟨S2048x2176, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MixOut.lean ====
abbrev S2048x512 : Shape := ⟨2, ![2048, 512]⟩
abbrev S8x2048x64 : Shape := ⟨3, ![8, 2048, 64]⟩
abbrev S2048x1024 : Shape := ⟨2, ![2048, 1024]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S8x512x64 : Shape := ⟨3, ![8, 512, 64]⟩
abbrev S512x1024 : Shape := ⟨2, ![512, 1024]⟩
abbrev S512 : Shape := ⟨1, ![512]⟩
abbrev S512x1 : Shape := ⟨2, ![512, 1]⟩
abbrev S1x512x64 : Shape := ⟨3, ![1, 512, 64]⟩
abbrev S512x64 : Shape := ⟨2, ![512, 64]⟩

abbrev nBuf : Space → Nat
  | .hbm => 12
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S8x2048x64, .f32⟩
  | .hbm, ⟨2, _⟩ => ⟨S2048x1024, .f32⟩
  | .hbm, ⟨3, _⟩ => ⟨S512x512, .bf16⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .bf16⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S2048x1024, .bf16⟩
  | .local _ .vmem, ⟨0, _⟩ => ⟨S512x512, .f32⟩
  | .local _ .vmem, ⟨1, _⟩ => ⟨S512x512, .f32⟩
  | .local _ .vmem, ⟨2, _⟩ => ⟨S8x512x64, .f32⟩
  | .local _ .vmem, ⟨3, _⟩ => ⟨S8x512x64, .f32⟩
  | .local _ .vmem, ⟨4, _⟩ => ⟨S512x1024, .f32⟩
  | .local _ .vmem, ⟨5, _⟩ => ⟨S512x1024, .f32⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixOutReferenceIdeal.lean ====
abbrev S2048x512 : Shape := ⟨2, ![2048, 512]⟩
abbrev S8x2048x64 : Shape := ⟨3, ![8, 2048, 64]⟩
abbrev S2048x1024 : Shape := ⟨2, ![2048, 1024]⟩
abbrev S512x512 : Shape := ⟨2, ![512, 512]⟩
abbrev S1x512 : Shape := ⟨2, ![1, 512]⟩
abbrev S1024x1024 : Shape := ⟨2, ![1024, 1024]⟩
abbrev S1x1024 : Shape := ⟨2, ![1, 1024]⟩
abbrev S2048x8x64 : Shape := ⟨3, ![2048, 8, 64]⟩
abbrev S_ : Shape := ⟨0, ![]⟩
abbrev S2048 : Shape := ⟨1, ![2048]⟩
abbrev S2048x1 : Shape := ⟨2, ![2048, 1]⟩

abbrev nBuf : Space → Nat
  | .hbm => 92
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S8x2048x64, .f32⟩
  | .hbm, ⟨2, _⟩ => ⟨S2048x1024, .f32⟩
  | .hbm, ⟨3, _⟩ => ⟨S512x512, .bf16⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1024x1024, .bf16⟩
  | .hbm, ⟨8, _⟩ => ⟨S1x1024, .f32⟩
  | .hbm, ⟨9, _⟩ => ⟨S2048x8x64, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S_, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S512x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x512, .f32⟩
  | .hbm, ⟨68, _⟩ => ⟨S2048x512, .f32⟩
  | .hbm, ⟨69, _⟩ => ⟨S2048x512, .f32⟩
  | .hbm, ⟨70, _⟩ => ⟨S2048x512, .f32⟩
  | .hbm, ⟨71, _⟩ => ⟨S2048x1024, .f32⟩
  | .hbm, ⟨72, _⟩ => ⟨S1024x1024, .f32⟩
  | .hbm, ⟨73, _⟩ => ⟨S2048x1024, .f32⟩
  | .hbm, ⟨74, _⟩ => ⟨S2048x1024, .f32⟩
  | .hbm, ⟨75, _⟩ => ⟨S2048x1024, .bf16⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S2048x1, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== DownLoss.lean ====
abbrev S2048x2816 : Shape := ⟨2, ![2048, 2816]⟩
abbrev S2816x1024 : Shape := ⟨2, ![2816, 1024]⟩
abbrev S2048x1024 : Shape := ⟨2, ![2048, 1024]⟩
abbrev S8x128 : Shape := ⟨2, ![8, 128]⟩
abbrev S512x2816 : Shape := ⟨2, ![512, 2816]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 7
  | .vmem => 12
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DownLossReferenceIdeal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x1024, .f32⟩
  | .hbm, ⟨4, _⟩ => ⟨S2048x2816, .f32⟩
  | .hbm, ⟨5, _⟩ => ⟨S2816x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048x1024, .f32⟩
  | .hbm, ⟨30, _⟩ => ⟨S2048x1024, .f32⟩
  | .hbm, ⟨31, _⟩ => ⟨S2048x1024, .bf16⟩
  | .hbm, ⟨32, _⟩ => ⟨S8x128, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== AdamIn.lean ====
abbrev S1024x514 : Shape := ⟨2, ![1024, 514]⟩
abbrev S256x514 : Shape := ⟨2, ![256, 514]⟩

abbrev nBuf : Space → Nat
  | .hbm => 7
  | .vmem => 14
  | .smem => 0
  | _ => 0

abbrev bufTy : (tb : Table) → Fin (tcTables nBuf tb) → BufTy
  | .hbm, ⟨0, _⟩ => ⟨S1024x514, .f32⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S1024x514, .f32⟩
  | .hbm, ⟨5, _⟩ => ⟨S1024x514, .f32⟩
  | .hbm, ⟨6, _⟩ => ⟨S1024x514, .f32⟩
  | .local _ .vmem, ⟨0, _⟩ => ⟨S256x514, .f32⟩
  | .local _ .vmem, ⟨1, _⟩ => ⟨S256x514, .f32⟩
  | .local _ .vmem, ⟨2, _⟩ => ⟨S256x514, .f32⟩
  | .local _ .vmem, ⟨3, _⟩ => ⟨S256x514, .f32⟩
  | .local _ .vmem, ⟨4, _⟩ => ⟨S256x514, .f32⟩
  | .local _ .vmem, ⟨5, _⟩ => ⟨S256x514, .f32⟩
  | .local _ .vmem, ⟨6, _⟩ => ⟨S256x514, .f32⟩
  | .local _ .vmem, ⟨7, _⟩ => ⟨S256x514, .f32⟩
  | .local _ .vmem, ⟨8, _⟩ => ⟨S256x514, .f32⟩
  | .local _ .vmem, ⟨9, _⟩ => ⟨S256x514, .f32⟩
  | .local _ .vmem, ⟨10, _⟩ => ⟨S256x514, .f32⟩
  | .local _ .vmem, ⟨11, _⟩ => ⟨S256x514, .f32⟩
  | .local _ .vmem, ⟨12, _⟩ => ⟨S256x514, .f32⟩
  | .local _ .vmem, ⟨13, _⟩ => ⟨S256x514, .f32⟩
  | _, _ => ⟨S1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S1024x514 : Shape := ⟨2, ![1024, 514]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x514, .f32⟩
  | .hbm, ⟨1, _⟩ => ⟨S1024x514, .f32⟩
  | .hbm, ⟨2, _⟩ => ⟨S1024x514, .f32⟩
  | .hbm, ⟨3, _⟩ => ⟨S1024x514, .f32⟩
  | .hbm, ⟨4, _⟩ => ⟨S_, .f32⟩
  | .hbm, ⟨5, _⟩ => ⟨S1024x514, .f32⟩
  | .hbm, ⟨6, _⟩ => ⟨S1024x514, .f32⟩
  | .hbm, ⟨7, _⟩ => ⟨S_, .f32⟩
  | .hbm, ⟨8, _⟩ => ⟨S1024x514, .f32⟩
  | .hbm, ⟨9, _⟩ => ⟨S1024x514, .f32⟩
  | .hbm, ⟨10, _⟩ => ⟨S1024x514, .f32⟩
  | .hbm, ⟨11, _⟩ => ⟨S_, .f32⟩
  | .hbm, ⟨12, _⟩ => ⟨S1024x514, .f32⟩
  | .hbm, ⟨13, _⟩ => ⟨S1024x514, .f32⟩
  | .hbm, ⟨14, _⟩ => ⟨S1024x514, .f32⟩
  | .hbm, ⟨15, _⟩ => ⟨S_, .f32⟩
  | .hbm, ⟨16, _⟩ => ⟨S1024x514, .f32⟩
  | .hbm, ⟨17, _⟩ => ⟨S1024x514, .f32⟩
  | .hbm, ⟨18, _⟩ => ⟨S1024x514, .f32⟩
  | .hbm, ⟨19, _⟩ => ⟨S_, .f32⟩
  | .hbm, ⟨20, _⟩ => ⟨S1024x514, .f32⟩
  | .hbm, ⟨21, _⟩ => ⟨S1024x514, .f32⟩
  | .hbm, ⟨22, _⟩ => ⟨S_, .f32⟩
  | .hbm, ⟨23, _⟩ => ⟨S1024x514, .f32⟩
  | .hbm, ⟨24, _⟩ => ⟨S1024x514, .f32⟩
  | .hbm, ⟨25, _⟩ => ⟨S1024x514, .f32⟩
  | .hbm, ⟨26, _⟩ => ⟨S_, .f32⟩
  | .hbm, ⟨27, _⟩ => ⟨S1024x514, .f32⟩
  | .hbm, ⟨28, _⟩ => ⟨S1024x514, .f32⟩
  | .hbm, ⟨29, _⟩ => ⟨S1024x514, .f32⟩
  | .hbm, ⟨30, _⟩ => ⟨S_, .f32⟩
  | .hbm, ⟨31, _⟩ => ⟨S1024x514, .f32⟩
  | .hbm, ⟨32, _⟩ => ⟨S1024x514, .f32⟩
  | .hbm, ⟨33, _⟩ => ⟨S1024x514, .f32⟩
  | .hbm, ⟨34, _⟩ => ⟨S_, .f32⟩
  | .hbm, ⟨35, _⟩ => ⟨S1024x514, .f32⟩
  | .hbm, ⟨36, _⟩ => ⟨S1024x514, .f32⟩
  | _, _ => ⟨S1024x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S128x512 : Shape := ⟨2, ![128, 512]⟩
abbrev S64x512 : Shape := ⟨2, ![64, 512]⟩

abbrev nBuf : Space → Nat
  | .hbm => 7
  | .vmem => 14
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluReferenceIdeal.lean ====
abbrev S128x512 : Shape := ⟨2, ![128, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S128x512, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S128x512, .f32⟩
  | .hbm, ⟨11, _⟩ => ⟨S_, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S_, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S_, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpReferenceIdeal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S3x1408 : Shape := ⟨2, ![3, 1408]⟩

abbrev nBuf : Space → Nat
  | .hbm => 7
  | .vmem => 7
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InNormBwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InNormBwdReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Tiles.lean ====
module

public import proofs.«01_k».proof.Proof.Gen.KernelIdeal.Skeleton
public import Idealize.ShloMosaic.Lib.WritesUnit
public import Idealize.ShloMosaic.Lib.Pointwise.Index

@[expose] public section

set_option maxRecDepth 16384

noncomputable section

namespace Cert.Proof.Attn

open Cert.KernelIdeal Cert.KernelIdeal.Gen
open Idealize.ShloMosaic Idealize.ShloMosaic.TcCoe

/-! ## The places the body reads and writes, in closed form -/

theorem at_off1 : ∀ (i : grid0.Coords) (k : Fin (k0_t1_loop i).trips), k0_off1 i k = ![0, 256 * k.val, 0] := by decide +kernel
theorem at_off2 : ∀ (i : grid0.Coords) (k : Fin (k0_t1_loop i).trips), k0_off2 i k = ![0, 0, 256 * k.val] := by decide +kernel
theorem at_off3 : ∀ (i : grid0.Coords) (k : Fin (k0_t1_loop i).trips), k0_off3 i k = ![0, k.val, 0, 0] := by decide +kernel
theorem at_off4 : ∀ (i : grid0.Coords) (k : Fin (k0_t1_loop i).trips), k0_off4 i k = ![1, 256 * k.val, 0] := by decide +kernel
theorem at_off5 : ∀ (i : grid0.Coords) (k : Fin (k0_t1_loop i).trips), k0_off5 i k = ![1, 0, 256 * k.val] := by decide +kernel
theorem at_off6 : ∀ (i : grid0.Coords) (k : Fin (k0_t1_loop i).trips), k0_off6 i k = ![1, k.val, 0, 0] := by decide +kernel
theorem at_off7 : ∀ (i : grid0.Coords) (k : Fin (k0_t1_loop i).trips), k0_off7 i k = ![2, 256 * k.val, 0] := by decide +kernel
theorem at_off8 : ∀ (i : grid0.Coords) (k : Fin (k0_t1_loop i).trips), k0_off8 i k = ![2, 0, 256 * k.val] := by decide +kernel
theorem at_off9 : ∀ (i : grid0.Coords) (k : Fin (k0_t1_loop i).trips), k0_off9 i k = ![2, k.val, 0, 0] := by decide +kernel
theorem at_off10 : ∀ (i : grid0.Coords) (k : Fin (k0_t1_loop i).trips), k0_off10 i k = ![3, 256 * k.val, 0] := by decide +kernel
theorem at_off11 : ∀ (i : grid0.Coords) (k : Fin (k0_t1_loop i).trips), k0_off11 i k = ![3, 0, 256 * k.val] := by decide +kernel
theorem at_off12 : ∀ (i : grid0.Coords) (k : Fin (k0_t1_loop i).trips), k0_off12 i k = ![3, k.val, 0, 0] := by decide +kernel
theorem at_off25 : ∀ (i : grid0.Coords), k0_off25 i = ![0, 256 * (i 1).val, 0] := by decide +kernel
theorem at_off26 : ∀ (i : grid0.Coords), k0_off26 i = ![0, 0, 256 * (i 1).val] := by decide +kernel
theorem at_off27 : ∀ (i : grid0.Coords), k0_off27 i = ![0, (i 1).val, 0, 0] := by decide +kernel
theorem at_off37 : ∀ (i : grid0.Coords) (k : Fin (k0_t3_loop i).trips), k0_off37 i k = ![0, k.val, 0, 0] := by decide +kernel
theorem at_off38 : ∀ (i : grid0.Coords) (k : Fin (k0_t3_loop i).trips), k0_off38 i k = ![0, 256 * k.val, 0] := by decide +kernel
theorem at_off39 : ∀ (i : grid0.Coords) (k : Fin (k0_t3_loop i).trips), k0_off39 i k = ![0, 0, 256 * k.val] := by decide +kernel
theorem at_off28 : ∀ (i : grid0.Coords), k0_off28 i = ![1, 256 * (i 1).val, 0] := by decide +kernel
theorem at_off29 : ∀ (i : grid0.Coords), k0_off29 i = ![1, 0, 256 * (i 1).val] := by decide +kernel
theorem at_off30 : ∀ (i : grid0.Coords), k0_off30 i = ![1, (i 1).val, 0, 0] := by decide +kernel
theorem at_off40 : ∀ (i : grid0.Coords) (k : Fin (k0_t3_loop i).trips), k0_off40 i k = ![1, k.val, 0, 0] := by decide +kernel
theorem at_off41 : ∀ (i : grid0.Coords) (k : Fin (k0_t3_loop i).trips), k0_off41 i k = ![1, 256 * k.val, 0] := by decide +kernel
theorem at_off42 : ∀ (i : grid0.Coords) (k : Fin (k0_t3_loop i).trips), k0_off42 i k = ![1, 0, 256 * k.val] := by decide +kernel
theorem at_off31 : ∀ (i : grid0.Coords), k0_off31 i = ![2, 256 * (i 1).val, 0] := by decide +kernel
theorem at_off32 : ∀ (i : grid0.Coords), k0_off32 i = ![2, 0, 256 * (i 1).val] := by decide +kernel
theorem at_off33 : ∀ (i : grid0.Coords), k0_off33 i = ![2, (i 1).val, 0, 0] := by decide +kernel
theorem at_off43 : ∀ (i : grid0.Coords) (k : Fin (k0_t3_loop i).trips), k0_off43 i k = ![2, k.val, 0, 0] := by decide +kernel
theorem at_off44 : ∀ (i : grid0.Coords) (k : Fin (k0_t3_loop i).trips), k0_off44 i k = ![2, 256 * k.val, 0] := by decide +kernel
theorem at_off45 : ∀ (i : grid0.Coords) (k : Fin (k0_t3_loop i).trips), k0_off45 i k = ![2, 0, 256 * k.val] := by decide +kernel
theorem at_off34 : ∀ (i : grid0.Coords), k0_off34 i = ![3, 256 * (i 1).val, 0] := by decide +kernel
theorem at_off35 : ∀ (i : grid0.Coords), k0_off35 i = ![3, 0, 256 * (i 1).val] := by decide +kernel
theorem at_off36 : ∀ (i : grid0.Coords), k0_off36 i = ![3, (i 1).val, 0, 0] := by decide +kernel
theorem at_off46 : ∀ (i : grid0.Coords) (k : Fin (k0_t3_loop i).trips), k0_off46 i k = ![3, k.val, 0, 0] := by decide +kernel
theorem at_off47 : ∀ (i : grid0.Coords) (k : Fin (k0_t3_loop i).trips), k0_off47 i k = ![3, 256 * k.val, 0] := by decide +kernel
theorem at_off48 : ∀ (i : grid0.Coords) (k : Fin (k0_t3_loop i).trips), k0_off48 i k = ![3, 0, 256 * k.val] := by decide +kernel

/-- The loop over the tiles before the diagonal makes as many trips as there are such tiles. -/
theorem trips1 : ∀ i : grid0.Coords, (k0_t1_loop i).trips = (i 1).val := by decide +kernel
/-- Its remainder makes none. -/
theorem trips2 : ∀ i : grid0.Coords, (k0_t2_loop i).trips = 0 := by decide +kernel
/-- The second loop takes the diagonal's tile as well. -/
theorem trips3 : ∀ i : grid0.Coords, (k0_t3_loop i).trips = (i 1).val + 1 := by decide +kernel
/-- Its remainder makes none. -/
theorem trips4 : ∀ i : grid0.Coords, (k0_t4_loop i).trips = 0 := by decide +kernel

/-! ## Tiles of the body's blocks -/

variable {F : FTy → Type}

/-- Head `h`'s slab of a block over one query tile. -/
def headQ {e : EltTy} (x : Vec F S4x256x64 e) (h : Fin 4) : Vec F S1x256x64 e := fun y => x (ix3 h (y 1) (y 2))

/-- Head `h`'s column of a block with one number per query. -/
def headL {e : EltTy} (x : Vec F S4x256x1 e) (h : Fin 4) : Vec F S1x256x1 e := fun y => x (ix3 h (y 1) (y 2))

/-- Rows of key tile `j` of head `h`. -/
def tileK {e : EltTy} (x : Vec F S4x2048x64 e) (h : Fin 4) (j : Fin 8) : Vec F S1x256x64 e :=
  fun y => x (ix3 h (⟨256 * j.val + (y 1).val, by have h1 : (y 1).val < 256 := (y 1).isLt; have := j.isLt; omega⟩ : Fin 2048) (y 2))

/-- The entries of key tile `j` of head `h` in a row with one number per key. -/
def tileC {e : EltTy} (x : Vec F S4x1x2048 e) (h : Fin 4) (j : Fin 8) : Vec F S1x1x256 e :=
  fun y => x (ix3 h (y 1) (⟨256 * j.val + (y 2).val, by have h1 : (y 2).val < 256 := (y 2).isLt; have := j.isLt; omega⟩ : Fin 2048))

/-- The square of head `h` and key tile `j` kept in a scratch buffer. -/
def tileP {e : EltTy} (x : Vec F S4x8x256x256 e) (h : Fin 4) (j : Fin 8) : Vec F S1x1x256x256 e :=
  fun y => x (ix4 h j (y 2) (y 3))

section Access

variable {sig : RefSig} {κ : Kind} {sp : Space} {e : EltTy}

/-- A load at a tile's place reads the tile. -/
theorem readAt_headQ (v : View sig κ sp S4x256x64 e) (f : v.ty.Contents (Elt F)) {off : Fin 3 → ℕ}
    (inb : ∀ a, off a + S1x256x64.size a ≤ S4x256x64.size a) (h : Fin 4) (ho : off = ![h.val, 0, 0]) :
    v.readAt (Elt F) (Rect.unit (s := S4x256x64) off S1x256x64.size inb).toLoadRect f = headQ (v.read (Elt F) f) h := by
  subst ho
  funext y
  refine congrArg (v.read (Elt F) f) (funext fun a => Fin.ext ?_)
  match a with
  | ⟨0, _⟩ => have h0 : (y 0).val < 1 := (y 0).isLt; show h.val + 1 * (y 0).val = h.val; omega
  | ⟨1, _⟩ => show 0 + 1 * (y 1).val = (y 1).val; omega
  | ⟨2, _⟩ => show 0 + 1 * (y 2).val = (y 2).val; omega

/-- A store at a tile's place changes that tile alone. -/
theorem writes_headQ (v : View sig κ sp S4x256x64 e) (f : v.ty.Contents (Elt F)) {off : Fin 3 → ℕ}
    (inb : ∀ a, off a + S1x256x64.size a ≤ S4x256x64.size a) (w : Vec F S1x256x64 e) (L : List (View.Piece (Elt F) S4x256x64 e)) (h h' : Fin 4)
    (ho : off = ![h.val, 0, 0]) :
    headQ (v.read (Elt F) (v.writes (Elt F) f ((⟨Rect.unit (s := S4x256x64) off S1x256x64.size inb, w⟩ : View.Piece (Elt F) S4x256x64 e) :: L))) h'
      = if h' = h then w else headQ (v.read (Elt F) (v.writes (Elt F) f L)) h' := by
  funext y
  by_cases hh : h' = h
  · obtain rfl := hh
    rw [if_pos rfl]
    refine View.read_writes_cons_unit_of_mem v f inb w L _ y ho fun a => ?_
    match a with
    | ⟨0, _⟩ => have h0 : (y 0).val < 1 := (y 0).isLt; show h'.val = h'.val + (y 0).val; omega
    | ⟨1, _⟩ => show (y 1).val = 0 + (y 1).val; omega
    | ⟨2, _⟩ => show (y 2).val = 0 + (y 2).val; omega
  · rw [if_neg hh]
    have hj : h'.val ≠ h.val := fun e => hh (Fin.ext e)
    refine View.read_writes_cons_unit_of_not_mem v f inb w L _ ho 0 ?_
    show h'.val < h.val ∨ h.val + 1 ≤ h'.val; omega

/-- A load at a tile's place reads the tile. -/
theorem readAt_headL (v : View sig κ sp S4x256x1 e) (f : v.ty.Contents (Elt F)) {off : Fin 3 → ℕ}
    (inb : ∀ a, off a + S1x256x1.size a ≤ S4x256x1.size a) (h : Fin 4) (ho : off = ![h.val, 0, 0]) :
    v.readAt (Elt F) (Rect.unit (s := S4x256x1) off S1x256x1.size inb).toLoadRect f = headL (v.read (Elt F) f) h := by
  subst ho
  funext y
  refine congrArg (v.read (Elt F) f) (funext fun a => Fin.ext ?_)
  match a with
  | ⟨0, _⟩ => have h0 : (y 0).val < 1 := (y 0).isLt; show h.val + 1 * (y 0).val = h.val; omega
  | ⟨1, _⟩ => show 0 + 1 * (y 1).val = (y 1).val; omega
  | ⟨2, _⟩ => show 0 + 1 * (y 2).val = (y 2).val; omega

/-- A store at a tile's place changes that tile alone. -/
theorem writes_headL (v : View sig κ sp S4x256x1 e) (f : v.ty.Contents (Elt F)) {off : Fin 3 → ℕ}
    (inb : ∀ a, off a + S1x256x1.size a ≤ S4x256x1.size a) (w : Vec F S1x256x1 e) (L : List (View.Piece (Elt F) S4x256x1 e)) (h h' : Fin 4)
    (ho : off = ![h.val, 0, 0]) :
    headL (v.read (Elt F) (v.writes (Elt F) f ((⟨Rect.unit (s := S4x256x1) off S1x256x1.size inb, w⟩ : View.Piece (Elt F) S4x256x1 e) :: L))) h'
      = if h' = h then w else headL (v.read (Elt F) (v.writes (Elt F) f L)) h' := by
  funext y
  by_cases hh : h' = h
  · obtain rfl := hh
    rw [if_pos rfl]
    refine View.read_writes_cons_unit_of_mem v f inb w L _ y ho fun a => ?_
    match a with
    | ⟨0, _⟩ => have h0 : (y 0).val < 1 := (y 0).isLt; show h'.val = h'.val + (y 0).val; omega
    | ⟨1, _⟩ => show (y 1).val = 0 + (y 1).val; omega
    | ⟨2, _⟩ => show (y 2).val = 0 + (y 2).val; omega
  · rw [if_neg hh]
    have hj : h'.val ≠ h.val := fun e => hh (Fin.ext e)
    refine View.read_writes_cons_unit_of_not_mem v f inb w L _ ho 0 ?_
    show h'.val < h.val ∨ h.val + 1 ≤ h'.val; omega

/-- A load at a tile's place reads the tile. -/
theorem readAt_tileK (v : View sig κ sp S4x2048x64 e) (f : v.ty.Contents (Elt F)) {off : Fin 3 → ℕ}
    (inb : ∀ a, off a + S1x256x64.size a ≤ S4x2048x64.size a) (h : Fin 4) (j : Fin 8) (ho : off = ![h.val, 256 * j.val, 0]) :
    v.readAt (Elt F) (Rect.unit (s := S4x2048x64) off S1x256x64.size inb).toLoadRect f = tileK (v.read (Elt F) f) h j := by
  subst ho
  funext y
  refine congrArg (v.read (Elt F) f) (funext fun a => Fin.ext ?_)
  match a with
  | ⟨0, _⟩ => have h0 : (y 0).val < 1 := (y 0).isLt; show h.val + 1 * (y 0).val = h.val; omega
  | ⟨1, _⟩ => show 256 * j.val + 1 * (y 1).val = 256 * j.val + (y 1).val; omega
  | ⟨2, _⟩ => show 0 + 1 * (y 2).val = (y 2).val; omega

/-- A store at a tile's place changes that tile alone. -/
theorem writes_tileK (v : View sig κ sp S4x2048x64 e) (f : v.ty.Contents (Elt F)) {off : Fin 3 → ℕ}
    (inb : ∀ a, off a + S1x256x64.size a ≤ S4x2048x64.size a) (w : Vec F S1x256x64 e) (L : List (View.Piece (Elt F) S4x2048x64 e)) (h h' : Fin 4) (j j' : Fin 8)
    (ho : off = ![h.val, 256 * j.val, 0]) :
    tileK (v.read (Elt F) (v.writes (Elt F) f ((⟨Rect.unit (s := S4x2048x64) off S1x256x64.size inb, w⟩ : View.Piece (Elt F) S4x2048x64 e) :: L))) h' j'
      = if h' = h ∧ j' = j then w else tileK (v.read (Elt F) (v.writes (Elt F) f L)) h' j' := by
  funext y
  by_cases hh : h' = h ∧ j' = j
  · obtain ⟨rfl, rfl⟩ := hh
    rw [if_pos ⟨rfl, rfl⟩]
    refine View.read_writes_cons_unit_of_mem v f inb w L _ y ho fun a => ?_
    match a with
    | ⟨0, _⟩ => have h0 : (y 0).val < 1 := (y 0).isLt; show h'.val = h'.val + (y 0).val; omega
    | ⟨1, _⟩ => show 256 * j'.val + (y 1).val = 256 * j'.val + (y 1).val; omega
    | ⟨2, _⟩ => show (y 2).val = 0 + (y 2).val; omega
  · rw [if_neg hh]
    by_cases h1 : h' = h
    · have hj : j'.val ≠ j.val := fun e => hh ⟨h1, Fin.ext e⟩
      refine View.read_writes_cons_unit_of_not_mem v f inb w L _ ho 1 ?_
      have hy : (y 1).val < 256 := (y 1).isLt; show 256 * j'.val + (y 1).val < 256 * j.val ∨ 256 * j.val + 256 ≤ 256 * j'.val + (y 1).val; omega
    · have hj : h'.val ≠ h.val := fun e => h1 (Fin.ext e)
      refine View.read_writes_cons_unit_of_not_mem v f inb w L _ ho 0 ?_
      show h'.val < h.val ∨ h.val + 1 ≤ h'.val; omega

/-- A load at a tile's place reads the tile. -/
theorem readAt_tileC (v : View sig κ sp S4x1x2048 e) (f : v.ty.Contents (Elt F)) {off : Fin 3 → ℕ}
    (inb : ∀ a, off a + S1x1x256.size a ≤ S4x1x2048.size a) (h : Fin 4) (j : Fin 8) (ho : off = ![h.val, 0, 256 * j.val]) :
    v.readAt (Elt F) (Rect.unit (s := S4x1x2048) off S1x1x256.size inb).toLoadRect f = tileC (v.read (Elt F) f) h j := by
  subst ho
  funext y
  refine congrArg (v.read (Elt F) f) (funext fun a => Fin.ext ?_)
  match a with
  | ⟨0, _⟩ => have h0 : (y 0).val < 1 := (y 0).isLt; show h.val + 1 * (y 0).val = h.val; omega
  | ⟨1, _⟩ => show 0 + 1 * (y 1).val = (y 1).val; omega
  | ⟨2, _⟩ => show 256 * j.val + 1 * (y 2).val = 256 * j.val + (y 2).val; omega

/-- A store at a tile's place changes that tile alone. -/
theorem writes_tileC (v : View sig κ sp S4x1x2048 e) (f : v.ty.Contents (Elt F)) {off : Fin 3 → ℕ}
    (inb : ∀ a, off a + S1x1x256.size a ≤ S4x1x2048.size a) (w : Vec F S1x1x256 e) (L : List (View.Piece (Elt F) S4x1x2048 e)) (h h' : Fin 4) (j j' : Fin 8)
    (ho : off = ![h.val, 0, 256 * j.val]) :
    tileC (v.read (Elt F) (v.writes (Elt F) f ((⟨Rect.unit (s := S4x1x2048) off S1x1x256.size inb, w⟩ : View.Piece (Elt F) S4x1x2048 e) :: L))) h' j'
      = if h' = h ∧ j' = j then w else tileC (v.read (Elt F) (v.writes (Elt F) f L)) h' j' := by
  funext y
  by_cases hh : h' = h ∧ j' = j
  · obtain ⟨rfl, rfl⟩ := hh
    rw [if_pos ⟨rfl, rfl⟩]
    refine View.read_writes_cons_unit_of_mem v f inb w L _ y ho fun a => ?_
    match a with
    | ⟨0, _⟩ => have h0 : (y 0).val < 1 := (y 0).isLt; show h'.val = h'.val + (y 0).val; omega
    | ⟨1, _⟩ => show (y 1).val = 0 + (y 1).val; omega
    | ⟨2, _⟩ => show 256 * j'.val + (y 2).val = 256 * j'.val + (y 2).val; omega
  · rw [if_neg hh]
    by_cases h1 : h' = h
    · have hj : j'.val ≠ j.val := fun e => hh ⟨h1, Fin.ext e⟩
      refine View.read_writes_cons_unit_of_not_mem v f inb w L _ ho 2 ?_
      have hy : (y 2).val < 256 := (y 2).isLt; show 256 * j'.val + (y 2).val < 256 * j.val ∨ 256 * j.val + 256 ≤ 256 * j'.val + (y 2).val; omega
    · have hj : h'.val ≠ h.val := fun e => h1 (Fin.ext e)
      refine View.read_writes_cons_unit_of_not_mem v f inb w L _ ho 0 ?_
      show h'.val < h.val ∨ h.val + 1 ≤ h'.val; omega

/-- A load at a tile's place reads the tile. -/
theorem readAt_tileP (v : View sig κ sp S4x8x256x256 e) (f : v.ty.Contents (Elt F)) {off : Fin 4 → ℕ}
    (inb : ∀ a, off a + S1x1x256x256.size a ≤ S4x8x256x256.size a) (h : Fin 4) (j : Fin 8) (ho : off = ![h.val, j.val, 0, 0]) :
    v.readAt (Elt F) (Rect.unit (s := S4x8x256x256) off S1x1x256x256.size inb).toLoadRect f = tileP (v.read (Elt F) f) h j := by
  subst ho
  funext y
  refine congrArg (v.read (Elt F) f) (funext fun a => Fin.ext ?_)
  match a with
  | ⟨0, _⟩ => have h0 : (y 0).val < 1 := (y 0).isLt; show h.val + 1 * (y 0).val = h.val; omega
  | ⟨1, _⟩ => have h0 : (y 1).val < 1 := (y 1).isLt; show j.val + 1 * (y 1).val = j.val; omega
  | ⟨2, _⟩ => show 0 + 1 * (y 2).val = (y 2).val; omega
  | ⟨3, _⟩ => show 0 + 1 * (y 3).val = (y 3).val; omega

/-- A store at a tile's place changes that tile alone. -/
theorem writes_tileP (v : View sig κ sp S4x8x256x256 e) (f : v.ty.Contents (Elt F)) {off : Fin 4 → ℕ}
    (inb : ∀ a, off a + S1x1x256x256.size a ≤ S4x8x256x256.size a) (w : Vec F S1x1x256x256 e) (L : List (View.Piece (Elt F) S4x8x256x256 e)) (h h' : Fin 4) (j j' : Fin 8)
    (ho : off = ![h.val, j.val, 0, 0]) :
    tileP (v.read (Elt F) (v.writes (Elt F) f ((⟨Rect.unit (s := S4x8x256x256) off S1x1x256x256.size inb, w⟩ : View.Piece (Elt F) S4x8x256x256 e) :: L))) h' j'
      = if h' = h ∧ j' = j then w else tileP (v.read (Elt F) (v.writes (Elt F) f L)) h' j' := by
  funext y
  by_cases hh : h' = h ∧ j' = j
  · obtain ⟨rfl, rfl⟩ := hh
    rw [if_pos ⟨rfl, rfl⟩]
    refine View.read_writes_cons_unit_of_mem v f inb w L _ y ho fun a => ?_
    match a with
    | ⟨0, _⟩ => have h0 : (y 0).val < 1 := (y 0).isLt; show h'.val = h'.val + (y 0).val; omega
    | ⟨1, _⟩ => have h0 : (y 1).val < 1 := (y 1).isLt; show j'.val = j'.val + (y 1).val; omega
    | ⟨2, _⟩ => show (y 2).val = 0 + (y 2).val; omega
    | ⟨3, _⟩ => show (y 3).val = 0 + (y 3).val; omega
  · rw [if_neg hh]
    by_cases h1 : h' = h
    · have hj : j'.val ≠ j.val := fun e => hh ⟨h1, Fin.ext e⟩
      refine View.read_writes_cons_unit_of_not_mem v f inb w L _ ho 1 ?_
      show j'.val < j.val ∨ j.val + 1 ≤ j'.val; omega
    · have hj : h'.val ≠ h.val := fun e => h1 (Fin.ext e)
      refine View.read_writes_cons_unit_of_not_mem v f inb w L _ ho 0 ?_
      show h'.val < h.val ∨ h.val + 1 ≤ h'.val; omega

end Access

end Cert.Proof.Attn
-- ==== Proof.Values.lean ====
module

public import proofs.«01_k».proof.Proof.Tiles

@[expose] public section

noncomputable section

namespace Cert.Proof.Attn

open Cert.KernelIdeal Cert.KernelIdeal.Gen
open Idealize.ShloMosaic Idealize.ShloMosaic.TcCoe

variable {F : FTy → Type} [FloatOps F]

/-! # What the body computes from its input blocks

Per head `h` and key tile `j`: the softmax's weights, their gradients, the rows' sums of the products of the two, and
from these the terms added to the four gradients. -/

/-- The six blocks one grid point reads: the queries, keys, values, key biases, the rows' log-sum-exp and the gradient
of the attention's result. -/
structure Blocks (F : FTy → Type) where
  q : Vec F S4x256x64 .bf16
  k : Vec F S4x2048x64 .bf16
  v : Vec F S4x2048x64 .bf16
  c : Vec F S4x1x2048 .f32
  l : Vec F S4x256x1 .f32
  o : Vec F S4x256x64 .f32

namespace Blocks

/-- The weights of a tile lying wholly before the query tile. -/
def early (b : Blocks F) (h : Fin 4) (j : Fin 8) : Vec F S1x1x256x256 .f32 :=
  k0_pay100 (headQ b.q h) (tileK b.k h j) (tileC b.c h j) (headL b.l h)

/-- The weights of the diagonal's tile, the keys after the query masked. -/
def diag (b : Blocks F) (h : Fin 4) (j : Fin 8) : Vec F S1x1x256x256 .f32 :=
  k0_pay128 (headQ b.q h) (tileK b.k h j) (tileC b.c h j) (headL b.l h)

/-- The weights of key tile `j` for query tile `t`. -/
def prob (b : Blocks F) (t : ℕ) (h : Fin 4) (j : Fin 8) : Vec F S1x1x256x256 .f32 :=
  if j.val < t then b.early h j else b.diag h j

/-- The weights' gradients. -/
def dprob (b : Blocks F) (h : Fin 4) (j : Fin 8) : Vec F S1x1x256x256 .f32 :=
  k0_pay101 (headQ b.o h) (tileK b.v h j)

/-- One more tile in the rows' sums. -/
def sumStep (b : Blocks F) (h : Fin 4) (j : Fin 8) (d : FVec F S256x1 .f32) : FVec F S256x1 .f32 :=
  k0_pay102 (headQ b.o h) d (headQ b.q h) (tileK b.k h j) (tileC b.c h j) (headL b.l h) (tileK b.v h j)

/-- The rows' sums over the first `n` tiles. -/
def sums (b : Blocks F) (h : Fin 4) : ℕ → FVec F S256x1 .f32
  | 0 => k0_pay97
  | n + 1 => if hn : n < 8 then b.sumStep h ⟨n, hn⟩ (b.sums h n) else b.sums h n

/-- The rows' sums over every tile up to the diagonal's. -/
def delta (b : Blocks F) (h : Fin 4) (t : Fin 8) : FVec F S256x1 .f32 :=
  k0_pay131 (b.sums h t.val) (k0_pay130 (k0_pay96 (headQ b.o h)) (headQ b.q h) (tileK b.k h t) (tileC b.c h t) (headL b.l h) (tileK b.v h t))

end Blocks

/-- A head's keys' gradient tile after a trip: `y` before it. -/
def dkStep (b : Blocks F) (d : FVec F S256x1 .f32) (p dp : Vec F S1x1x256x256 .f32) (h : Fin 4) (y : Vec F S1x256x64 .f32) :
    Vec F S1x256x64 .f32 :=
  k0_pay61 d p dp y (headQ b.q h)

/-- A head's values' gradient tile after a trip. -/
def dvStep (b : Blocks F) (p : Vec F S1x1x256x256 .f32) (h : Fin 4) (y : Vec F S1x256x64 .f32) : Vec F S1x256x64 .f32 :=
  k0_pay60 (k0_pay96 (headQ b.o h)) p y

/-- A head's biases' gradient tile after a trip. -/
def dcStep (d : FVec F S256x1 .f32) (p dp : Vec F S1x1x256x256 .f32) (y : Vec F S1x1x256 .f32) : Vec F S1x1x256 .f32 :=
  k0_pay133 (k0_pay58 d p dp) y

/-- A head's queries' gradient, unscaled, after a trip. -/
def dqStep (b : Blocks F) (d : FVec F S256x1 .f32) (p dp : Vec F S1x1x256x256 .f32) (h : Fin 4) (j : Fin 8)
    (y : FVec F S256x64 .f32) : FVec F S256x64 .f32 :=
  k0_pay134 y (k0_pay59 d p dp) (tileK b.k h j)

/-- The queries' gradient, unscaled, over the first `n` key tiles. -/
def dqs (b : Blocks F) (t : Fin 8) (h : Fin 4) : ℕ → FVec F S256x64 .f32
  | 0 => k0_pay132
  | n + 1 => if hn : n < 8 then dqStep b (b.delta h t) (b.prob t.val h ⟨n, hn⟩) (b.dprob h ⟨n, hn⟩) h ⟨n, hn⟩ (dqs b t h n) else dqs b t h n

/-- The rows of key tile `j` of the keys' gradient after query tile `t`. -/
def dkTile (b : Blocks F) (t : Fin 8) (y : Vec F S4x2048x64 .f32) (h : Fin 4) (j : Fin 8) : Vec F S1x256x64 .f32 :=
  if j.val ≤ t.val then dkStep b (b.delta h t) (b.prob t.val h j) (b.dprob h j) h (tileK y h j) else tileK y h j

/-- The rows of key tile `j` of the values' gradient after query tile `t`. -/
def dvTile (b : Blocks F) (t : Fin 8) (y : Vec F S4x2048x64 .f32) (h : Fin 4) (j : Fin 8) : Vec F S1x256x64 .f32 :=
  if j.val ≤ t.val then dvStep b (b.prob t.val h j) h (tileK y h j) else tileK y h j

/-- The entries of key tile `j` of the biases' gradient after query tile `t`. -/
def dcTile (b : Blocks F) (t : Fin 8) (y : Vec F S4x1x2048 .f32) (h : Fin 4) (j : Fin 8) : Vec F S1x1x256 .f32 :=
  if j.val ≤ t.val then dcStep (b.delta h t) (b.prob t.val h j) (b.dprob h j) (tileC y h j) else tileC y h j

end Cert.Proof.Attn
-- ==== Proof.Group.lean ====
module

public import proofs.«01_k».proof.Proof.Values

@[expose] public section

noncomputable section

namespace Cert.Proof.Attn

open Cert.KernelIdeal Cert.KernelIdeal.Gen
open Idealize.ShloMosaic Idealize.ShloMosaic.TcCoe

variable {F : FTy → Type} [FloatOps F]

/-! # What a head group's points leave, tile by tile put together

A whole block is given by its tiles; so what the body leaves in the four results' blocks is put together from the tiles
it computes, and what the three accumulators hold after `n` of a group's eight points is a recursion over them. -/

/-- The block whose heads are `g`. -/
def ofQ {e : EltTy} (g : Fin 4 → Vec F S1x256x64 e) : Vec F S4x256x64 e := fun x => g (x 0) (ix3 0 (x 1) (x 2))

/-- The block whose key tiles are `g`. -/
def ofK {e : EltTy} (g : Fin 4 → Fin 8 → Vec F S1x256x64 e) : Vec F S4x2048x64 e := fun x =>
  g (x 0) ⟨(x 1).val / 256, by have : (x 1).val < 2048 := (x 1).isLt; omega⟩
    (ix3 0 (⟨(x 1).val % 256, Nat.mod_lt _ (by decide)⟩ : Fin 256) (x 2))

/-- The row of numbers per key whose tiles are `g`. -/
def ofC {e : EltTy} (g : Fin 4 → Fin 8 → Vec F S1x1x256 e) : Vec F S4x1x2048 e := fun x =>
  g (x 0) ⟨(x 2).val / 256, by have : (x 2).val < 2048 := (x 2).isLt; omega⟩
    (ix3 0 (x 1) (⟨(x 2).val % 256, Nat.mod_lt _ (by decide)⟩ : Fin 256))

theorem eq_ofQ {e : EltTy} (x : Vec F S4x256x64 e) (g : Fin 4 → Vec F S1x256x64 e) (h : ∀ h', headQ x h' = g h') : x = ofQ g := by
  funext i
  refine Eq.trans ?_ (congrFun (h (i 0)) _)
  exact congrArg x (eq_ix3 i)

theorem eq_ofK {e : EltTy} (x : Vec F S4x2048x64 e) (g : Fin 4 → Fin 8 → Vec F S1x256x64 e) (h : ∀ h' j', tileK x h' j' = g h' j') :
    x = ofK g := by
  funext i
  refine Eq.trans ?_ (congrFun (h (i 0) _) _)
  refine congrArg x (funext fun a => Fin.ext ?_)
  match a with
  | ⟨0, _⟩ => rfl
  | ⟨1, _⟩ => exact (Nat.div_add_mod (i 1).val 256).symm
  | ⟨2, _⟩ => rfl

theorem eq_ofC {e : EltTy} (x : Vec F S4x1x2048 e) (g : Fin 4 → Fin 8 → Vec F S1x1x256 e) (h : ∀ h' j', tileC x h' j' = g h' j') :
    x = ofC g := by
  funext i
  refine Eq.trans ?_ (congrFun (h (i 0) _) _)
  refine congrArg x (funext fun a => Fin.ext ?_)
  match a with
  | ⟨0, _⟩ => rfl
  | ⟨1, _⟩ => rfl
  | ⟨2, _⟩ => exact (Nat.div_add_mod (i 2).val 256).symm

/-- The keys' gradient of a head group after its first `n` query tiles, `g` their blocks. -/
def dkAfter (g : Fin 8 → Blocks F) : ℕ → Vec F S4x2048x64 .f32
  | 0 => k0_pay90
  | n + 1 => if hn : n < 8 then ofK (dkTile (g ⟨n, hn⟩) ⟨n, hn⟩ (dkAfter g n)) else dkAfter g n

/-- The values' gradient of a head group after its first `n` query tiles. -/
def dvAfter (g : Fin 8 → Blocks F) : ℕ → Vec F S4x2048x64 .f32
  | 0 => k0_pay91
  | n + 1 => if hn : n < 8 then ofK (dvTile (g ⟨n, hn⟩) ⟨n, hn⟩ (dvAfter g n)) else dvAfter g n

/-- The biases' gradient of a head group after its first `n` query tiles. -/
def dcAfter (g : Fin 8 → Blocks F) : ℕ → Vec F S4x1x2048 .f32
  | 0 => k0_pay92
  | n + 1 => if hn : n < 8 then ofC (dcTile (g ⟨n, hn⟩) ⟨n, hn⟩ (dcAfter g n)) else dcAfter g n

/-- The queries' gradient of query tile `t`. -/
def dqOf (b : Blocks F) (t : Fin 8) : Vec F S4x256x64 .f32 := ofQ fun h => k0_pay139 (dqs b t h (t.val + 1))

end Cert.Proof.Attn
-- ==== Proof.Heads.lean ====
module

public import proofs.«01_k».proof.Proof.Values

@[expose] public section

noncomputable section

namespace Cert.Proof.Attn

open Cert.KernelIdeal Cert.KernelIdeal.Gen
open Idealize.ShloMosaic Idealize.ShloMosaic.TcCoe

variable {F : FTy → Type} [FloatOps F]

/-! # The four heads compute the same

Each head's operations of the body are the last head's. -/

section

variable (q k v : Vec F S1x256x64 .bf16) (c : Vec F S1x1x256 .f32) (l : Vec F S1x256x1 .f32) (o : Vec F S1x256x64 .f32)
  (d : FVec F S256x1 .f32) (p dp : Vec F S1x1x256x256 .f32) (y : Vec F S1x256x64 .f32) (z : Vec F S1x1x256 .f32)
  (a : FVec F S256x64 .f32)

theorem pay_early0 : k0_pay4 q k c l = k0_pay100 q k c l := rfl
theorem pay_early1 : k0_pay10 q k c l = k0_pay100 q k c l := rfl
theorem pay_early2 : k0_pay15 q k c l = k0_pay100 q k c l := rfl
theorem pay_dprob0 : k0_pay5 (k0_pay93 o) v = k0_pay101 o v := rfl
theorem pay_dprob1 : k0_pay11 (k0_pay94 o) v = k0_pay101 o v := rfl
theorem pay_dprob2 : k0_pay16 (k0_pay95 o) v = k0_pay101 o v := rfl
theorem pay_sums0 : k0_pay7 d (k0_pay6 (k0_pay93 o) q k c l v) = k0_pay102 o d q k c l v := rfl
theorem pay_sums1 : k0_pay12 (k0_pay94 o) d q k c l v = k0_pay102 o d q k c l v := rfl
theorem pay_sums2 : k0_pay17 (k0_pay95 o) d q k c l v = k0_pay102 o d q k c l v := rfl
theorem pay_diag0 : k0_pay112 (k0_pay108 q) (k0_pay109 k) c l = k0_pay128 q k c l := rfl
theorem pay_diag1 : k0_pay118 (k0_pay115 q) k c l = k0_pay128 q k c l := rfl
theorem pay_diag2 : k0_pay123 q k c l = k0_pay128 q k c l := rfl
theorem pay_ddiag0 : k0_pay113 (k0_pay93 o) v = k0_pay101 o v := rfl
theorem pay_ddiag1 : k0_pay119 (k0_pay94 o) v = k0_pay101 o v := rfl
theorem pay_ddiag2 : k0_pay124 (k0_pay95 o) v = k0_pay101 o v := rfl
theorem pay_ddiag3 : k0_pay129 (k0_pay96 o) v = k0_pay101 o v := rfl
theorem pay_delta0 : k0_pay114 (k0_pay93 o) d (k0_pay108 q) (k0_pay109 k) c l v = k0_pay131 d (k0_pay130 (k0_pay96 o) q k c l v) := rfl
theorem pay_delta1 : k0_pay120 (k0_pay94 o) d (k0_pay115 q) k c l v = k0_pay131 d (k0_pay130 (k0_pay96 o) q k c l v) := rfl
theorem pay_delta2 : k0_pay125 (k0_pay95 o) d q k c l v = k0_pay131 d (k0_pay130 (k0_pay96 o) q k c l v) := rfl
theorem pay_dv0 : k0_pay37 (k0_pay93 o) p y = k0_pay60 (k0_pay96 o) p y := rfl
theorem pay_dv1 : k0_pay44 (k0_pay94 o) p y = k0_pay60 (k0_pay96 o) p y := rfl
theorem pay_dv2 : k0_pay52 (k0_pay95 o) (k0_pay49 p) y = k0_pay60 (k0_pay96 o) p y := rfl
theorem pay_dk0 : k0_pay38 d p dp y q = k0_pay61 d p dp y q := rfl
theorem pay_dk1 : k0_pay46 (k0_pay43 d p dp) (k0_pay45 y) q = k0_pay61 d p dp y q := rfl
theorem pay_dk2 : k0_pay53 (k0_pay51 d p dp) y q = k0_pay61 d p dp y q := rfl
theorem pay_dc0 : k0_pay39 (k0_pay35 d p dp) z = k0_pay133 (k0_pay58 d p dp) z := rfl
theorem pay_dc1 : k0_pay47 (k0_pay42 d p dp) z = k0_pay133 (k0_pay58 d p dp) z := rfl
theorem pay_dc2 : k0_pay54 (k0_pay50 d p dp) z = k0_pay133 (k0_pay58 d p dp) z := rfl
theorem pay_dq0 : k0_pay40 a (k0_pay36 d p dp) k = k0_pay134 a (k0_pay59 d p dp) k := rfl
theorem pay_dq1 : k0_pay48 a (k0_pay43 d p dp) k = k0_pay134 a (k0_pay59 d p dp) k := rfl
theorem pay_dq2 : k0_pay56 a (k0_pay55 (k0_pay51 d p dp) k) = k0_pay134 a (k0_pay59 d p dp) k := rfl
theorem pay_out1 : k0_pay137 a = k0_pay139 a := rfl
theorem pay_out2 : k0_pay138 a = k0_pay139 a := rfl
theorem pay_out3 : k0_pay1 (k0_pay140 a) = k0_pay139 a := rfl

end

end Cert.Proof.Attn
-- ==== Proof.Trip1.lean ====
module

public import proofs.«01_k».proof.Proof.Heads
public import proofs.«01_k».proof.Proof.Gen.KernelIdeal.Frame
public import Idealize.ShloMosaic.Lib.Tactic.Stretches
public import Idealize.ShloMosaic.Lib.VecWindow

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Four stores, one per head, at the places `p` picks. -/
theorem pick4 {α : Type*} (h' : Fin 4) (p : Prop) [Decidable p] (w : Fin 4 → α) (z : α) :
    (if h' = 3 ∧ p then w 3 else if h' = 2 ∧ p then w 2 else if h' = 1 ∧ p then w 1 else if h' = 0 ∧ p then w 0 else z)
      = if p then w h' else z := by
  by_cases hp : p
  · match h' with
    | 0 => simp [hp]
    | 1 => simp [hp]
    | 2 => simp [hp]
    | 3 => simp [hp]
  · simp [hp]

set_option maxHeartbeats 4000000 in
/-- One trip of the first loop: each head's weights and their gradients of key tile `j` are kept, and the rows' sums
take that tile in. -/
theorem trip1 (𝒱 : Variants) (c : Dev nD) (bd : Option 𝒱.V) (E : Set ℕ) (i : grid0.Coords) (arg2 : Memref sig .tc .vmem S4x256x64 .bf16) (harg2 : arg2.IsWhole) (arg3 : Memref sig .tc .vmem S4x2048x64 .bf16) (harg3 : arg3.IsWhole) (arg4 : Memref sig .tc .vmem S4x2048x64 .bf16) (harg4 : arg4.IsWhole) (arg5 : Memref sig .tc .vmem S4x1x2048 .f32) (harg5 : arg5.IsWhole) (arg6 : Memref sig .tc .vmem S4x256x1 .f32) (harg6 : arg6.IsWhole) (arg7 : Memref sig .tc .vmem S4x256x64 .f32) (harg7 : arg7.IsWhole) (arg8 : Memref sig .tc .vmem S4x256x64 .f32) (harg8 : arg8.IsWhole) (arg9 : Memref sig .tc .vmem S4x2048x64 .f32) (harg9 : arg9.IsWhole) (arg10 : Memref sig .tc .vmem S4x2048x64 .f32) (harg10 : arg10.IsWhole) (arg11 : Memref sig .tc .vmem S4x1x2048 .f32) (harg11 : arg11.IsWhole) (arg12 : Memref sig .tc .vmem S4x8x256x256 .f32) (harg12 : arg12.IsWhole) (arg13 : Memref sig .tc .vmem S4x8x256x256 .f32) (harg13 : arg13.IsWhole)
    (b : Blocks F) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f12 : BufTy.Contents (Elt F) arg12.view.ty) (f13 : BufTy.Contents (Elt F) arg13.view.ty) (hb2 : arg2.view.read (Elt F) f2 = b.q) (hb3 : arg3.view.read (Elt F) f3 = b.k) (hb4 : arg4.view.read (Elt F) f4 = b.v) (hb5 : arg5.view.read (Elt F) f5 = b.c) (hb6 : arg6.view.read (Elt F) f6 = b.l)
    (v3 v6 v9 v12 : Vec F S1x256x64 .f32) (hv3 : v3 = headQ b.o 0) (hv6 : v6 = headQ b.o 1) (hv9 : v9 = headQ b.o 2) (hv12 : v12 = headQ b.o 3)
    (k : Fin (k0_t1_loop i).trips) (acc : FVec F S256x1 .f32 × FVec F S256x1 .f32 × FVec F S256x1 .f32 × FVec F S256x1 .f32) (j : Fin 8) (hj : j.val = k.val) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 v3 v6 v9 v12 k acc)
          (fun y => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6)
            ∗ (∃ g, (arg12.view.loc (c : Thread nD τ) ↦[arg12.view.set]{fullShare} g) ∗ ⌜∀ h' j', tileP (arg12.view.read (Elt F) g) h' j' = if j' = j then b.early h' j else tileP (arg12.view.read (Elt F) f12) h' j'⌝)
            ∗ (∃ g, (arg13.view.loc (c : Thread nD τ) ↦[arg13.view.set]{fullShare} g) ∗ ⌜∀ h' j', tileP (arg13.view.read (Elt F) g) h' j' = if j' = j then b.dprob h' j else tileP (arg13.view.read (Elt F) f13) h' j'⌝)
            ∗ ⌜y = (b.sumStep 0 j acc.1, b.sumStep 1 j acc.2.1, b.sumStep 2 j acc.2.2.1, b.sumStep 3 j acc.2.2.2)⌝)) := by
  subst hv3 hv6 hv9 hv12
  unfold k0_t1_body
  iintro ⟨H2, H3, H4, H5, H6, H12, H13⟩
  sl_exec
  sl_step
  have o1 : k0_off1 i k = ![(0 : Fin 4).val, 256 * j.val, 0] := by rw [at_off1, hj]; rfl
  have o2 : k0_off2 i k = ![(0 : Fin 4).val, 0, 256 * j.val] := by rw [at_off2, hj]; rfl
  have o3 : k0_off3 i k = ![(0 : Fin 4).val, j.val, 0, 0] := by rw [at_off3, hj]; rfl
  have o4 : k0_off4 i k = ![(1 : Fin 4).val, 256 * j.val, 0] := by rw [at_off4, hj]; rfl
  have o5 : k0_off5 i k = ![(1 : Fin 4).val, 0, 256 * j.val] := by rw [at_off5, hj]; rfl
  have o6 : k0_off6 i k = ![(1 : Fin 4).val, j.val, 0, 0] := by rw [at_off6, hj]; rfl
  have o7 : k0_off7 i k = ![(2 : Fin 4).val, 256 * j.val, 0] := by rw [at_off7, hj]; rfl
  have o8 : k0_off8 i k = ![(2 : Fin 4).val, 0, 256 * j.val] := by rw [at_off8, hj]; rfl
  have o9 : k0_off9 i k = ![(2 : Fin 4).val, j.val, 0, 0] := by rw [at_off9, hj]; rfl
  have o10 : k0_off10 i k = ![(3 : Fin 4).val, 256 * j.val, 0] := by rw [at_off10, hj]; rfl
  have o11 : k0_off11 i k = ![(3 : Fin 4).val, 0, 256 * j.val] := by rw [at_off11, hj]; rfl
  have o12 : k0_off12 i k = ![(3 : Fin 4).val, j.val, 0, 0] := by rw [at_off12, hj]; rfl
  have e1 : ∀ h, k0_pay100 (headQ b.q h) (tileK b.k h j) (tileC b.c h j) (headL b.l h) = b.early h j := fun _ => rfl
  have e2 : ∀ h, k0_pay101 (headQ b.o h) (tileK b.v h j) = b.dprob h j := fun _ => rfl
  have e3 : ∀ h d, k0_pay102 (headQ b.o h) d (headQ b.q h) (tileK b.k h j) (tileC b.c h j) (headL b.l h) (tileK b.v h j) = b.sumStep h j d := fun _ _ => rfl
  isplitl [H2]; · iexact H2
  isplitl [H3]; · iexact H3
  isplitl [H4]; · iexact H4
  isplitl [H5]; · iexact H5
  isplitl [H6]; · iexact H6
  isplitl [H12]
  · iexists _
    isplitl [H12]; · iexact H12
    ipureintro
    intro h' j'
    rw [writes_tileP _ _ _ _ _ 3 h' j j' o12, writes_tileP _ _ _ _ _ 2 h' j j' o9, writes_tileP _ _ _ _ _ 1 h' j j' o6, writes_tileP _ _ _ _ _ 0 h' j j' o3, View.writes_nil]
    simp only [readAt_tileK _ _ _ 0 j o1, readAt_tileC _ _ _ 0 j o2, readAt_tileK _ _ _ 1 j o4, readAt_tileC _ _ _ 1 j o5, readAt_tileK _ _ _ 2 j o7, readAt_tileC _ _ _ 2 j o8, readAt_tileK _ _ _ 3 j o10, readAt_tileC _ _ _ 3 j o11, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, pay_early0, pay_early1, pay_early2, e1]
    exact pick4 h' (j' = j) (fun h => b.early h j) _
  isplitl [H13]
  · iexists _
    isplitl [H13]; · iexact H13
    ipureintro
    intro h' j'
    rw [writes_tileP _ _ _ _ _ 3 h' j j' o12, writes_tileP _ _ _ _ _ 2 h' j j' o9, writes_tileP _ _ _ _ _ 1 h' j j' o6, writes_tileP _ _ _ _ _ 0 h' j j' o3, View.writes_nil]
    simp only [readAt_tileK _ _ _ 0 j o1, readAt_tileC _ _ _ 0 j o2, readAt_tileK _ _ _ 1 j o4, readAt_tileC _ _ _ 1 j o5, readAt_tileK _ _ _ 2 j o7, readAt_tileC _ _ _ 2 j o8, readAt_tileK _ _ _ 3 j o10, readAt_tileC _ _ _ 3 j o11, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, pay_dprob0, pay_dprob1, pay_dprob2, e2]
    exact pick4 h' (j' = j) (fun h => b.dprob h j) _
  ipureintro
  sl_open_run
  simp only [readAt_tileK _ _ _ 0 j o1, readAt_tileC _ _ _ 0 j o2, readAt_tileK _ _ _ 1 j o4, readAt_tileC _ _ _ 1 j o5, readAt_tileK _ _ _ 2 j o7, readAt_tileC _ _ _ 2 j o8, readAt_tileK _ _ _ 3 j o10, readAt_tileC _ _ _ 3 j o11, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, pay_sums0, pay_sums1, pay_sums2, e3]

end Cert.Proof.Attn
-- ==== Proof.Trip3.lean ====
module

public import proofs.«01_k».proof.Proof.Trip1
public import proofs.«01_k».proof.Proof.Gen.KernelIdeal.Frame
public import Idealize.ShloMosaic.Lib.Tactic.Stretches
public import Idealize.ShloMosaic.Lib.VecWindow

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One trip of the second loop: each head's gradients of key tile `j` take the query tile's terms in, and so do the
queries' gradients carried along. -/
theorem trip3 (𝒱 : Variants) (c : Dev nD) (bd : Option 𝒱.V) (E : Set ℕ) (i : grid0.Coords) (arg2 : Memref sig .tc .vmem S4x256x64 .bf16) (harg2 : arg2.IsWhole) (arg3 : Memref sig .tc .vmem S4x2048x64 .bf16) (harg3 : arg3.IsWhole) (arg4 : Memref sig .tc .vmem S4x2048x64 .bf16) (harg4 : arg4.IsWhole) (arg5 : Memref sig .tc .vmem S4x1x2048 .f32) (harg5 : arg5.IsWhole) (arg6 : Memref sig .tc .vmem S4x256x1 .f32) (harg6 : arg6.IsWhole) (arg7 : Memref sig .tc .vmem S4x256x64 .f32) (harg7 : arg7.IsWhole) (arg8 : Memref sig .tc .vmem S4x256x64 .f32) (harg8 : arg8.IsWhole) (arg9 : Memref sig .tc .vmem S4x2048x64 .f32) (harg9 : arg9.IsWhole) (arg10 : Memref sig .tc .vmem S4x2048x64 .f32) (harg10 : arg10.IsWhole) (arg11 : Memref sig .tc .vmem S4x1x2048 .f32) (harg11 : arg11.IsWhole) (arg12 : Memref sig .tc .vmem S4x8x256x256 .f32) (harg12 : arg12.IsWhole) (arg13 : Memref sig .tc .vmem S4x8x256x256 .f32) (harg13 : arg13.IsWhole)
    (b : Blocks F) (d : Fin 4 → FVec F S256x1 .f32) (f2 : BufTy.Contents (Elt F) arg2.view.ty) (f3 : BufTy.Contents (Elt F) arg3.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (hb2 : arg2.view.read (Elt F) f2 = b.q) (hb3 : arg3.view.read (Elt F) f3 = b.k)
    (v5 v8 v11 v14 : FVec F S256x64 .bf16) (v22_3 v63 v102 v141 : FVec F S256x1 .f32) (v177 : FVec F S256x256 .f32)
    (hv5 : v5 = k0_pay93 (headQ b.o 0)) (hv8 : v8 = k0_pay94 (headQ b.o 1)) (hv11 : v11 = k0_pay95 (headQ b.o 2)) (hv14 : v14 = k0_pay96 (headQ b.o 3))
    (h0 : v63 = d 0) (h1 : v102 = d 1) (h2 : v141 = d 2) (h3 : k0_pay131 v22_3 v177 = d 3)
    (k : Fin (k0_t3_loop i).trips) (acc : FVec F S256x64 .f32 × FVec F S256x64 .f32 × FVec F S256x64 .f32 × FVec F S256x64 .f32) (j : Fin 8) (hj : j.val = k.val) :
    (iprop((arg2.view.loc (c : Thread nD τ) ↦[arg2.view.set]{fullShare} f2) ∗ (arg3.view.loc (c : Thread nD τ) ↦[arg3.view.set]{fullShare} f3) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) 𝒱 (c : Thread nD τ) bd) E
          (k0_t3_body (F := F) i arg2 harg2 arg3 harg3 arg4 harg4 arg5 harg5 arg6 harg6 arg7 harg7 arg8 harg8 arg9 harg9 arg10 harg10 arg11 harg11 arg12 harg12 arg13 harg13 v5 v8 v11 v14 v22_3 v63 v102 v141 v177 k acc)
          (fun y => iprop((arg2.view.loc (c : Thread nD τ) ↦[arg2.view.set]{fullShare} f2) ∗ (arg3.view.loc (c : Thread nD τ) ↦[arg3.view.set]{fullShare} f3) ∗ (arg12.view.loc (c : Thread nD τ) ↦[arg12.view.set]{fullShare} f12) ∗ (arg13.view.loc (c : Thread nD τ) ↦[arg13.view.set]{fullShare} f13)
            ∗ (∃ g, (arg9.view.loc (c : Thread nD τ) ↦[arg9.view.set]{fullShare} g) ∗ ⌜∀ h' j', tileK (arg9.view.read (Elt F) g) h' j' = if j' = j then dkStep b (d h') (tileP (arg12.view.read (Elt F) f12) h' j) (tileP (arg13.view.read (Elt F) f13) h' j) h' (tileK (arg9.view.read (Elt F) f9) h' j) else tileK (arg9.view.read (Elt F) f9) h' j'⌝)
            ∗ (∃ g, (arg10.view.loc (c : Thread nD τ) ↦[arg10.view.set]{fullShare} g) ∗ ⌜∀ h' j', tileK (arg10.view.read (Elt F) g) h' j' = if j' = j then dvStep b (tileP (arg12.view.read (Elt F) f12) h' j) h' (tileK (arg10.view.read (Elt F) f10) h' j) else tileK (arg10.view.read (Elt F) f10) h' j'⌝)
            ∗ (∃ g, (arg11.view.loc (c : Thread nD τ) ↦[arg11.view.set]{fullShare} g) ∗ ⌜∀ h' j', tileC (arg11.view.read (Elt F) g) h' j' = if j' = j then dcStep (d h') (tileP (arg12.view.read (Elt F) f12) h' j) (tileP (arg13.view.read (Elt F) f13) h' j) (tileC (arg11.view.read (Elt F) f11) h' j) else tileC (arg11.view.read (Elt F) f11) h' j'⌝)
            ∗ ⌜y = (dqStep b (d 0) (tileP (arg12.view.read (Elt F) f12) 0 j) (tileP (arg13.view.read (Elt F) f13) 0 j) 0 j acc.1, dqStep b (d 1) (tileP (arg12.view.read (Elt F) f12) 1 j) (tileP (arg13.view.read (Elt F) f13) 1 j) 1 j acc.2.1, dqStep b (d 2) (tileP (arg12.view.read (Elt F) f12) 2 j) (tileP (arg13.view.read (Elt F) f13) 2 j) 2 j acc.2.2.1, dqStep b (d 3) (tileP (arg12.view.read (Elt F) f12) 3 j) (tileP (arg13.view.read (Elt F) f13) 3 j) 3 j acc.2.2.2)⌝)) := by
  subst hv5 hv8 hv11 hv14 h0 h1 h2
  unfold k0_t3_body
  iintro ⟨H2, H3, H9, H10, H11, H12, H13⟩
  sl_exec
  sl_step
  have o37 : k0_off37 i k = ![(0 : Fin 4).val, j.val, 0, 0] := by rw [at_off37, hj]; rfl
  have o38 : k0_off38 i k = ![(0 : Fin 4).val, 256 * j.val, 0] := by rw [at_off38, hj]; rfl
  have o39 : k0_off39 i k = ![(0 : Fin 4).val, 0, 256 * j.val] := by rw [at_off39, hj]; rfl
  have o40 : k0_off40 i k = ![(1 : Fin 4).val, j.val, 0, 0] := by rw [at_off40, hj]; rfl
  have o41 : k0_off41 i k = ![(1 : Fin 4).val, 256 * j.val, 0] := by rw [at_off41, hj]; rfl
  have o42 : k0_off42 i k = ![(1 : Fin 4).val, 0, 256 * j.val] := by rw [at_off42, hj]; rfl
  have o43 : k0_off43 i k = ![(2 : Fin 4).val, j.val, 0, 0] := by rw [at_off43, hj]; rfl
  have o44 : k0_off44 i k = ![(2 : Fin 4).val, 256 * j.val, 0] := by rw [at_off44, hj]; rfl
  have o45 : k0_off45 i k = ![(2 : Fin 4).val, 0, 256 * j.val] := by rw [at_off45, hj]; rfl
  have o46 : k0_off46 i k = ![(3 : Fin 4).val, j.val, 0, 0] := by rw [at_off46, hj]; rfl
  have o47 : k0_off47 i k = ![(3 : Fin 4).val, 256 * j.val, 0] := by rw [at_off47, hj]; rfl
  have o48 : k0_off48 i k = ![(3 : Fin 4).val, 0, 256 * j.val] := by rw [at_off48, hj]; rfl
  have e1 : ∀ h p dp y, k0_pay61 (d h) p dp y (headQ b.q h) = dkStep b (d h) p dp h y := fun _ _ _ _ => rfl
  have e2 : ∀ h p y, k0_pay60 (k0_pay96 (headQ b.o h)) p y = dvStep b p h y := fun _ _ _ => rfl
  have e3 : ∀ h p dp y, k0_pay133 (k0_pay58 (d h) p dp) y = dcStep (d h) p dp y := fun _ _ _ _ => rfl
  have e4 : ∀ h p dp y, k0_pay134 y (k0_pay59 (d h) p dp) (tileK b.k h j) = dqStep b (d h) p dp h j y := fun _ _ _ _ => rfl
  isplitl [H2]; · iexact H2
  isplitl [H3]; · iexact H3
  isplitl [H12]; · iexact H12
  isplitl [H13]; · iexact H13
  isplitl [H9]
  · iexists _
    isplitl [H9]; · iexact H9
    ipureintro
    intro h' j'
    rw [writes_tileK _ _ _ _ _ 3 h' j j' o47, writes_tileK _ _ _ _ _ 2 h' j j' o44, writes_tileK _ _ _ _ _ 1 h' j j' o41, writes_tileK _ _ _ _ _ 0 h' j j' o38, View.writes_nil]
    sl_open_run
    simp only [readAt_tileP _ _ _ 0 j o37, readAt_tileK _ _ _ 0 j o38, readAt_tileC _ _ _ 0 j o39, readAt_tileP _ _ _ 1 j o40, readAt_tileK _ _ _ 1 j o41, readAt_tileC _ _ _ 1 j o42, readAt_tileP _ _ _ 2 j o43, readAt_tileK _ _ _ 2 j o44, readAt_tileC _ _ _ 2 j o45, readAt_tileP _ _ _ 3 j o46, readAt_tileK _ _ _ 3 j o47, readAt_tileC _ _ _ 3 j o48, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, hb2, hb3, writes_tileK _ _ _ _ _ 0 1 j j o38, writes_tileK _ _ _ _ _ 0 2 j j o38, writes_tileK _ _ _ _ _ 0 3 j j o38, writes_tileK _ _ _ _ _ 1 2 j j o41, writes_tileK _ _ _ _ _ 1 3 j j o41, writes_tileK _ _ _ _ _ 2 3 j j o44, writes_tileC _ _ _ _ _ 0 1 j j o39, writes_tileC _ _ _ _ _ 0 2 j j o39, writes_tileC _ _ _ _ _ 0 3 j j o39, writes_tileC _ _ _ _ _ 1 2 j j o42, writes_tileC _ _ _ _ _ 1 3 j j o42, writes_tileC _ _ _ _ _ 2 3 j j o45, View.writes_nil, Fin.reduceEq, false_and, if_false, reduceIte, pay_dk0, pay_dk1, pay_dk2, h3, e1]
    exact pick4 h' (j' = j) (fun h => dkStep b (d h) (tileP (arg12.view.read (Elt F) f12) h j) (tileP (arg13.view.read (Elt F) f13) h j) h (tileK (arg9.view.read (Elt F) f9) h j)) _
  isplitl [H10]
  · iexists _
    isplitl [H10]; · iexact H10
    ipureintro
    intro h' j'
    rw [writes_tileK _ _ _ _ _ 3 h' j j' o47, writes_tileK _ _ _ _ _ 2 h' j j' o44, writes_tileK _ _ _ _ _ 1 h' j j' o41, writes_tileK _ _ _ _ _ 0 h' j j' o38, View.writes_nil]
    sl_open_run
    simp only [readAt_tileP _ _ _ 0 j o37, readAt_tileK _ _ _ 0 j o38, readAt_tileC _ _ _ 0 j o39, readAt_tileP _ _ _ 1 j o40, readAt_tileK _ _ _ 1 j o41, readAt_tileC _ _ _ 1 j o42, readAt_tileP _ _ _ 2 j o43, readAt_tileK _ _ _ 2 j o44, readAt_tileC _ _ _ 2 j o45, readAt_tileP _ _ _ 3 j o46, readAt_tileK _ _ _ 3 j o47, readAt_tileC _ _ _ 3 j o48, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, hb2, hb3, writes_tileK _ _ _ _ _ 0 1 j j o38, writes_tileK _ _ _ _ _ 0 2 j j o38, writes_tileK _ _ _ _ _ 0 3 j j o38, writes_tileK _ _ _ _ _ 1 2 j j o41, writes_tileK _ _ _ _ _ 1 3 j j o41, writes_tileK _ _ _ _ _ 2 3 j j o44, writes_tileC _ _ _ _ _ 0 1 j j o39, writes_tileC _ _ _ _ _ 0 2 j j o39, writes_tileC _ _ _ _ _ 0 3 j j o39, writes_tileC _ _ _ _ _ 1 2 j j o42, writes_tileC _ _ _ _ _ 1 3 j j o42, writes_tileC _ _ _ _ _ 2 3 j j o45, View.writes_nil, Fin.reduceEq, false_and, if_false, reduceIte, pay_dv0, pay_dv1, pay_dv2, e2]
    exact pick4 h' (j' = j) (fun h => dvStep b (tileP (arg12.view.read (Elt F) f12) h j) h (tileK (arg10.view.read (Elt F) f10) h j)) _
  isplitl [H11]
  · iexists _
    isplitl [H11]; · iexact H11
    ipureintro
    intro h' j'
    rw [writes_tileC _ _ _ _ _ 3 h' j j' o48, writes_tileC _ _ _ _ _ 2 h' j j' o45, writes_tileC _ _ _ _ _ 1 h' j j' o42, writes_tileC _ _ _ _ _ 0 h' j j' o39, View.writes_nil]
    sl_open_run
    simp only [readAt_tileP _ _ _ 0 j o37, readAt_tileK _ _ _ 0 j o38, readAt_tileC _ _ _ 0 j o39, readAt_tileP _ _ _ 1 j o40, readAt_tileK _ _ _ 1 j o41, readAt_tileC _ _ _ 1 j o42, readAt_tileP _ _ _ 2 j o43, readAt_tileK _ _ _ 2 j o44, readAt_tileC _ _ _ 2 j o45, readAt_tileP _ _ _ 3 j o46, readAt_tileK _ _ _ 3 j o47, readAt_tileC _ _ _ 3 j o48, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, hb2, hb3, writes_tileK _ _ _ _ _ 0 1 j j o38, writes_tileK _ _ _ _ _ 0 2 j j o38, writes_tileK _ _ _ _ _ 0 3 j j o38, writes_tileK _ _ _ _ _ 1 2 j j o41, writes_tileK _ _ _ _ _ 1 3 j j o41, writes_tileK _ _ _ _ _ 2 3 j j o44, writes_tileC _ _ _ _ _ 0 1 j j o39, writes_tileC _ _ _ _ _ 0 2 j j o39, writes_tileC _ _ _ _ _ 0 3 j j o39, writes_tileC _ _ _ _ _ 1 2 j j o42, writes_tileC _ _ _ _ _ 1 3 j j o42, writes_tileC _ _ _ _ _ 2 3 j j o45, View.writes_nil, Fin.reduceEq, false_and, if_false, reduceIte, pay_dc0, pay_dc1, pay_dc2, h3, e3]
    exact pick4 h' (j' = j) (fun h => dcStep (d h) (tileP (arg12.view.read (Elt F) f12) h j) (tileP (arg13.view.read (Elt F) f13) h j) (tileC (arg11.view.read (Elt F) f11) h j)) _
  ipureintro
  sl_open_run
  simp only [readAt_tileP _ _ _ 0 j o37, readAt_tileK _ _ _ 0 j o38, readAt_tileC _ _ _ 0 j o39, readAt_tileP _ _ _ 1 j o40, readAt_tileK _ _ _ 1 j o41, readAt_tileC _ _ _ 1 j o42, readAt_tileP _ _ _ 2 j o43, readAt_tileK _ _ _ 2 j o44, readAt_tileC _ _ _ 2 j o45, readAt_tileP _ _ _ 3 j o46, readAt_tileK _ _ _ 3 j o47, readAt_tileC _ _ _ 3 j o48, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, hb2, hb3, writes_tileK _ _ _ _ _ 0 1 j j o38, writes_tileK _ _ _ _ _ 0 2 j j o38, writes_tileK _ _ _ _ _ 0 3 j j o38, writes_tileK _ _ _ _ _ 1 2 j j o41, writes_tileK _ _ _ _ _ 1 3 j j o41, writes_tileK _ _ _ _ _ 2 3 j j o44, writes_tileC _ _ _ _ _ 0 1 j j o39, writes_tileC _ _ _ _ _ 0 2 j j o39, writes_tileC _ _ _ _ _ 0 3 j j o39, writes_tileC _ _ _ _ _ 1 2 j j o42, writes_tileC _ _ _ _ _ 1 3 j j o42, writes_tileC _ _ _ _ _ 2 3 j j o45, View.writes_nil, Fin.reduceEq, false_and, if_false, reduceIte, pay_dq0, pay_dq1, pay_dq2, h3, e4]

end Cert.Proof.Attn
-- ==== Proof.RunFirst.lean ====
module

public import proofs.«01_k».proof.Proof.Trip3
public import proofs.«01_k».proof.Proof.Gen.KernelIdeal.Frame
public import Idealize.ShloMosaic.Lib.Tactic.Stretches
public import Idealize.ShloMosaic.Lib.VecWindow

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An accumulator's tiles before `k + 1` have taken their terms in once tile `k` has. -/
theorem acc_succ {α : Type*} {k : ℕ} (hk : k < 8) (old new start : Fin 4 → Fin 8 → α) (step : Fin 4 → Fin 8 → α → α)
    (h1 : ∀ h' (j' : Fin 8), old h' j' = if j'.val < k then step h' j' (start h' j') else start h' j')
    (h2 : ∀ h' j', new h' j' = if j' = ⟨k, hk⟩ then step h' ⟨k, hk⟩ (old h' ⟨k, hk⟩) else old h' j') :
    ∀ h' (j' : Fin 8), new h' j' = if j'.val < k + 1 then step h' j' (start h' j') else start h' j' := by
  intro h' j'
  rw [h2]
  by_cases e : j' = ⟨k, hk⟩
  · subst e
    rw [if_pos rfl, h1, if_neg (Nat.lt_irrefl _), if_pos (Nat.lt_succ_self _)]
  · have : j'.val ≠ k := fun h => e (Fin.ext h)
    rw [if_neg e, h1]
    by_cases hlt : j'.val < k
    · rw [if_pos hlt, if_pos (by omega)]
    · rw [if_neg hlt, if_neg (by omega)]

/-- What holds of the tiles before `k` and is made to hold of tile `k`, the others kept, holds of the tiles before `k + 1`. -/
theorem upTo_succ {α : Type*} {k : ℕ} (hk : k < 8) (old new val : Fin 4 → Fin 8 → α)
    (h1 : ∀ h' (j' : Fin 8), j'.val < k → old h' j' = val h' j')
    (h2 : ∀ h' j', new h' j' = if j' = ⟨k, hk⟩ then val h' ⟨k, hk⟩ else old h' j') :
    ∀ h' (j' : Fin 8), j'.val < k + 1 → new h' j' = val h' j' := by
  intro h' j' hj
  rw [h2]
  by_cases e : j' = ⟨k, hk⟩
  · rw [if_pos e, e]
  · rw [if_neg e]
    exact h1 h' j' (by have : j'.val ≠ k := fun h => e (Fin.ext h); omega)

/-- The body's one branch, as a condition on the grid coordinates: the query tile is the head group's first. -/
abbrev cond (i : grid0.Coords) : Prop :=
  (Scalar.cmpi .ne (Scalar.extui (Scalar.cmpi .eq (BitVec.ofNat 32 (i 1).val) 0#32)) 0#32) = 1#1

set_option maxHeartbeats 4000000 in
/-- The body at a head group's first query tile: the three accumulators start from zero. -/
theorem runFirst (c : Dev nD) (i : grid0.Coords) (E : Set ℕ) (arg2 : Memref sig .tc .vmem S4x256x64 .bf16) (harg2 : arg2.IsWhole) (arg3 : Memref sig .tc .vmem S4x2048x64 .bf16) (harg3 : arg3.IsWhole) (arg4 : Memref sig .tc .vmem S4x2048x64 .bf16) (harg4 : arg4.IsWhole) (arg5 : Memref sig .tc .vmem S4x1x2048 .f32) (harg5 : arg5.IsWhole) (arg6 : Memref sig .tc .vmem S4x256x1 .f32) (harg6 : arg6.IsWhole) (arg7 : Memref sig .tc .vmem S4x256x64 .f32) (harg7 : arg7.IsWhole) (arg8 : Memref sig .tc .vmem S4x256x64 .f32) (harg8 : arg8.IsWhole) (arg9 : Memref sig .tc .vmem S4x2048x64 .f32) (harg9 : arg9.IsWhole) (arg10 : Memref sig .tc .vmem S4x2048x64 .f32) (harg10 : arg10.IsWhole) (arg11 : Memref sig .tc .vmem S4x1x2048 .f32) (harg11 : arg11.IsWhole) (arg12 : Memref sig .tc .vmem S4x8x256x256 .f32) (harg12 : arg12.IsWhole) (arg13 : Memref sig .tc .vmem S4x8x256x256 .f32) (harg13 : arg13.IsWhole) (hc : cond i) (t : Fin 8) (ht : t.val = (i 1).val)
    (b : Blocks F) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (hb2 : arg2.view.read (Elt F) f2 = b.q) (hb3 : arg3.view.read (Elt F) f3 = b.k) (hb4 : arg4.view.read (Elt F) f4 = b.v) (hb5 : arg5.view.read (Elt F) f5 = b.c) (hb6 : arg6.view.read (Elt F) f6 = b.l) (hb7 : arg7.view.read (Elt F) f7 = b.o) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E
          (cc0_attn_bwd (F := F) i arg2 harg2 arg3 harg3 arg4 harg4 arg5 harg5 arg6 harg6 arg7 harg7 arg8 harg8 arg9 harg9 arg10 harg10 arg11 harg11 arg12 harg12 arg13 harg13)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
            ∗ (∃ g, (arg8.view.loc (c : Thread nD τ) ↦[arg8.view.set]{fullShare} g) ∗ ⌜∀ h', headQ (arg8.view.read (Elt F) g) h' = k0_pay139 (dqs b t h' (t.val + 1))⌝)
            ∗ (∃ g, (arg9.view.loc (c : Thread nD τ) ↦[arg9.view.set]{fullShare} g) ∗ ⌜∀ h' j', tileK (arg9.view.read (Elt F) g) h' j' = dkTile b t k0_pay90 h' j'⌝)
            ∗ (∃ g, (arg10.view.loc (c : Thread nD τ) ↦[arg10.view.set]{fullShare} g) ∗ ⌜∀ h' j', tileK (arg10.view.read (Elt F) g) h' j' = dvTile b t k0_pay91 h' j'⌝)
            ∗ (∃ g, (arg11.view.loc (c : Thread nD τ) ↦[arg11.view.set]{fullShare} g) ∗ ⌜∀ h' j', tileC (arg11.view.read (Elt F) g) h' j' = dcTile b t k0_pay92 h' j'⌝)
            ∗ (∃ g, (arg12.view.loc (c : Thread nD τ) ↦[arg12.view.set]{fullShare} g)) ∗ (∃ g, (arg13.view.loc (c : Thread nD τ) ↦[arg13.view.set]{fullShare} g)))) := by
  simp only [cc0_attn_bwd_eq_skeleton]; unfold cc0_attn_bwd_skel
  simp only [k0_part22_eq_skeleton]; unfold k0_part22_skel
  simp only [k0_part17_eq_skeleton, k0_part18_eq_skeleton, k0_part19_eq_skeleton, k0_part20_eq_skeleton, k0_part21_eq_skeleton]
  have htr2 : (k0_t2_loop i).trips = 0 := trips2 i
  have htr4 : (k0_t4_loop i).trips = 0 := trips4 i
  have d1 : ∀ h, k0_pay128 (headQ b.q h) (tileK b.k h t) (tileC b.c h t) (headL b.l h) = b.diag h t := fun _ => rfl
  have d2 : ∀ h, k0_pay101 (headQ b.o h) (tileK b.v h t) = b.dprob h t := fun _ => rfl
  iintro ⟨H2, H3, H4, H5, H6, H7, H8, H9, H10, H11, H12, H13⟩
  sl_exec (disch := first | sl_exact hc)
  sl_for (fun (n : ℕ) (acc : FVec F S256x1 .f32 × FVec F S256x1 .f32 × FVec F S256x1 .f32 × FVec F S256x1 .f32) => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g, (arg12.view.loc (c : Thread nD τ) ↦[arg12.view.set]{fullShare} g) ∗ ⌜∀ h' j', j'.val < n → tileP (arg12.view.read (Elt F) g) h' j' = b.early h' j'⌝) ∗ (∃ g, (arg13.view.loc (c : Thread nD τ) ↦[arg13.view.set]{fullShare} g) ∗ ⌜∀ h' j', j'.val < n → tileP (arg13.view.read (Elt F) g) h' j' = b.dprob h' j'⌝) ∗ ⌜acc = (b.sums 0 n, b.sums 1 n, b.sums 2 n, b.sums 3 n)⌝)) $$ [H2 H3 H4 H5 H6 H12 H13]
  case region =>
    intro k acc
    iintro ⟨H2, H3, H4, H5, H6, ⟨%g12, H12, %hg12⟩, ⟨%g13, H13, %hg13⟩, %hacc⟩
    have hk8 : k.val < 8 := by
      have h1 : k.val < (k0_t1_loop i).trips := k.isLt
      have h2 : (i 1).val < 8 := (i 1).isLt
      rw [trips1] at h1; omega
    iapply (wp_wand_r Idealize.ShloMosaic.frame (wpE (defs₀ (F := F)) Variants.none (c : Thread nD τ) none) E)
    isplitl [H2 H3 H4 H5 H6 H12 H13]
    · iapply (trip1 Variants.none c none E i arg2 harg2 arg3 harg3 arg4 harg4 arg5 harg5 arg6 harg6 arg7 harg7 arg8 harg8 arg9 harg9 arg10 harg10 arg11 harg11 arg12 harg12 arg13 harg13 b f2 f3 f4 f5 f6 g12 g13 hb2 hb3 hb4 hb5 hb6 _ _ _ _ (by rw [readAt_headQ (off := ![0, 0, 0]) _ _ _ 0 rfl, hb7]) (by rw [readAt_headQ (off := ![1, 0, 0]) _ _ _ 1 rfl, hb7]) (by rw [readAt_headQ (off := ![2, 0, 0]) _ _ _ 2 rfl, hb7]) (by rw [readAt_headQ (off := ![3, 0, 0]) _ _ _ 3 rfl, hb7]) k acc ⟨k.val, hk8⟩ rfl)
      isplitl [H2]; · iexact H2
      isplitl [H3]; · iexact H3
      isplitl [H4]; · iexact H4
      isplitl [H5]; · iexact H5
      isplitl [H6]; · iexact H6
      isplitl [H12]; · iexact H12
      iexact H13
    · iintro %y ⟨H2, H3, H4, H5, H6, ⟨%k12, H12, %hk12⟩, ⟨%k13, H13, %hk13⟩, %hy⟩
      isplitl [H2]; · iexact H2
      isplitl [H3]; · iexact H3
      isplitl [H4]; · iexact H4
      isplitl [H5]; · iexact H5
      isplitl [H6]; · iexact H6
      isplitl [H12]
      · iexists k12
        isplitl [H12]; · iexact H12
        ipureintro
        exact upTo_succ hk8 (fun h' j' => tileP (arg12.view.read (Elt F) g12) h' j') _ _ hg12 hk12
      isplitl [H13]
      · iexists k13
        isplitl [H13]; · iexact H13
        ipureintro
        exact upTo_succ hk8 (fun h' j' => tileP (arg13.view.read (Elt F) g13) h' j') _ _ hg13 hk13
      ipureintro
      subst hacc
      rw [hy]
      simp only [Blocks.sums, dif_pos hk8]
  · isplitl [H2]; · iexact H2
    isplitl [H3]; · iexact H3
    isplitl [H4]; · iexact H4
    isplitl [H5]; · iexact H5
    isplitl [H6]; · iexact H6
    isplitl [H12]
    · iexists f12
      isplitl [H12]; · iexact H12
      ipureintro
      exact fun _ _ h => absurd h (Nat.not_lt_zero _)
    isplitl [H13]
    · iexists f13
      isplitl [H13]; · iexact H13
      ipureintro
      exact fun _ _ h => absurd h (Nat.not_lt_zero _)
    ipureintro
    rfl
  iintro %acc1 ⟨H2, H3, H4, H5, H6, ⟨%g12, H12, %hg12⟩, ⟨%g13, H13, %hg13⟩, %hacc1⟩
  have hT : (k0_t1_loop i).trips = t.val := (trips1 i).trans ht.symm
  have hp12 : ∀ h' (j' : Fin 8), j'.val < t.val → tileP (arg12.view.read (Elt F) g12) h' j' = b.early h' j' := by rw [← hT]; exact hg12
  have hp13 : ∀ h' (j' : Fin 8), j'.val < t.val → tileP (arg13.view.read (Elt F) g13) h' j' = b.dprob h' j' := by rw [← hT]; exact hg13
  have hs : acc1 = (b.sums 0 t.val, b.sums 1 t.val, b.sums 2 t.val, b.sums 3 t.val) := by rw [← hT]; exact hacc1
  clear hg12 hg13 hacc1
  subst hs
  sl_exec
  have hj : t.val = (i 1).val := ht
  have o25 : k0_off25 i = ![(0 : Fin 4).val, 256 * t.val, 0] := by rw [at_off25, hj]; rfl
  have o26 : k0_off26 i = ![(0 : Fin 4).val, 0, 256 * t.val] := by rw [at_off26, hj]; rfl
  have o27 : k0_off27 i = ![(0 : Fin 4).val, t.val, 0, 0] := by rw [at_off27, hj]; rfl
  have o28 : k0_off28 i = ![(1 : Fin 4).val, 256 * t.val, 0] := by rw [at_off28, hj]; rfl
  have o29 : k0_off29 i = ![(1 : Fin 4).val, 0, 256 * t.val] := by rw [at_off29, hj]; rfl
  have o30 : k0_off30 i = ![(1 : Fin 4).val, t.val, 0, 0] := by rw [at_off30, hj]; rfl
  have o31 : k0_off31 i = ![(2 : Fin 4).val, 256 * t.val, 0] := by rw [at_off31, hj]; rfl
  have o32 : k0_off32 i = ![(2 : Fin 4).val, 0, 256 * t.val] := by rw [at_off32, hj]; rfl
  have o33 : k0_off33 i = ![(2 : Fin 4).val, t.val, 0, 0] := by rw [at_off33, hj]; rfl
  have o34 : k0_off34 i = ![(3 : Fin 4).val, 256 * t.val, 0] := by rw [at_off34, hj]; rfl
  have o35 : k0_off35 i = ![(3 : Fin 4).val, 0, 256 * t.val] := by rw [at_off35, hj]; rfl
  have o36 : k0_off36 i = ![(3 : Fin 4).val, t.val, 0, 0] := by rw [at_off36, hj]; rfl
  irw [wp_bind]
  sl_for (fun (n : ℕ) (acc : FVec F S256x64 .f32 × FVec F S256x64 .f32 × FVec F S256x64 .f32 × FVec F S256x64 .f32) => iprop((arg2.view.loc (c : Thread nD τ) ↦[arg2.view.set]{fullShare} f2) ∗ (arg3.view.loc (c : Thread nD τ) ↦[arg3.view.set]{fullShare} f3) ∗ (∃ g, (arg9.view.loc (c : Thread nD τ) ↦[arg9.view.set]{fullShare} g) ∗ ⌜∀ h' j', tileK (arg9.view.read (Elt F) g) h' j' = if j'.val < n then dkStep b (b.delta h' t) (b.prob t.val h' j') (b.dprob h' j') h' (tileK (k0_pay90) h' j') else tileK (k0_pay90) h' j'⌝) ∗ (∃ g, (arg10.view.loc (c : Thread nD τ) ↦[arg10.view.set]{fullShare} g) ∗ ⌜∀ h' j', tileK (arg10.view.read (Elt F) g) h' j' = if j'.val < n then dvStep b (b.prob t.val h' j') h' (tileK (k0_pay91) h' j') else tileK (k0_pay91) h' j'⌝) ∗ (∃ g, (arg11.view.loc (c : Thread nD τ) ↦[arg11.view.set]{fullShare} g) ∗ ⌜∀ h' j', tileC (arg11.view.read (Elt F) g) h' j' = if j'.val < n then dcStep (b.delta h' t) (b.prob t.val h' j') (b.dprob h' j') (tileC (k0_pay92) h' j') else tileC (k0_pay92) h' j'⌝) ∗ (∃ g, (arg12.view.loc (c : Thread nD τ) ↦[arg12.view.set]{fullShare} g) ∗ ⌜∀ h' (j' : Fin 8), j'.val ≤ t.val → tileP (arg12.view.read (Elt F) g) h' j' = b.prob t.val h' j'⌝) ∗ (∃ g, (arg13.view.loc (c : Thread nD τ) ↦[arg13.view.set]{fullShare} g) ∗ ⌜∀ h' (j' : Fin 8), j'.val ≤ t.val → tileP (arg13.view.read (Elt F) g) h' j' = b.dprob h' j'⌝) ∗ ⌜acc = (dqs b t 0 n, dqs b t 1 n, dqs b t 2 n, dqs b t 3 n)⌝)) $$ [H2 H3 H9 H10 H11 H12 H13]
  case region =>
    intro k acc
    iintro ⟨H2, H3, ⟨%g9, H9, %hg9⟩, ⟨%g10, H10, %hg10⟩, ⟨%g11, H11, %hg11⟩, ⟨%g12, H12, %hg12⟩, ⟨%g13, H13, %hg13⟩, %hacc⟩
    have hkt : k.val ≤ t.val := by
      have h1 : k.val < (k0_t3_loop i).trips := k.isLt
      rw [trips3, ← ht] at h1; omega
    have hk8 : k.val < 8 := by have := t.isLt; omega
    iapply (wp_wand_r Idealize.ShloMosaic.frame (wpE (defs₀ (F := F)) Variants.none (c : Thread nD τ) none) E)
    isplitl [H2 H3 H9 H10 H11 H12 H13]
    · iapply (trip3 Variants.none c none E i arg2 harg2 arg3 harg3 arg4 harg4 arg5 harg5 arg6 harg6 arg7 harg7 arg8 harg8 arg9 harg9 arg10 harg10 arg11 harg11 arg12 harg12 arg13 harg13 b (fun h => b.delta h t) f2 f3 g9 g10 g11 g12 g13 hb2 hb3 _ _ _ _ _ _ _ _ _
        (by sl_open_run; rw [readAt_headQ (off := ![0, 0, 0]) _ _ _ 0 rfl, hb7]) (by sl_open_run; rw [readAt_headQ (off := ![1, 0, 0]) _ _ _ 1 rfl, hb7]) (by sl_open_run; rw [readAt_headQ (off := ![2, 0, 0]) _ _ _ 2 rfl, hb7]) (by sl_open_run; rw [readAt_headQ (off := ![3, 0, 0]) _ _ _ 3 rfl, hb7]) (by sl_open_run; simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_delta0, pay_delta1, pay_delta2]; rfl) (by sl_open_run; simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_delta0, pay_delta1, pay_delta2]; rfl) (by sl_open_run; simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_delta0, pay_delta1, pay_delta2]; rfl) (by sl_open_run; simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_delta0, pay_delta1, pay_delta2]; rfl) k acc ⟨k.val, hk8⟩ rfl)
      isplitl [H2]; · iexact H2
      isplitl [H3]; · iexact H3
      isplitl [H9]; · iexact H9
      isplitl [H10]; · iexact H10
      isplitl [H11]; · iexact H11
      isplitl [H12]; · iexact H12
      iexact H13
    · iintro %y ⟨H2, H3, H12, H13, ⟨%k9, H9, %hk9⟩, ⟨%k10, H10, %hk10⟩, ⟨%k11, H11, %hk11⟩, %hy⟩
      isplitl [H2]; · iexact H2
      isplitl [H3]; · iexact H3
      have ep : ∀ h', tileP (arg12.view.read (Elt F) g12) h' ⟨k.val, hk8⟩ = b.prob t.val h' ⟨k.val, hk8⟩ := fun h' => hg12 h' ⟨k.val, hk8⟩ hkt
      have edp : ∀ h', tileP (arg13.view.read (Elt F) g13) h' ⟨k.val, hk8⟩ = b.dprob h' ⟨k.val, hk8⟩ := fun h' => hg13 h' ⟨k.val, hk8⟩ hkt
      simp only [ep, edp] at hk9 hk10 hk11 hy
      isplitl [H9]
      · iexists k9
        isplitl [H9]; · iexact H9
        ipureintro
        exact acc_succ hk8 (fun h' j' => tileK (arg9.view.read (Elt F) g9) h' j') _ (fun h' j' => tileK (k0_pay90) h' j') (fun h' j' y => dkStep b (b.delta h' t) (b.prob t.val h' j') (b.dprob h' j') h' y) hg9 hk9
      isplitl [H10]
      · iexists k10
        isplitl [H10]; · iexact H10
        ipureintro
        exact acc_succ hk8 (fun h' j' => tileK (arg10.view.read (Elt F) g10) h' j') _ (fun h' j' => tileK (k0_pay91) h' j') (fun h' j' y => dvStep b (b.prob t.val h' j') h' y) hg10 hk10
      isplitl [H11]
      · iexists k11
        isplitl [H11]; · iexact H11
        ipureintro
        exact acc_succ hk8 (fun h' j' => tileC (arg11.view.read (Elt F) g11) h' j') _ (fun h' j' => tileC (k0_pay92) h' j') (fun h' j' y => dcStep (b.delta h' t) (b.prob t.val h' j') (b.dprob h' j') y) hg11 hk11
      isplitl [H12]
      · iexists g12
        isplitl [H12]; · iexact H12
        ipureintro
        exact hg12
      isplitl [H13]
      · iexists g13
        isplitl [H13]; · iexact H13
        ipureintro
        exact hg13
      ipureintro
      subst hacc
      rw [hy]
      simp only [dqs, dif_pos hk8]
  · isplitl [H2]; · iexact H2
    isplitl [H3]; · iexact H3
    isplitl [H9]
    · iexists _
      isplitl [H9]; · iexact H9
      ipureintro
      intro h' j'
      rw [if_neg (Nat.not_lt_zero _)]
      sl_open_run
      rw [View.read_writes_full]
    isplitl [H10]
    · iexists _
      isplitl [H10]; · iexact H10
      ipureintro
      intro h' j'
      rw [if_neg (Nat.not_lt_zero _)]
      sl_open_run
      rw [View.read_writes_full]
    isplitl [H11]
    · iexists _
      isplitl [H11]; · iexact H11
      ipureintro
      intro h' j'
      rw [if_neg (Nat.not_lt_zero _)]
      sl_open_run
      rw [View.read_writes_full]
    isplitl [H12]
    · iexists _
      isplitl [H12]; · iexact H12
      ipureintro
      intro h' j' hle
      rw [writes_tileP _ _ _ _ _ 3 h' t j' o36, writes_tileP _ _ _ _ _ 2 h' t j' o33, writes_tileP _ _ _ _ _ 1 h' t j' o30, writes_tileP _ _ _ _ _ 0 h' t j' o27, View.writes_nil]
      sl_open_run
      simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_diag0, pay_diag1, pay_diag2, d1]
      refine (pick4 h' (j' = t) (fun h => b.diag h t) _).trans ?_
      by_cases e : j' = t
      · rw [if_pos e, e, Blocks.prob, if_neg (Nat.lt_irrefl _)]
      · have hlt : j'.val < t.val := by have : j'.val ≠ t.val := fun h => e (Fin.ext h); omega
        rw [if_neg e, Blocks.prob, if_pos hlt]
        exact hp12 h' j' hlt
    isplitl [H13]
    · iexists _
      isplitl [H13]; · iexact H13
      ipureintro
      intro h' j' hle
      rw [writes_tileP _ _ _ _ _ 3 h' t j' o36, writes_tileP _ _ _ _ _ 2 h' t j' o33, writes_tileP _ _ _ _ _ 1 h' t j' o30, writes_tileP _ _ _ _ _ 0 h' t j' o27, View.writes_nil]
      sl_open_run
      simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_ddiag0, pay_ddiag1, pay_ddiag2, pay_ddiag3, d2]
      refine (pick4 h' (j' = t) (fun h => b.dprob h t) _).trans ?_
      by_cases e : j' = t
      · rw [if_pos e, e]
      · have hlt : j'.val < t.val := by have : j'.val ≠ t.val := fun h => e (Fin.ext h); omega
        rw [if_neg e]
        exact hp13 h' j' hlt
    ipureintro
    rfl
  iintro %acc3 ⟨H2, H3, ⟨%g9, H9, %hg9⟩, ⟨%g10, H10, %hg10⟩, ⟨%g11, H11, %hg11⟩, ⟨%k12, H12, -⟩, ⟨%k13, H13, -⟩, %hacc3⟩
  have hT3 : Scf.trips (k0_t3_loop i).lb (k0_t3_loop i).ub (k0_t3_loop i).st = t.val + 1 := (trips3 i).trans (by rw [ht])
  have hq9 : ∀ h' j', tileK (arg9.view.read (Elt F) g9) h' j' = dkTile b t (k0_pay90) h' j' := by
    intro h' j'; rw [dkTile, hg9 h' j', hT3]; simp only [Nat.lt_succ_iff]
  have hq10 : ∀ h' j', tileK (arg10.view.read (Elt F) g10) h' j' = dvTile b t (k0_pay91) h' j' := by
    intro h' j'; rw [dvTile, hg10 h' j', hT3]; simp only [Nat.lt_succ_iff]
  have hq11 : ∀ h' j', tileC (arg11.view.read (Elt F) g11) h' j' = dcTile b t (k0_pay92) h' j' := by
    intro h' j'; rw [dcTile, hg11 h' j', hT3]; simp only [Nat.lt_succ_iff]
  have hs3 : acc3 = (dqs b t 0 (t.val + 1), dqs b t 1 (t.val + 1), dqs b t 2 (t.val + 1), dqs b t 3 (t.val + 1)) := by rw [← hT3]; exact hacc3
  clear hg9 hg10 hg11 hacc3
  subst hs3
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    intro h'
    rw [writes_headQ (off := ![3, 0, 0]) _ _ _ _ _ 3 h' rfl, writes_headQ (off := ![2, 0, 0]) _ _ _ _ _ 2 h' rfl, writes_headQ (off := ![1, 0, 0]) _ _ _ _ _ 1 h' rfl, writes_headQ (off := ![0, 0, 0]) _ _ _ _ _ 0 h' rfl, View.writes_nil]
    sl_open_run
    simp only [pay_out1, pay_out2, pay_out3]
    match h' with
    | 0 => simp only [Fin.reduceEq, if_false, reduceIte]
    | 1 => simp only [Fin.reduceEq, if_false, reduceIte]
    | 2 => simp only [Fin.reduceEq, if_false, reduceIte]
    | 3 => simp only [reduceIte]
  isplitl [H9]
  · iexists g9
    isplitl [H9]; · iexact H9
    ipureintro; exact hq9
  isplitl [H10]
  · iexists g10
    isplitl [H10]; · iexact H10
    ipureintro; exact hq10
  isplitl [H11]
  · iexists g11
    isplitl [H11]; · iexact H11
    ipureintro; exact hq11
  isplitl [H12]
  · iexists k12; iexact H12
  iexists k13; iexact H13

end Cert.Proof.Attn
-- ==== Proof.RunLater.lean ====
module

public import proofs.«01_k».proof.Proof.RunFirst
public import proofs.«01_k».proof.Proof.Gen.KernelIdeal.Frame
public import Idealize.ShloMosaic.Lib.Tactic.Stretches
public import Idealize.ShloMosaic.Lib.VecWindow

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later query tile: the three accumulators go on from what they hold. -/
theorem runLater (c : Dev nD) (i : grid0.Coords) (E : Set ℕ) (arg2 : Memref sig .tc .vmem S4x256x64 .bf16) (harg2 : arg2.IsWhole) (arg3 : Memref sig .tc .vmem S4x2048x64 .bf16) (harg3 : arg3.IsWhole) (arg4 : Memref sig .tc .vmem S4x2048x64 .bf16) (harg4 : arg4.IsWhole) (arg5 : Memref sig .tc .vmem S4x1x2048 .f32) (harg5 : arg5.IsWhole) (arg6 : Memref sig .tc .vmem S4x256x1 .f32) (harg6 : arg6.IsWhole) (arg7 : Memref sig .tc .vmem S4x256x64 .f32) (harg7 : arg7.IsWhole) (arg8 : Memref sig .tc .vmem S4x256x64 .f32) (harg8 : arg8.IsWhole) (arg9 : Memref sig .tc .vmem S4x2048x64 .f32) (harg9 : arg9.IsWhole) (arg10 : Memref sig .tc .vmem S4x2048x64 .f32) (harg10 : arg10.IsWhole) (arg11 : Memref sig .tc .vmem S4x1x2048 .f32) (harg11 : arg11.IsWhole) (arg12 : Memref sig .tc .vmem S4x8x256x256 .f32) (harg12 : arg12.IsWhole) (arg13 : Memref sig .tc .vmem S4x8x256x256 .f32) (harg13 : arg13.IsWhole) (hc : ¬cond i) (t : Fin 8) (ht : t.val = (i 1).val)
    (b : Blocks F) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (hb2 : arg2.view.read (Elt F) f2 = b.q) (hb3 : arg3.view.read (Elt F) f3 = b.k) (hb4 : arg4.view.read (Elt F) f4 = b.v) (hb5 : arg5.view.read (Elt F) f5 = b.c) (hb6 : arg6.view.read (Elt F) f6 = b.l) (hb7 : arg7.view.read (Elt F) f7 = b.o) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E
          (cc0_attn_bwd (F := F) i arg2 harg2 arg3 harg3 arg4 harg4 arg5 harg5 arg6 harg6 arg7 harg7 arg8 harg8 arg9 harg9 arg10 harg10 arg11 harg11 arg12 harg12 arg13 harg13)
          (fun _ => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7)
            ∗ (∃ g, (arg8.view.loc (c : Thread nD τ) ↦[arg8.view.set]{fullShare} g) ∗ ⌜∀ h', headQ (arg8.view.read (Elt F) g) h' = k0_pay139 (dqs b t h' (t.val + 1))⌝)
            ∗ (∃ g, (arg9.view.loc (c : Thread nD τ) ↦[arg9.view.set]{fullShare} g) ∗ ⌜∀ h' j', tileK (arg9.view.read (Elt F) g) h' j' = dkTile b t (arg9.view.read (Elt F) f9) h' j'⌝)
            ∗ (∃ g, (arg10.view.loc (c : Thread nD τ) ↦[arg10.view.set]{fullShare} g) ∗ ⌜∀ h' j', tileK (arg10.view.read (Elt F) g) h' j' = dvTile b t (arg10.view.read (Elt F) f10) h' j'⌝)
            ∗ (∃ g, (arg11.view.loc (c : Thread nD τ) ↦[arg11.view.set]{fullShare} g) ∗ ⌜∀ h' j', tileC (arg11.view.read (Elt F) g) h' j' = dcTile b t (arg11.view.read (Elt F) f11) h' j'⌝)
            ∗ (∃ g, (arg12.view.loc (c : Thread nD τ) ↦[arg12.view.set]{fullShare} g)) ∗ (∃ g, (arg13.view.loc (c : Thread nD τ) ↦[arg13.view.set]{fullShare} g)))) := by
  simp only [cc0_attn_bwd_eq_skeleton]; unfold cc0_attn_bwd_skel
  simp only [k0_part22_eq_skeleton]; unfold k0_part22_skel
  simp only [k0_part17_eq_skeleton, k0_part18_eq_skeleton, k0_part19_eq_skeleton, k0_part20_eq_skeleton, k0_part21_eq_skeleton]
  have htr2 : (k0_t2_loop i).trips = 0 := trips2 i
  have htr4 : (k0_t4_loop i).trips = 0 := trips4 i
  have d1 : ∀ h, k0_pay128 (headQ b.q h) (tileK b.k h t) (tileC b.c h t) (headL b.l h) = b.diag h t := fun _ => rfl
  have d2 : ∀ h, k0_pay101 (headQ b.o h) (tileK b.v h t) = b.dprob h t := fun _ => rfl
  iintro ⟨H2, H3, H4, H5, H6, H7, H8, H9, H10, H11, H12, H13⟩
  sl_exec (disch := first | sl_exact hc)
  sl_for (fun (n : ℕ) (acc : FVec F S256x1 .f32 × FVec F S256x1 .f32 × FVec F S256x1 .f32 × FVec F S256x1 .f32) => iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g, (arg12.view.loc (c : Thread nD τ) ↦[arg12.view.set]{fullShare} g) ∗ ⌜∀ h' j', j'.val < n → tileP (arg12.view.read (Elt F) g) h' j' = b.early h' j'⌝) ∗ (∃ g, (arg13.view.loc (c : Thread nD τ) ↦[arg13.view.set]{fullShare} g) ∗ ⌜∀ h' j', j'.val < n → tileP (arg13.view.read (Elt F) g) h' j' = b.dprob h' j'⌝) ∗ ⌜acc = (b.sums 0 n, b.sums 1 n, b.sums 2 n, b.sums 3 n)⌝)) $$ [H2 H3 H4 H5 H6 H12 H13]
  case region =>
    intro k acc
    iintro ⟨H2, H3, H4, H5, H6, ⟨%g12, H12, %hg12⟩, ⟨%g13, H13, %hg13⟩, %hacc⟩
    have hk8 : k.val < 8 := by
      have h1 : k.val < (k0_t1_loop i).trips := k.isLt
      have h2 : (i 1).val < 8 := (i 1).isLt
      rw [trips1] at h1; omega
    iapply (wp_wand_r Idealize.ShloMosaic.frame (wpE (defs₀ (F := F)) Variants.none (c : Thread nD τ) none) E)
    isplitl [H2 H3 H4 H5 H6 H12 H13]
    · iapply (trip1 Variants.none c none E i arg2 harg2 arg3 harg3 arg4 harg4 arg5 harg5 arg6 harg6 arg7 harg7 arg8 harg8 arg9 harg9 arg10 harg10 arg11 harg11 arg12 harg12 arg13 harg13 b f2 f3 f4 f5 f6 g12 g13 hb2 hb3 hb4 hb5 hb6 _ _ _ _ (by rw [readAt_headQ (off := ![0, 0, 0]) _ _ _ 0 rfl, hb7]) (by rw [readAt_headQ (off := ![1, 0, 0]) _ _ _ 1 rfl, hb7]) (by rw [readAt_headQ (off := ![2, 0, 0]) _ _ _ 2 rfl, hb7]) (by rw [readAt_headQ (off := ![3, 0, 0]) _ _ _ 3 rfl, hb7]) k acc ⟨k.val, hk8⟩ rfl)
      isplitl [H2]; · iexact H2
      isplitl [H3]; · iexact H3
      isplitl [H4]; · iexact H4
      isplitl [H5]; · iexact H5
      isplitl [H6]; · iexact H6
      isplitl [H12]; · iexact H12
      iexact H13
    · iintro %y ⟨H2, H3, H4, H5, H6, ⟨%k12, H12, %hk12⟩, ⟨%k13, H13, %hk13⟩, %hy⟩
      isplitl [H2]; · iexact H2
      isplitl [H3]; · iexact H3
      isplitl [H4]; · iexact H4
      isplitl [H5]; · iexact H5
      isplitl [H6]; · iexact H6
      isplitl [H12]
      · iexists k12
        isplitl [H12]; · iexact H12
        ipureintro
        exact upTo_succ hk8 (fun h' j' => tileP (arg12.view.read (Elt F) g12) h' j') _ _ hg12 hk12
      isplitl [H13]
      · iexists k13
        isplitl [H13]; · iexact H13
        ipureintro
        exact upTo_succ hk8 (fun h' j' => tileP (arg13.view.read (Elt F) g13) h' j') _ _ hg13 hk13
      ipureintro
      subst hacc
      rw [hy]
      simp only [Blocks.sums, dif_pos hk8]
  · isplitl [H2]; · iexact H2
    isplitl [H3]; · iexact H3
    isplitl [H4]; · iexact H4
    isplitl [H5]; · iexact H5
    isplitl [H6]; · iexact H6
    isplitl [H12]
    · iexists f12
      isplitl [H12]; · iexact H12
      ipureintro
      exact fun _ _ h => absurd h (Nat.not_lt_zero _)
    isplitl [H13]
    · iexists f13
      isplitl [H13]; · iexact H13
      ipureintro
      exact fun _ _ h => absurd h (Nat.not_lt_zero _)
    ipureintro
    rfl
  iintro %acc1 ⟨H2, H3, H4, H5, H6, ⟨%g12, H12, %hg12⟩, ⟨%g13, H13, %hg13⟩, %hacc1⟩
  have hT : (k0_t1_loop i).trips = t.val := (trips1 i).trans ht.symm
  have hp12 : ∀ h' (j' : Fin 8), j'.val < t.val → tileP (arg12.view.read (Elt F) g12) h' j' = b.early h' j' := by rw [← hT]; exact hg12
  have hp13 : ∀ h' (j' : Fin 8), j'.val < t.val → tileP (arg13.view.read (Elt F) g13) h' j' = b.dprob h' j' := by rw [← hT]; exact hg13
  have hs : acc1 = (b.sums 0 t.val, b.sums 1 t.val, b.sums 2 t.val, b.sums 3 t.val) := by rw [← hT]; exact hacc1
  clear hg12 hg13 hacc1
  subst hs
  sl_exec
  have hj : t.val = (i 1).val := ht
  have o25 : k0_off25 i = ![(0 : Fin 4).val, 256 * t.val, 0] := by rw [at_off25, hj]; rfl
  have o26 : k0_off26 i = ![(0 : Fin 4).val, 0, 256 * t.val] := by rw [at_off26, hj]; rfl
  have o27 : k0_off27 i = ![(0 : Fin 4).val, t.val, 0, 0] := by rw [at_off27, hj]; rfl
  have o28 : k0_off28 i = ![(1 : Fin 4).val, 256 * t.val, 0] := by rw [at_off28, hj]; rfl
  have o29 : k0_off29 i = ![(1 : Fin 4).val, 0, 256 * t.val] := by rw [at_off29, hj]; rfl
  have o30 : k0_off30 i = ![(1 : Fin 4).val, t.val, 0, 0] := by rw [at_off30, hj]; rfl
  have o31 : k0_off31 i = ![(2 : Fin 4).val, 256 * t.val, 0] := by rw [at_off31, hj]; rfl
  have o32 : k0_off32 i = ![(2 : Fin 4).val, 0, 256 * t.val] := by rw [at_off32, hj]; rfl
  have o33 : k0_off33 i = ![(2 : Fin 4).val, t.val, 0, 0] := by rw [at_off33, hj]; rfl
  have o34 : k0_off34 i = ![(3 : Fin 4).val, 256 * t.val, 0] := by rw [at_off34, hj]; rfl
  have o35 : k0_off35 i = ![(3 : Fin 4).val, 0, 256 * t.val] := by rw [at_off35, hj]; rfl
  have o36 : k0_off36 i = ![(3 : Fin 4).val, t.val, 0, 0] := by rw [at_off36, hj]; rfl
  irw [wp_bind]
  sl_for (fun (n : ℕ) (acc : FVec F S256x64 .f32 × FVec F S256x64 .f32 × FVec F S256x64 .f32 × FVec F S256x64 .f32) => iprop((arg2.view.loc (c : Thread nD τ) ↦[arg2.view.set]{fullShare} f2) ∗ (arg3.view.loc (c : Thread nD τ) ↦[arg3.view.set]{fullShare} f3) ∗ (∃ g, (arg9.view.loc (c : Thread nD τ) ↦[arg9.view.set]{fullShare} g) ∗ ⌜∀ h' j', tileK (arg9.view.read (Elt F) g) h' j' = if j'.val < n then dkStep b (b.delta h' t) (b.prob t.val h' j') (b.dprob h' j') h' (tileK ((arg9.view.read (Elt F) f9)) h' j') else tileK ((arg9.view.read (Elt F) f9)) h' j'⌝) ∗ (∃ g, (arg10.view.loc (c : Thread nD τ) ↦[arg10.view.set]{fullShare} g) ∗ ⌜∀ h' j', tileK (arg10.view.read (Elt F) g) h' j' = if j'.val < n then dvStep b (b.prob t.val h' j') h' (tileK ((arg10.view.read (Elt F) f10)) h' j') else tileK ((arg10.view.read (Elt F) f10)) h' j'⌝) ∗ (∃ g, (arg11.view.loc (c : Thread nD τ) ↦[arg11.view.set]{fullShare} g) ∗ ⌜∀ h' j', tileC (arg11.view.read (Elt F) g) h' j' = if j'.val < n then dcStep (b.delta h' t) (b.prob t.val h' j') (b.dprob h' j') (tileC ((arg11.view.read (Elt F) f11)) h' j') else tileC ((arg11.view.read (Elt F) f11)) h' j'⌝) ∗ (∃ g, (arg12.view.loc (c : Thread nD τ) ↦[arg12.view.set]{fullShare} g) ∗ ⌜∀ h' (j' : Fin 8), j'.val ≤ t.val → tileP (arg12.view.read (Elt F) g) h' j' = b.prob t.val h' j'⌝) ∗ (∃ g, (arg13.view.loc (c : Thread nD τ) ↦[arg13.view.set]{fullShare} g) ∗ ⌜∀ h' (j' : Fin 8), j'.val ≤ t.val → tileP (arg13.view.read (Elt F) g) h' j' = b.dprob h' j'⌝) ∗ ⌜acc = (dqs b t 0 n, dqs b t 1 n, dqs b t 2 n, dqs b t 3 n)⌝)) $$ [H2 H3 H9 H10 H11 H12 H13]
  case region =>
    intro k acc
    iintro ⟨H2, H3, ⟨%g9, H9, %hg9⟩, ⟨%g10, H10, %hg10⟩, ⟨%g11, H11, %hg11⟩, ⟨%g12, H12, %hg12⟩, ⟨%g13, H13, %hg13⟩, %hacc⟩
    have hkt : k.val ≤ t.val := by
      have h1 : k.val < (k0_t3_loop i).trips := k.isLt
      rw [trips3, ← ht] at h1; omega
    have hk8 : k.val < 8 := by have := t.isLt; omega
    iapply (wp_wand_r Idealize.ShloMosaic.frame (wpE (defs₀ (F := F)) Variants.none (c : Thread nD τ) none) E)
    isplitl [H2 H3 H9 H10 H11 H12 H13]
    · iapply (trip3 Variants.none c none E i arg2 harg2 arg3 harg3 arg4 harg4 arg5 harg5 arg6 harg6 arg7 harg7 arg8 harg8 arg9 harg9 arg10 harg10 arg11 harg11 arg12 harg12 arg13 harg13 b (fun h => b.delta h t) f2 f3 g9 g10 g11 g12 g13 hb2 hb3 _ _ _ _ _ _ _ _ _
        (by sl_open_run; rw [readAt_headQ (off := ![0, 0, 0]) _ _ _ 0 rfl, hb7]) (by sl_open_run; rw [readAt_headQ (off := ![1, 0, 0]) _ _ _ 1 rfl, hb7]) (by sl_open_run; rw [readAt_headQ (off := ![2, 0, 0]) _ _ _ 2 rfl, hb7]) (by sl_open_run; rw [readAt_headQ (off := ![3, 0, 0]) _ _ _ 3 rfl, hb7]) (by sl_open_run; simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_delta0, pay_delta1, pay_delta2]; rfl) (by sl_open_run; simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_delta0, pay_delta1, pay_delta2]; rfl) (by sl_open_run; simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_delta0, pay_delta1, pay_delta2]; rfl) (by sl_open_run; simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_delta0, pay_delta1, pay_delta2]; rfl) k acc ⟨k.val, hk8⟩ rfl)
      isplitl [H2]; · iexact H2
      isplitl [H3]; · iexact H3
      isplitl [H9]; · iexact H9
      isplitl [H10]; · iexact H10
      isplitl [H11]; · iexact H11
      isplitl [H12]; · iexact H12
      iexact H13
    · iintro %y ⟨H2, H3, H12, H13, ⟨%k9, H9, %hk9⟩, ⟨%k10, H10, %hk10⟩, ⟨%k11, H11, %hk11⟩, %hy⟩
      isplitl [H2]; · iexact H2
      isplitl [H3]; · iexact H3
      have ep : ∀ h', tileP (arg12.view.read (Elt F) g12) h' ⟨k.val, hk8⟩ = b.prob t.val h' ⟨k.val, hk8⟩ := fun h' => hg12 h' ⟨k.val, hk8⟩ hkt
      have edp : ∀ h', tileP (arg13.view.read (Elt F) g13) h' ⟨k.val, hk8⟩ = b.dprob h' ⟨k.val, hk8⟩ := fun h' => hg13 h' ⟨k.val, hk8⟩ hkt
      simp only [ep, edp] at hk9 hk10 hk11 hy
      isplitl [H9]
      · iexists k9
        isplitl [H9]; · iexact H9
        ipureintro
        exact acc_succ hk8 (fun h' j' => tileK (arg9.view.read (Elt F) g9) h' j') _ (fun h' j' => tileK ((arg9.view.read (Elt F) f9)) h' j') (fun h' j' y => dkStep b (b.delta h' t) (b.prob t.val h' j') (b.dprob h' j') h' y) hg9 hk9
      isplitl [H10]
      · iexists k10
        isplitl [H10]; · iexact H10
        ipureintro
        exact acc_succ hk8 (fun h' j' => tileK (arg10.view.read (Elt F) g10) h' j') _ (fun h' j' => tileK ((arg10.view.read (Elt F) f10)) h' j') (fun h' j' y => dvStep b (b.prob t.val h' j') h' y) hg10 hk10
      isplitl [H11]
      · iexists k11
        isplitl [H11]; · iexact H11
        ipureintro
        exact acc_succ hk8 (fun h' j' => tileC (arg11.view.read (Elt F) g11) h' j') _ (fun h' j' => tileC ((arg11.view.read (Elt F) f11)) h' j') (fun h' j' y => dcStep (b.delta h' t) (b.prob t.val h' j') (b.dprob h' j') y) hg11 hk11
      isplitl [H12]
      · iexists g12
        isplitl [H12]; · iexact H12
        ipureintro
        exact hg12
      isplitl [H13]
      · iexists g13
        isplitl [H13]; · iexact H13
        ipureintro
        exact hg13
      ipureintro
      subst hacc
      rw [hy]
      simp only [dqs, dif_pos hk8]
  · isplitl [H2]; · iexact H2
    isplitl [H3]; · iexact H3
    isplitl [H9]
    · iexists _
      isplitl [H9]; · iexact H9
      ipureintro
      intro h' j'
      rw [if_neg (Nat.not_lt_zero _)]
    isplitl [H10]
    · iexists _
      isplitl [H10]; · iexact H10
      ipureintro
      intro h' j'
      rw [if_neg (Nat.not_lt_zero _)]
    isplitl [H11]
    · iexists _
      isplitl [H11]; · iexact H11
      ipureintro
      intro h' j'
      rw [if_neg (Nat.not_lt_zero _)]
    isplitl [H12]
    · iexists _
      isplitl [H12]; · iexact H12
      ipureintro
      intro h' j' hle
      rw [writes_tileP _ _ _ _ _ 3 h' t j' o36, writes_tileP _ _ _ _ _ 2 h' t j' o33, writes_tileP _ _ _ _ _ 1 h' t j' o30, writes_tileP _ _ _ _ _ 0 h' t j' o27, View.writes_nil]
      sl_open_run
      simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_diag0, pay_diag1, pay_diag2, d1]
      refine (pick4 h' (j' = t) (fun h => b.diag h t) _).trans ?_
      by_cases e : j' = t
      · rw [if_pos e, e, Blocks.prob, if_neg (Nat.lt_irrefl _)]
      · have hlt : j'.val < t.val := by have : j'.val ≠ t.val := fun h => e (Fin.ext h); omega
        rw [if_neg e, Blocks.prob, if_pos hlt]
        exact hp12 h' j' hlt
    isplitl [H13]
    · iexists _
      isplitl [H13]; · iexact H13
      ipureintro
      intro h' j' hle
      rw [writes_tileP _ _ _ _ _ 3 h' t j' o36, writes_tileP _ _ _ _ _ 2 h' t j' o33, writes_tileP _ _ _ _ _ 1 h' t j' o30, writes_tileP _ _ _ _ _ 0 h' t j' o27, View.writes_nil]
      sl_open_run
      simp only [readAt_tileK _ _ _ 0 t o25, readAt_tileC _ _ _ 0 t o26, readAt_tileK _ _ _ 1 t o28, readAt_tileC _ _ _ 1 t o29, readAt_tileK _ _ _ 2 t o31, readAt_tileC _ _ _ 2 t o32, readAt_tileK _ _ _ 3 t o34, readAt_tileC _ _ _ 3 t o35, readAt_headQ (off := ![0, 0, 0]) _ _ _ 0 rfl, readAt_headQ (off := ![1, 0, 0]) _ _ _ 1 rfl, readAt_headQ (off := ![2, 0, 0]) _ _ _ 2 rfl, readAt_headQ (off := ![3, 0, 0]) _ _ _ 3 rfl, readAt_headL (off := ![0, 0, 0]) _ _ _ 0 rfl, readAt_headL (off := ![1, 0, 0]) _ _ _ 1 rfl, readAt_headL (off := ![2, 0, 0]) _ _ _ 2 rfl, readAt_headL (off := ![3, 0, 0]) _ _ _ 3 rfl, hb2, hb3, hb4, hb5, hb6, hb7, pay_ddiag0, pay_ddiag1, pay_ddiag2, pay_ddiag3, d2]
      refine (pick4 h' (j' = t) (fun h => b.dprob h t) _).trans ?_
      by_cases e : j' = t
      · rw [if_pos e, e]
      · have hlt : j'.val < t.val := by have : j'.val ≠ t.val := fun h => e (Fin.ext h); omega
        rw [if_neg e]
        exact hp13 h' j' hlt
    ipureintro
    rfl
  iintro %acc3 ⟨H2, H3, ⟨%g9, H9, %hg9⟩, ⟨%g10, H10, %hg10⟩, ⟨%g11, H11, %hg11⟩, ⟨%k12, H12, -⟩, ⟨%k13, H13, -⟩, %hacc3⟩
  have hT3 : Scf.trips (k0_t3_loop i).lb (k0_t3_loop i).ub (k0_t3_loop i).st = t.val + 1 := (trips3 i).trans (by rw [ht])
  have hq9 : ∀ h' j', tileK (arg9.view.read (Elt F) g9) h' j' = dkTile b t ((arg9.view.read (Elt F) f9)) h' j' := by
    intro h' j'; rw [dkTile, hg9 h' j', hT3]; simp only [Nat.lt_succ_iff]
  have hq10 : ∀ h' j', tileK (arg10.view.read (Elt F) g10) h' j' = dvTile b t ((arg10.view.read (Elt F) f10)) h' j' := by
    intro h' j'; rw [dvTile, hg10 h' j', hT3]; simp only [Nat.lt_succ_iff]
  have hq11 : ∀ h' j', tileC (arg11.view.read (Elt F) g11) h' j' = dcTile b t ((arg11.view.read (Elt F) f11)) h' j' := by
    intro h' j'; rw [dcTile, hg11 h' j', hT3]; simp only [Nat.lt_succ_iff]
  have hs3 : acc3 = (dqs b t 0 (t.val + 1), dqs b t 1 (t.val + 1), dqs b t 2 (t.val + 1), dqs b t 3 (t.val + 1)) := by rw [← hT3]; exact hacc3
  clear hg9 hg10 hg11 hacc3
  subst hs3
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    intro h'
    rw [writes_headQ (off := ![3, 0, 0]) _ _ _ _ _ 3 h' rfl, writes_headQ (off := ![2, 0, 0]) _ _ _ _ _ 2 h' rfl, writes_headQ (off := ![1, 0, 0]) _ _ _ _ _ 1 h' rfl, writes_headQ (off := ![0, 0, 0]) _ _ _ _ _ 0 h' rfl, View.writes_nil]
    sl_open_run
    simp only [pay_out1, pay_out2, pay_out3]
    match h' with
    | 0 => simp only [Fin.reduceEq, if_false, reduceIte]
    | 1 => simp only [Fin.reduceEq, if_false, reduceIte]
    | 2 => simp only [Fin.reduceEq, if_false, reduceIte]
    | 3 => simp only [reduceIte]
  isplitl [H9]
  · iexists g9
    isplitl [H9]; · iexact H9
    ipureintro; exact hq9
  isplitl [H10]
  · iexists g10
    isplitl [H10]; · iexact H10
    ipureintro; exact hq10
  isplitl [H11]
  · iexists g11
    isplitl [H11]; · iexact H11
    ipureintro; exact hq11
  isplitl [H12]
  · iexists k12; iexact H12
  iexists k13; iexact H13

end Cert.Proof.Attn
-- ==== Proof.Launched.lean ====
module

public import proofs.«01_k».proof.Proof.Group
public import proofs.«01_k».proof.Proof.RunFirst
public import proofs.«01_k».proof.Proof.RunLater
public import Idealize.ShloMosaic.Lib.Claim

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch: from one grid point's run to the whole program's -/

theorem lt_sixteen (t : Fin cfg0.N) : t.val < 16 := lt_of_lt_of_eq t.isLt N_0

/-- The second grid coordinate is the query tile. -/
theorem coord_tile (t : Fin cfg0.N) : (grid0.coords t 1).val = t.val % 8 := by
  have e1 : (grid0.coords t 1).val = t.val / 1 % 8 := Pipeline.Grid.coords_val t 1 (by decide) rfl
  rw [e1, Nat.div_one]

/-- The first is the head group. -/
theorem coord_group (t : Fin cfg0.N) : (grid0.coords t 0).val = t.val / 8 % 2 := Pipeline.Grid.coords_val t 0 (by decide) rfl

/-- The body's branch is taken at a head group's first point. -/
theorem cond_iff (t : Fin cfg0.N) : cond (grid0.coords t) ↔ t.val % 8 = 0 := by
  have ht := lt_sixteen t
  simp only [cond, coord_tile]
  word_cmp

/-- A point's query tile. -/
def tileOf (t : Fin cfg0.N) : Fin 8 := ⟨t.val % 8, Nat.mod_lt _ (by decide)⟩

/-- The point of head group `g` and query tile `u`. -/
def pointOf (g : Fin 2) (u : Fin 8) : Fin cfg0.N :=
  ⟨8 * g.val + u.val, by have h : cfg0.N = 16 := N_0; have := g.isLt; have := u.isLt; omega⟩

/-- A point's head group. -/
def groupOf (t : Fin cfg0.N) : Fin 2 := ⟨t.val / 8, by have := lt_sixteen t; omega⟩

theorem pointOf_self (t : Fin cfg0.N) : pointOf (groupOf t) (tileOf t) = t :=
  Fin.ext (Nat.div_add_mod t.val 8)

/-- The blocks the body reads at point `t`. -/
def blocks (c : Dev nD) (t : Fin cfg0.N) : Blocks F where
  q := iblk m c 0 t
  k := iblk m c 1 t
  v := iblk m c 2 t
  c := iblk m c 3 t
  l := iblk m c 4 t
  o := iblk m c 5 t

/-- The blocks of a head group's eight points. -/
def groupBlocks (c : Dev nD) (g : Fin 2) (u : Fin 8) : Blocks F := blocks m c (pointOf g u)

theorem groupBlocks_self (c : Dev nD) (t : Fin cfg0.N) : groupBlocks m c (groupOf t) (tileOf t) = blocks m c t := by
  unfold groupBlocks; rw [pointOf_self]

/-- The proof data: each input's buffer keeps its block; the queries' gradient is the point's own; the three
accumulators hold what the head group's points so far have left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOf (blocks m c t) (tileOf t)
    | ⟨7, _⟩ => dkAfter (groupBlocks m c (groupOf t)) ((tileOf t).val + 1)
    | ⟨8, _⟩ => dvAfter (groupBlocks m c (groupOf t)) ((tileOf t).val + 1)
    | ⟨9, _⟩ => dcAfter (groupBlocks m c (groupOf t)) ((tileOf t).val + 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqOf (blocks m c t) (tileOf t) := by dsimp only [dats]
theorem after0_7 (c : Dev nD) (t : Fin cfg0.N) : (dats m 0 c).after 7 t = dkAfter (groupBlocks m c (groupOf t)) ((tileOf t).val + 1) := by dsimp only [dats]
theorem after0_8 (c : Dev nD) (t : Fin cfg0.N) : (dats m 0 c).after 8 t = dvAfter (groupBlocks m c (groupOf t)) ((tileOf t).val + 1) := by dsimp only [dats]
theorem after0_9 (c : Dev nD) (t : Fin cfg0.N) : (dats m 0 c).after 9 t = dcAfter (groupBlocks m c (groupOf t)) ((tileOf t).val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later point of a head group the accumulator holds what the point before left. -/
theorem before0_7 (c : Dev nD) (t : Fin cfg0.N) (h0 : ¬t.val % 8 = 0) (d) :
    (dats m 0 c).before 7 t d = dkAfter (groupBlocks m c (groupOf t)) (tileOf t).val := by
  have hN := lt_sixteen t
  rw [Dat.before_out_kept _ 7 rfl t (by omega) (Bool.eq_false_iff.mpr fun h => by have := (flush0_7 _).mp h; dsimp only at this; omega)
    (fun _ => rfl) (fun _ _ => rfl), after0_7]
  have e1 : groupOf (⟨t.val - 1, Nat.lt_of_le_of_lt (Nat.sub_le _ _) t.isLt⟩ : Fin cfg0.N) = groupOf t := Fin.ext (by show (t.val - 1) / 8 = t.val / 8; omega)
  have e2 : (tileOf (⟨t.val - 1, Nat.lt_of_le_of_lt (Nat.sub_le _ _) t.isLt⟩ : Fin cfg0.N)).val + 1 = (tileOf t).val := by show (t.val - 1) % 8 + 1 = t.val % 8; omega
  rw [e1, e2]

/-- At a later point of a head group the accumulator holds what the point before left. -/
theorem before0_8 (c : Dev nD) (t : Fin cfg0.N) (h0 : ¬t.val % 8 = 0) (d) :
    (dats m 0 c).before 8 t d = dvAfter (groupBlocks m c (groupOf t)) (tileOf t).val := by
  have hN := lt_sixteen t
  rw [Dat.before_out_kept _ 8 rfl t (by omega) (Bool.eq_false_iff.mpr fun h => by have := (flush0_8 _).mp h; dsimp only at this; omega)
    (fun _ => rfl) (fun _ _ => rfl), after0_8]
  have e1 : groupOf (⟨t.val - 1, Nat.lt_of_le_of_lt (Nat.sub_le _ _) t.isLt⟩ : Fin cfg0.N) = groupOf t := Fin.ext (by show (t.val - 1) / 8 = t.val / 8; omega)
  have e2 : (tileOf (⟨t.val - 1, Nat.lt_of_le_of_lt (Nat.sub_le _ _) t.isLt⟩ : Fin cfg0.N)).val + 1 = (tileOf t).val := by show (t.val - 1) % 8 + 1 = t.val % 8; omega
  rw [e1, e2]

/-- At a later point of a head group the accumulator holds what the point before left. -/
theorem before0_9 (c : Dev nD) (t : Fin cfg0.N) (h0 : ¬t.val % 8 = 0) (d) :
    (dats m 0 c).before 9 t d = dcAfter (groupBlocks m c (groupOf t)) (tileOf t).val := by
  have hN := lt_sixteen t
  rw [Dat.before_out_kept _ 9 rfl t (by omega) (Bool.eq_false_iff.mpr fun h => by have := (flush0_9 _).mp h; dsimp only at this; omega)
    (fun _ => rfl) (fun _ _ => rfl), after0_9]
  have e1 : groupOf (⟨t.val - 1, Nat.lt_of_le_of_lt (Nat.sub_le _ _) t.isLt⟩ : Fin cfg0.N) = groupOf t := Fin.ext (by show (t.val - 1) / 8 = t.val / 8; omega)
  have e2 : (tileOf (⟨t.val - 1, Nat.lt_of_le_of_lt (Nat.sub_le _ _) t.isLt⟩ : Fin cfg0.N)).val + 1 = (tileOf t).val := by show (t.val - 1) % 8 + 1 = t.val % 8; omega
  rw [e1, e2]

theorem dkAfter_point (c : Dev nD) (t : Fin cfg0.N) :
    dkAfter (groupBlocks m c (groupOf t)) ((tileOf t).val + 1)
      = ofK (dkTile (blocks m c t) (tileOf t) (dkAfter (groupBlocks m c (groupOf t)) (tileOf t).val)) := by
  rw [dkAfter, dif_pos (tileOf t).isLt]
  show ofK (dkTile (groupBlocks m c (groupOf t) (tileOf t)) (tileOf t) _) = _
  rw [groupBlocks_self]

theorem dvAfter_point (c : Dev nD) (t : Fin cfg0.N) :
    dvAfter (groupBlocks m c (groupOf t)) ((tileOf t).val + 1)
      = ofK (dvTile (blocks m c t) (tileOf t) (dvAfter (groupBlocks m c (groupOf t)) (tileOf t).val)) := by
  rw [dvAfter, dif_pos (tileOf t).isLt]
  show ofK (dvTile (groupBlocks m c (groupOf t) (tileOf t)) (tileOf t) _) = _
  rw [groupBlocks_self]

theorem dcAfter_point (c : Dev nD) (t : Fin cfg0.N) :
    dcAfter (groupBlocks m c (groupOf t)) ((tileOf t).val + 1)
      = ofC (dcTile (blocks m c t) (tileOf t) (dcAfter (groupBlocks m c (groupOf t)) (tileOf t).val)) := by
  rw [dcAfter, dif_pos (tileOf t).isLt]
  show ofC (dcTile (groupBlocks m c (groupOf t) (tileOf t)) (tileOf t) _) = _
  rw [groupBlocks_self]

/-! ## The body at a point -/

abbrev ms0 (t : Fin cfg0.N) : Memref sig .tc .vmem S4x256x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x2048x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x2048x64 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x256x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x256x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4x2048x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4x2048x64 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x1x2048 .f32 := win0_9.stage (cfg0.slots t 9)
abbrev hs9 (t : Fin cfg0.N) : (ms9 t).IsWhole := hstage0_9 ((cfg0.slots t 9).cast nbuf0_9)
abbrev sc0 : Memref sig .tc .vmem S4x8x256x256 .f32 := Memref.whole cc0_scratch0
abbrev sc1 : Memref sig .tc .vmem S4x8x256x256 .f32 := Memref.whole cc0_scratch1

theorem invariant_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 2000000 in
/-- The body at any point, from the two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, invariant_eq]
  by_cases h0 : t.val % 8 = 0
  · have htile : (tileOf t).val = 0 := h0
    iintro ⟨⟨⟨⟨%d10, HS0⟩, ⟨%d11, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    unfold owns
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    icases H5 with ⟨%f5, %e5, H5⟩
    icases H6 with ⟨%f6, %e6, H6⟩
    icases H7 with ⟨%f7, %e7, H7⟩
    icases H8 with ⟨%f8, %e8, H8⟩
    icases H9 with ⟨%f9, %e9, H9⟩
    icases HS0 with ⟨%f10, %e10, HS0⟩
    icases HS1 with ⟨%f11, %e11, HS1⟩
    have run := runFirst c (grid0.coords t) Set.univ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) ((cond_iff t).mpr h0) (tileOf t) (coord_tile t).symm (blocks m c t) f0 f1 f2 f3 f4 f5 f6 f7 f8 f9 f10 f11 e0 e1 e2 e3 e4 e5
    iapply wp_wand_r
    isplitl [H0 H1 H2 H3 H4 H5 H6 H7 H8 H9 HS0 HS1]
    · iapply run
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iexact HS1
    iintro %_ ⟨H0, H1, H2, H3, H4, H5, ⟨%g6, H6, %r6⟩, ⟨%g7, H7, %r7⟩, ⟨%g8, H8, %r8⟩, ⟨%g9, H9, %r9⟩, ⟨%g10, HS0⟩, ⟨%g11, HS1⟩⟩
    isplitl [HS0 HS1 Hg]
    · isplitl [HS0 HS1]
      · isplitl [HS0]
        · iexists _; iexists _; isplitr
          swap; · iexact HS0
          ipureintro; rfl
        · iexists _; iexists _; isplitr
          swap; · iexact HS1
          ipureintro; rfl
      iexact Hg
    isplitl [Ho]; · iexact Ho
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact eq_ofQ _ _ r6
    isplitl [H7]
    · iexists _; isplitr
      swap; · iexact H7
      ipureintro; exact (eq_ofK _ _ r7).trans (by rw [dkAfter_point, htile]; rfl)
    isplitl [H8]
    · iexists _; isplitr
      swap; · iexact H8
      ipureintro; exact (eq_ofK _ _ r8).trans (by rw [dvAfter_point, htile]; rfl)
    iexists _; isplitr
    swap; · iexact H9
    ipureintro; exact (eq_ofC _ _ r9).trans (by rw [dcAfter_point, htile]; rfl)
  · simp only [before0_7 m c t h0, before0_8 m c t h0, before0_9 m c t h0]
    iintro ⟨⟨⟨⟨%d10, HS0⟩, ⟨%d11, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    unfold owns
    icases H0 with ⟨%f0, %e0, H0⟩
    icases H1 with ⟨%f1, %e1, H1⟩
    icases H2 with ⟨%f2, %e2, H2⟩
    icases H3 with ⟨%f3, %e3, H3⟩
    icases H4 with ⟨%f4, %e4, H4⟩
    icases H5 with ⟨%f5, %e5, H5⟩
    icases H6 with ⟨%f6, %e6, H6⟩
    icases H7 with ⟨%f7, %e7, H7⟩
    icases H8 with ⟨%f8, %e8, H8⟩
    icases H9 with ⟨%f9, %e9, H9⟩
    icases HS0 with ⟨%f10, %e10, HS0⟩
    icases HS1 with ⟨%f11, %e11, HS1⟩
    have run := runLater c (grid0.coords t) Set.univ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) (fun h => h0 ((cond_iff t).mp h)) (tileOf t) (coord_tile t).symm (blocks m c t) f0 f1 f2 f3 f4 f5 f6 f7 f8 f9 f10 f11 e0 e1 e2 e3 e4 e5
    rw [e7, e8, e9] at run
    iapply wp_wand_r
    isplitl [H0 H1 H2 H3 H4 H5 H6 H7 H8 H9 HS0 HS1]
    · iapply run
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iexact HS1
    iintro %_ ⟨H0, H1, H2, H3, H4, H5, ⟨%g6, H6, %r6⟩, ⟨%g7, H7, %r7⟩, ⟨%g8, H8, %r8⟩, ⟨%g9, H9, %r9⟩, ⟨%g10, HS0⟩, ⟨%g11, HS1⟩⟩
    isplitl [HS0 HS1 Hg]
    · isplitl [HS0 HS1]
      · isplitl [HS0]
        · iexists _; iexists _; isplitr
          swap; · iexact HS0
          ipureintro; rfl
        · iexists _; iexists _; isplitr
          swap; · iexact HS1
          ipureintro; rfl
      iexact Hg
    isplitl [Ho]; · iexact Ho
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact eq_ofQ _ _ r6
    isplitl [H7]
    · iexists _; isplitr
      swap; · iexact H7
      ipureintro; exact (eq_ofK _ _ r7).trans (dkAfter_point m c t).symm
    isplitl [H8]
    · iexists _; isplitr
      swap; · iexact H8
      ipureintro; exact (eq_ofK _ _ r8).trans (dvAfter_point m c t).symm
    iexists _; isplitr
    swap; · iexact H9
    ipureintro; exact (eq_ofC _ _ r9).trans (dcAfter_point m c t).symm

/-- The body table's row at a point's slots is the body. -/
theorem body_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
/-- The whole run: the arrays end at what the proof data gives and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, its arguments end unchanged and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Attn
-- ==== Proof.Same.lean ====
module

public import proofs.«01_k».proof.Proof.Gen.Kernel
public import proofs.«01_k».proof.Proof.Gen.KernelIdeal

@[expose] public section

namespace Cert.Proof.Attn

open Idealize.ShloMosaic Idealize.SL.Sem

variable {F : FTy → Type} [FloatOps F]

/-! # The program as written and the idealized one have one text -/

set_option maxHeartbeats 4000000 in
/-- The two kernel bodies are one. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  obtain ⟨n, hn⟩ := l
  match n, hn with
  | 0, _ => rfl

/-- So are the tables of what they call. -/
theorem defs_eq : Cert.Kernel.defs (F := F) = Cert.KernelIdeal.defs (F := F) :=
  congrArg (Pipeline.defs Cert.Kernel.pcfgs) bodies_eq

set_option maxHeartbeats 4000000 in
/-- And so are the host programs around them. -/
theorem mains_eq : Cert.Kernel.main (F := F) = Cert.KernelIdeal.main (F := F) := rfl

end Cert.Proof.Attn
-- ==== Proof.Gradients.lean ====
module

public import Idealize.ShloMosaic.Lib.Pointwise

@[expose] public section

noncomputable section

namespace Cert.Proof.Attn

/-! # One head's gradients, over the reals

What both programs compute for finite inputs: `T` = 2048 positions, 64 numbers each, causal softmax of
`q·k / 8 − c`, and its gradients against the gradient `o` of the result. -/

/-- One head's inputs. -/
structure Head where
  q : Fin 2048 → Fin 64 → ℝ
  k : Fin 2048 → Fin 64 → ℝ
  v : Fin 2048 → Fin 64 → ℝ
  c : Fin 2048 → ℝ
  o : Fin 2048 → Fin 64 → ℝ

namespace Head

variable (H : Head)

/-- The score of key `s` for query `t`. -/
def score (t s : Fin 2048) : ℝ := (∑ d, H.q t d * H.k s d) * (1 / 8) - H.c s

/-- The softmax's denominator at query `t`: the keys up to `t`. -/
def total (t : Fin 2048) : ℝ := ∑ s, if s ≤ t then Real.exp (H.score t s) else 0

/-- The softmax's weights. -/
def weight (t s : Fin 2048) : ℝ := if s ≤ t then Real.exp (H.score t s) / H.total t else 0

/-- Their gradients. -/
def dweight (t s : Fin 2048) : ℝ := ∑ d, H.o t d * H.v s d

/-- The mean of the weights' gradients in a row. -/
def mean (t : Fin 2048) : ℝ := ∑ s, H.weight t s * H.dweight t s

/-- The scores' gradients. -/
def dscore (t s : Fin 2048) : ℝ := H.weight t s * (H.dweight t s - H.mean t)

def dq (t : Fin 2048) (d : Fin 64) : ℝ := (∑ s, H.dscore t s * H.k s d) * (1 / 8)
def dk (s : Fin 2048) (d : Fin 64) : ℝ := (∑ t, H.dscore t s * H.q t d) * (1 / 8)
def dv (s : Fin 2048) (d : Fin 64) : ℝ := ∑ t, H.weight t s * H.o t d
def dc (s : Fin 2048) : ℝ := -∑ t, H.dscore t s

theorem total_pos (t : Fin 2048) : 0 < H.total t := by
  refine Finset.sum_pos' (fun s _ => ?_) ⟨t, Finset.mem_univ t, ?_⟩
  · split
    · exact (Real.exp_pos _).le
    · exact le_rfl
  · rw [if_pos le_rfl]; exact Real.exp_pos _

/-- The weights are the scores' exponentials less the denominator's logarithm. -/
theorem weight_eq_exp {t s : Fin 2048} (h : s ≤ t) : Real.exp (H.score t s - Real.log (H.total t)) = H.weight t s := by
  rw [weight, if_pos h, Real.exp_sub, Real.exp_log (H.total_pos t)]

theorem weight_later {t s : Fin 2048} (h : t < s) : H.weight t s = 0 := if_neg (not_le.mpr h)

theorem dscore_later {t s : Fin 2048} (h : t < s) : H.dscore t s = 0 := by rw [dscore, H.weight_later h, zero_mul]

/-- A row's weights sum to one. -/
theorem sum_weight (t : Fin 2048) : ∑ s, H.weight t s = 1 := by
  have e : ∀ s, H.weight t s = (if s ≤ t then Real.exp (H.score t s) else 0) / H.total t := fun s => by
    unfold weight; split <;> simp
  simp only [e, ← Finset.sum_div]
  exact div_self (H.total_pos t).ne'

/-- A row's scores' gradients sum to nothing. -/
theorem sum_dscore (t : Fin 2048) : ∑ s, H.dscore t s = 0 := by
  have e : ∀ s, H.dscore t s = H.weight t s * H.dweight t s - H.weight t s * H.mean t := fun s => by
    unfold dscore; ring
  simp only [e, Finset.sum_sub_distrib, ← Finset.sum_mul, H.sum_weight, one_mul]
  exact sub_self _

end Head

/-! ## Positions, tile by tile -/

/-- Position `r` of tile `j`. -/
def pos (j : Fin 8) (r : Fin 256) : Fin 2048 := ⟨256 * j.val + r.val, by omega⟩

theorem pos_le {j : Fin 8} {r s : Fin 256} : pos j s ≤ pos j r ↔ s.val ≤ r.val := by
  simp only [pos, Fin.mk_le_mk]; omega

theorem pos_lt {j u : Fin 8} (h : j < u) (r s : Fin 256) : pos j s < pos u r := by
  have : j.val < u.val := h
  simp only [pos, Fin.mk_lt_mk]; omega

theorem exists_pos (t : Fin 2048) : ∃ j r, t = pos j r :=
  ⟨⟨t.val / 256, by omega⟩, ⟨t.val % 256, Nat.mod_lt _ (by decide)⟩, Fin.ext (Nat.div_add_mod t.val 256).symm⟩

/-- A sum over the positions, tile by tile. -/
theorem sum_pos (f : Fin 2048 → ℝ) : ∑ t, f t = ∑ j : Fin 8, ∑ r : Fin 256, f (pos j r) := by
  rw [← Fintype.sum_prod_type', ← (finProdFinEquiv (m := 8) (n := 256)).sum_comp]
  refine Finset.sum_congr rfl fun x _ => congrArg f (Fin.ext ?_)
  show x.2.val + 256 * x.1.val = 256 * x.1.val + x.2.val
  omega

/-- The sum of the first `n` of eight numbers. -/
def upto (f : Fin 8 → ℝ) (n : ℕ) : ℝ := ∑ j, if j.val < n then f j else 0

theorem upto_zero (f : Fin 8 → ℝ) : upto f 0 = 0 := by simp [upto]

theorem upto_succ (f : Fin 8 → ℝ) {n : ℕ} (hn : n < 8) : upto f (n + 1) = upto f n + f ⟨n, hn⟩ := by
  have e : f ⟨n, hn⟩ = ∑ j : Fin 8, if j = ⟨n, hn⟩ then f j else 0 := by simp
  rw [e, upto, upto, ← Finset.sum_add_distrib]
  refine Finset.sum_congr rfl fun j _ => ?_
  by_cases h : j.val = n
  · obtain rfl : j = ⟨n, hn⟩ := Fin.ext h
    simp
  · rw [if_neg (fun hj : j = ⟨n, hn⟩ => h (congrArg Fin.val hj)), add_zero]
    exact if_congr (by omega) rfl rfl

/-- Past the last number that is not zero, all of them. -/
theorem upto_all (f : Fin 8 → ℝ) (n : ℕ) (h : ∀ j : Fin 8, n ≤ j.val → f j = 0) : upto f n = ∑ j, f j := by
  refine Finset.sum_congr rfl fun j _ => ?_
  split
  · rfl
  · exact (h j (by omega)).symm

/-! ## Real sums among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Proof.Attn
-- ==== Proof.Numbers.lean ====
module

public import proofs.«01_k».proof.Proof.Gradients
public import Idealize.ShloMosaic.Lib.Pointwise
public import Idealize.ShloMosaic.Lib.WordCmp

@[expose] public section

noncomputable section

namespace Cert.Proof.Attn

open Idealize.ShloMosaic Idealize.ShloMosaic.TcCoe

/-! # Constants and corners of the extended reals -/

/-- One eighth, as the programs write it. -/
theorem eighth : Ideal.ofBits .f32 0x3E000000#32 = ((1 / 8 : ℝ) : EReal) := by
  simp [Ideal.ofBits, Ideal.ieee, -EReal.coe_mul, -one_div]; norm_num

/-- Minus infinity, as the programs write it. -/
theorem minus_infinity : Ideal.ofBits .f32 0xFF800000#32 = ⊥ := by
  simp [Ideal.ofBits, Ideal.ieee]

/-- Infinity, as the programs write it. -/
theorem infinity : Ideal.ofBits .f32 0x7F800000#32 = ⊤ := by
  simp [Ideal.ofBits, Ideal.ieee]

theorem exp_coe (x : ℝ) : Ideal.exp (x : EReal) = (Real.exp x : EReal) := rfl

theorem exp_bot : Ideal.exp ⊥ = 0 := rfl

theorem log_coe {x : ℝ} (h : 0 < x) : Ideal.log (x : EReal) = (Real.log x : EReal) := if_neg (not_le.mpr h)

/-- A quotient of reals, the divisor not zero. -/
theorem div_coe (x : ℝ) {y : ℝ} (h : y ≠ 0) : Ideal.div (x : EReal) (y : EReal) = ((x / y : ℝ) : EReal) := by
  unfold Ideal.div
  rw [if_neg (fun e => h (EReal.coe_eq_zero.mp e)), ← EReal.coe_inv, ← EReal.coe_mul, div_eq_mul_inv]

/-- Comparing two small words. -/
theorem sle_words {n : ℕ} (s t : Fin n) (hn : n ≤ 2048 := by decide) :
    IntOp.cmpi CmpIPredicate.sle (BitVec.ofNat 32 s.val) (BitVec.ofNat 32 t.val) = BitVec.ofBool (decide (s ≤ t)) :=
  WordCmp.cmpi_sle_ofNat (by have := s.isLt; omega) (by have := t.isLt; omega)

/-- Choosing by a bit. -/
theorem select_bit (p : Prop) [Decidable p] (x y : EReal) : (Scalar.select (BitVec.ofBool (decide p)) x y : EReal) = if p then x else y := by
  by_cases h : p <;> simp [h, Scalar.select]

/-- The greatest of numbers below `⊤`, one of them above `⊥`, is real. -/
theorem max_real {n : ℕ} (x : Fin n → EReal) (ht : ∀ s, x s ≠ ⊤) (hx : ∃ s, x s ≠ ⊥) :
    ∃ r : ℝ, max ⊥ (Finset.fold max ⊥ x Finset.univ) = (r : EReal) := by
  obtain ⟨s, hs⟩ := hx
  rw [max_eq_right bot_le]
  have h1 : Finset.fold max ⊥ x Finset.univ ≠ ⊤ := by
    refine ne_of_lt ((Finset.fold_max_lt _).mpr ⟨bot_lt_top, fun s _ => lt_top_iff_ne_top.mpr (ht s)⟩)
  have h2 : Finset.fold max ⊥ x Finset.univ ≠ ⊥ :=
    ne_of_gt ((Finset.lt_fold_max _).mpr (.inr ⟨s, Finset.mem_univ s, bot_lt_iff_ne_bot.mpr hs⟩))
  exact ⟨_, (EReal.coe_toReal h1 h2).symm⟩

end Cert.Proof.Attn
-- ==== Proof.Entries.lean ====
module

public import proofs.«01_k».proof.Proof.Values
public import proofs.«01_k».proof.Proof.Numbers

@[expose] public section

set_option maxRecDepth 16384

noncomputable section

namespace Cert.Proof.Attn

open Cert.KernelIdeal Cert.KernelIdeal.Gen
open Idealize.ShloMosaic Idealize.ShloMosaic.TcCoe

/-! # What the body's computations are at one entry, over the extended reals -/

theorem pay98_at (q k : Vec Ideal S1x256x64 .bf16) (c : Vec Ideal S1x1x256 .f32) (l : Vec Ideal S1x256x1 .f32) (r s : Fin 256) :
    k0_pay98 q k c l (ix2 r s)
      = Ideal.exp ((∑ d : Fin 64, q (ix3 0 r d) * k (ix3 0 s d)) * Ideal.ofBits .f32 0x3E000000#32 - c (ix3 0 0 s) - l (ix3 0 r 0)) := by
  pointwise [k0_pay98]

theorem pay126_at (q k : Vec Ideal S1x256x64 .bf16) (c : Vec Ideal S1x1x256 .f32) (l : Vec Ideal S1x256x1 .f32) (r s : Fin 256) :
    k0_pay126 q k c l (ix2 r s) = if s.val ≤ r.val then k0_pay98 q k c l (ix2 r s) else 0 := by
  pointwise [k0_pay98, k0_pay126]
  rw [sle_words s r, select_bit]
  rfl

theorem pay99_at (o : Vec Ideal S1x256x64 .f32) (v : Vec Ideal S1x256x64 .bf16) (r s : Fin 256) :
    k0_pay99 o v (ix2 r s) = ∑ d : Fin 64, o (ix3 0 r d) * v (ix3 0 s d) := by
  pointwise [k0_pay99, k0_pay96]

theorem pay100_at (q k : Vec Ideal S1x256x64 .bf16) (c : Vec Ideal S1x1x256 .f32) (l : Vec Ideal S1x256x1 .f32) (r s : Fin 256) :
    k0_pay100 q k c l (ix4 0 0 r s) = k0_pay98 q k c l (ix2 r s) := by
  pointwise [k0_pay100]

theorem pay128_at (q k : Vec Ideal S1x256x64 .bf16) (c : Vec Ideal S1x1x256 .f32) (l : Vec Ideal S1x256x1 .f32) (r s : Fin 256) :
    k0_pay128 q k c l (ix4 0 0 r s) = k0_pay126 q k c l (ix2 r s) := by
  pointwise [k0_pay128]

theorem pay101_at (o : Vec Ideal S1x256x64 .f32) (v : Vec Ideal S1x256x64 .bf16) (r s : Fin 256) :
    k0_pay101 o v (ix4 0 0 r s) = k0_pay99 o v (ix2 r s) := by
  pointwise [k0_pay101]

theorem pay102_at (o : Vec Ideal S1x256x64 .f32) (x : FVec Ideal S256x1 .f32) (q k : Vec Ideal S1x256x64 .bf16) (c : Vec Ideal S1x1x256 .f32)
    (l : Vec Ideal S1x256x1 .f32) (v : Vec Ideal S1x256x64 .bf16) (r : Fin 256) :
    k0_pay102 o x q k c l v (ix2 r 0) = x (ix2 r 0) + ∑ s : Fin 256, k0_pay98 q k c l (ix2 r s) * k0_pay99 o v (ix2 r s) := by
  pointwise [k0_pay102]

/-- The diagonal tile's part of the rows' sums. -/
theorem pay131_at (x : FVec Ideal S256x1 .f32) (o : Vec Ideal S1x256x64 .f32) (q k : Vec Ideal S1x256x64 .bf16) (c : Vec Ideal S1x1x256 .f32)
    (l : Vec Ideal S1x256x1 .f32) (v : Vec Ideal S1x256x64 .bf16) (r : Fin 256) :
    k0_pay131 x (k0_pay130 (k0_pay96 o) q k c l v) (ix2 r 0)
      = x (ix2 r 0) + ∑ s : Fin 256, k0_pay126 q k c l (ix2 r s) * k0_pay99 o v (ix2 r s) := by
  pointwise [k0_pay131, k0_pay130, k0_pay127, k0_pay99]

theorem pay58_at (x : FVec Ideal S256x1 .f32) (p dp : Vec Ideal S1x1x256x256 .f32) (r s : Fin 256) :
    k0_pay58 x p dp (ix2 r s) = p (ix4 0 0 r s) * (dp (ix4 0 0 r s) - x (ix2 r 0)) := by
  pointwise [k0_pay58, k0_pay57]

theorem pay133_at (g : FVec Ideal S256x256 .f32) (y : Vec Ideal S1x1x256 .f32) (s : Fin 256) :
    k0_pay133 g y (ix3 0 0 s) = y (ix3 0 0 s) - ∑ r : Fin 256, g (ix2 r s) := by
  pointwise [k0_pay133]

theorem pay134_at (a : FVec Ideal S256x64 .f32) (x : FVec Ideal S256x1 .f32) (p dp : Vec Ideal S1x1x256x256 .f32) (k : Vec Ideal S1x256x64 .bf16)
    (r : Fin 256) (d : Fin 64) :
    k0_pay134 a (k0_pay59 x p dp) k (ix2 r d) = a (ix2 r d) + ∑ s : Fin 256, k0_pay58 x p dp (ix2 r s) * k (ix3 0 s d) := by
  pointwise [k0_pay134, k0_pay59]

theorem pay139_at (a : FVec Ideal S256x64 .f32) (r : Fin 256) (d : Fin 64) :
    k0_pay139 a (ix3 0 r d) = a (ix2 r d) * Ideal.ofBits .f32 0x3E000000#32 := by
  pointwise [k0_pay139]

theorem pay60_at (o : Vec Ideal S1x256x64 .f32) (p : Vec Ideal S1x1x256x256 .f32) (y : Vec Ideal S1x256x64 .f32) (s : Fin 256) (d : Fin 64) :
    k0_pay60 (k0_pay96 o) p y (ix3 0 s d) = y (ix3 0 s d) + ∑ r : Fin 256, p (ix4 0 0 r s) * o (ix3 0 r d) := by
  pointwise [k0_pay60, k0_pay96, k0_pay57]

theorem pay61_at (x : FVec Ideal S256x1 .f32) (p dp : Vec Ideal S1x1x256x256 .f32) (y : Vec Ideal S1x256x64 .f32) (q : Vec Ideal S1x256x64 .bf16)
    (s : Fin 256) (d : Fin 64) :
    k0_pay61 x p dp y q (ix3 0 s d)
      = y (ix3 0 s d) + (∑ r : Fin 256, k0_pay58 x p dp (ix2 r s) * q (ix3 0 r d)) * Ideal.ofBits .f32 0x3E000000#32 := by
  pointwise [k0_pay61, k0_pay59]

theorem pay90_at (i : S4x2048x64.Idx) : k0_pay90 (F := Ideal) i = 0 := by pointwise [k0_pay90]
theorem pay91_at (i : S4x2048x64.Idx) : k0_pay91 (F := Ideal) i = 0 := by pointwise [k0_pay91]
theorem pay92_at (i : S4x1x2048.Idx) : k0_pay92 (F := Ideal) i = 0 := by pointwise [k0_pay92]
theorem pay97_at (i : S256x1.Idx) : k0_pay97 (F := Ideal) i = 0 := by pointwise [k0_pay97]
theorem pay132_at (i : S256x64.Idx) : k0_pay132 (F := Ideal) i = 0 := by pointwise [k0_pay132]

end Cert.Proof.Attn
-- ==== Proof.Reals.lean ====
module

public import proofs.«01_k».proof.Proof.Entries
public import proofs.«01_k».proof.Proof.Gradients
public import proofs.«01_k».proof.Proof.Group

@[expose] public section

set_option maxRecDepth 16384

noncomputable section

namespace Cert.Proof.Attn

open Cert.KernelIdeal Cert.KernelIdeal.Gen
open Idealize.ShloMosaic Idealize.ShloMosaic.TcCoe

/-! # The kernel's tiles, for finite inputs

`Reads b H u`: the blocks `b` are those of query tile `u`, their entries the real numbers of the four heads `H`. Each
thing the body computes from them is then a real number: the one `Gradients` names. -/

/-- The blocks of query tile `u` hold the heads `H`. -/
structure Reads (b : Blocks Ideal) (H : Fin 4 → Head) (u : Fin 8) : Prop where
  q : ∀ h r d, b.q (ix3 h r d) = (((H h).q (pos u r) d : ℝ) : EReal)
  k : ∀ h s d, b.k (ix3 h s d) = (((H h).k s d : ℝ) : EReal)
  v : ∀ h s d, b.v (ix3 h s d) = (((H h).v s d : ℝ) : EReal)
  c : ∀ h s, b.c (ix3 h 0 s) = (((H h).c s : ℝ) : EReal)
  l : ∀ h r, b.l (ix3 h r 0) = ((Real.log ((H h).total (pos u r)) : ℝ) : EReal)
  o : ∀ h r d, b.o (ix3 h r d) = (((H h).o (pos u r) d : ℝ) : EReal)

section Accessors

variable {e : EltTy}

theorem headQ_at (x : Vec Ideal S4x256x64 e) (h : Fin 4) (r : Fin 256) (d : Fin 64) : headQ x h (ix3 0 r d) = x (ix3 h r d) := rfl
theorem headL_at (x : Vec Ideal S4x256x1 e) (h : Fin 4) (r : Fin 256) : headL x h (ix3 0 r 0) = x (ix3 h r 0) := rfl
theorem tileK_at (x : Vec Ideal S4x2048x64 e) (h : Fin 4) (j : Fin 8) (s : Fin 256) (d : Fin 64) :
    tileK x h j (ix3 0 s d) = x (ix3 h (pos j s) d) := rfl
theorem tileC_at (x : Vec Ideal S4x1x2048 e) (h : Fin 4) (j : Fin 8) (s : Fin 256) : tileC x h j (ix3 0 0 s) = x (ix3 h 0 (pos j s)) := rfl

theorem ofQ_at (g : Fin 4 → Vec Ideal S1x256x64 e) (h : Fin 4) (r : Fin 256) (d : Fin 64) : ofQ g (ix3 h r d) = g h (ix3 0 r d) := rfl

theorem ofK_at (g : Fin 4 → Fin 8 → Vec Ideal S1x256x64 e) (h : Fin 4) (j : Fin 8) (s : Fin 256) (d : Fin 64) :
    ofK g (ix3 h (pos j s) d) = g h j (ix3 0 s d) := by
  have e1 : (⟨(pos j s).val / 256, by have := (pos j s).isLt; omega⟩ : Fin 8) = j := Fin.ext (by show (256 * j.val + s.val) / 256 = j.val; omega)
  have e2 : (⟨(pos j s).val % 256, Nat.mod_lt _ (by decide)⟩ : Fin 256) = s := Fin.ext (by show (256 * j.val + s.val) % 256 = s.val; omega)
  show g h ⟨(pos j s).val / 256, _⟩ (ix3 0 ⟨(pos j s).val % 256, _⟩ d) = _
  rw [e1, e2]

theorem ofC_at (g : Fin 4 → Fin 8 → Vec Ideal S1x1x256 e) (h : Fin 4) (j : Fin 8) (s : Fin 256) :
    ofC g (ix3 h 0 (pos j s)) = g h j (ix3 0 0 s) := by
  have e1 : (⟨(pos j s).val / 256, by have := (pos j s).isLt; omega⟩ : Fin 8) = j := Fin.ext (by show (256 * j.val + s.val) / 256 = j.val; omega)
  have e2 : (⟨(pos j s).val % 256, Nat.mod_lt _ (by decide)⟩ : Fin 256) = s := Fin.ext (by show (256 * j.val + s.val) % 256 = s.val; omega)
  show g h ⟨(pos j s).val / 256, _⟩ (ix3 0 0 ⟨(pos j s).val % 256, _⟩) = _
  rw [e1, e2]

end Accessors

variable {b : Blocks Ideal} {H : Fin 4 → Head} {u : Fin 8}

namespace Reads

/-- The unmasked weights. -/
theorem pay98 (R : Reads b H u) (h : Fin 4) (j : Fin 8) (r s : Fin 256) :
    k0_pay98 (headQ b.q h) (tileK b.k h j) (tileC b.c h j) (headL b.l h) (ix2 r s)
      = ((Real.exp ((H h).score (pos u r) (pos j s) - Real.log ((H h).total (pos u r))) : ℝ) : EReal) := by
  rw [pay98_at]
  simp only [headQ_at, tileK_at, tileC_at, headL_at, R.q, R.k, R.c, R.l, eighth, ← EReal.coe_mul, ← coe_sum, ← EReal.coe_sub, exp_coe]
  rfl

/-- The weights of a tile before the diagonal's. -/
theorem pay98_early (R : Reads b H u) (h : Fin 4) {j : Fin 8} (hj : j < u) (r s : Fin 256) :
    k0_pay98 (headQ b.q h) (tileK b.k h j) (tileC b.c h j) (headL b.l h) (ix2 r s) = (((H h).weight (pos u r) (pos j s) : ℝ) : EReal) := by
  rw [R.pay98, (H h).weight_eq_exp (pos_lt hj r s).le]

/-- The weights of the diagonal's tile. -/
theorem pay126 (R : Reads b H u) (h : Fin 4) (r s : Fin 256) :
    k0_pay126 (headQ b.q h) (tileK b.k h u) (tileC b.c h u) (headL b.l h) (ix2 r s) = (((H h).weight (pos u r) (pos u s) : ℝ) : EReal) := by
  rw [pay126_at, R.pay98]
  split
  · next hs => rw [(H h).weight_eq_exp (pos_le.mpr hs)]
  · next hs => rw [(H h).weight_later (lt_of_not_ge fun hh => hs (pos_le.mp hh)), EReal.coe_zero]

theorem pay99 (R : Reads b H u) (h : Fin 4) (j : Fin 8) (r s : Fin 256) :
    k0_pay99 (headQ b.o h) (tileK b.v h j) (ix2 r s) = (((H h).dweight (pos u r) (pos j s) : ℝ) : EReal) := by
  rw [pay99_at]
  simp only [headQ_at, tileK_at, R.o, R.v, ← EReal.coe_mul, ← coe_sum]
  rfl

theorem prob (R : Reads b H u) (h : Fin 4) {j : Fin 8} (hj : j ≤ u) (r s : Fin 256) :
    b.prob u.val h j (ix4 0 0 r s) = (((H h).weight (pos u r) (pos j s) : ℝ) : EReal) := by
  unfold Blocks.prob
  split
  · next hlt => unfold Blocks.early; rw [pay100_at, R.pay98_early h hlt]
  · next hlt =>
    obtain rfl : j = u := le_antisymm hj (not_lt.mp hlt)
    unfold Blocks.diag
    rw [pay128_at, R.pay126]

theorem dprob (R : Reads b H u) (h : Fin 4) (j : Fin 8) (r s : Fin 256) :
    b.dprob h j (ix4 0 0 r s) = (((H h).dweight (pos u r) (pos j s) : ℝ) : EReal) := by
  unfold Blocks.dprob
  rw [pay101_at, R.pay99]

/-- A row's sums over the first tiles. -/
theorem sums (R : Reads b H u) (h : Fin 4) (r : Fin 256) : ∀ n : ℕ, n ≤ u.val → b.sums h n (ix2 r 0)
    = ((upto (fun j => ∑ s, (H h).weight (pos u r) (pos j s) * (H h).dweight (pos u r) (pos j s)) n : ℝ) : EReal)
  | 0, _ => by
    unfold Blocks.sums
    rw [pay97_at, upto_zero, EReal.coe_zero]
  | n + 1, hn => by
    have h8 : n < 8 := by have := u.isLt; omega
    unfold Blocks.sums
    rw [dif_pos h8]
    unfold Blocks.sumStep
    rw [pay102_at, R.sums h r n (by omega), upto_succ _ h8]
    have hlt : (⟨n, h8⟩ : Fin 8) < u := by show n < u.val; omega
    simp only [R.pay98_early h hlt, R.pay99, ← EReal.coe_mul, ← coe_sum, ← EReal.coe_add]

/-- A row's mean of the weights' gradients. -/
theorem delta (R : Reads b H u) (h : Fin 4) (r : Fin 256) : b.delta h u (ix2 r 0) = (((H h).mean (pos u r) : ℝ) : EReal) := by
  unfold Blocks.delta
  rw [pay131_at, R.sums h r _ le_rfl]
  simp only [R.pay126, R.pay99, ← EReal.coe_mul, ← coe_sum, ← EReal.coe_add]
  have e := upto_succ (fun j => ∑ s, (H h).weight (pos u r) (pos j s) * (H h).dweight (pos u r) (pos j s)) u.isLt
  rw [Head.mean, sum_pos, ← upto_all _ (u.val + 1) (fun j hj => Finset.sum_eq_zero fun s _ => ?_), e]
  have hlt : u < j := by show u.val < j.val; omega
  rw [(H h).weight_later (pos_lt hlt s r), zero_mul]

/-- The scores' gradients. -/
theorem pay58 (R : Reads b H u) (h : Fin 4) {j : Fin 8} (hj : j ≤ u) (r s : Fin 256) :
    k0_pay58 (b.delta h u) (b.prob u.val h j) (b.dprob h j) (ix2 r s) = (((H h).dscore (pos u r) (pos j s) : ℝ) : EReal) := by
  rw [pay58_at, R.prob h hj, R.dprob, R.delta, ← EReal.coe_sub, ← EReal.coe_mul]
  rfl

/-- The queries' gradient, unscaled, over the first tiles. -/
theorem dqs (R : Reads b H u) (h : Fin 4) (r : Fin 256) (d : Fin 64) : ∀ n : ℕ, n ≤ u.val + 1 → Attn.dqs b u h n (ix2 r d)
    = ((upto (fun j => ∑ s, (H h).dscore (pos u r) (pos j s) * (H h).k (pos j s) d) n : ℝ) : EReal)
  | 0, _ => by
    unfold Attn.dqs
    rw [pay132_at, upto_zero, EReal.coe_zero]
  | n + 1, hn => by
    have h8 : n < 8 := by have := u.isLt; omega
    unfold Attn.dqs
    rw [dif_pos h8]
    unfold dqStep
    rw [pay134_at, R.dqs h r d n (by omega), upto_succ _ h8]
    have hle : (⟨n, h8⟩ : Fin 8) ≤ u := by show n ≤ u.val; omega
    simp only [R.pay58 h hle, tileK_at, R.k, ← EReal.coe_mul, ← coe_sum, ← EReal.coe_add]

/-- The queries' gradient. -/
theorem dqOf (R : Reads b H u) (h : Fin 4) (r : Fin 256) (d : Fin 64) :
    Attn.dqOf b u (ix3 h r d) = (((H h).dq (pos u r) d : ℝ) : EReal) := by
  unfold Attn.dqOf
  rw [ofQ_at, pay139_at, R.dqs h r d _ le_rfl, eighth, ← EReal.coe_mul, Head.dq, sum_pos,
    upto_all _ (u.val + 1) (fun j hj => Finset.sum_eq_zero fun s _ => ?_)]
  have hlt : u < j := by show u.val < j.val; omega
  rw [(H h).dscore_later (pos_lt hlt s r), zero_mul]

end Reads

/-! ## The accumulators -/

variable {g : Fin 8 → Blocks Ideal}

theorem dkAfter_at (R : ∀ u, Reads (g u) H u) (h : Fin 4) (j : Fin 8) (s : Fin 256) (d : Fin 64) : ∀ n : ℕ, n ≤ 8 →
    dkAfter g n (ix3 h (pos j s) d)
      = ((upto (fun u => (∑ r, (H h).dscore (pos u r) (pos j s) * (H h).q (pos u r) d) * (1 / 8)) n : ℝ) : EReal)
  | 0, _ => by
    unfold dkAfter
    rw [pay90_at, upto_zero, EReal.coe_zero]
  | n + 1, hn => by
    have h8 : n < 8 := by omega
    unfold dkAfter
    rw [dif_pos h8, ofK_at, upto_succ _ h8, EReal.coe_add, ← dkAfter_at R h j s d n (by omega)]
    unfold dkTile
    split
    · next hle =>
      have R' := R ⟨n, h8⟩
      unfold dkStep
      rw [pay61_at]
      simp only [R'.pay58 h (j := j) hle, headQ_at, tileK_at, R'.q, eighth, ← EReal.coe_mul, ← coe_sum]
    · next hle =>
      have e : (∑ r, (H h).dscore (pos ⟨n, h8⟩ r) (pos j s) * (H h).q (pos ⟨n, h8⟩ r) d) * (1 / 8) = 0 := by
        rw [Finset.sum_eq_zero fun r _ => by rw [(H h).dscore_later (pos_lt (u := j) (not_le.mp hle) s r), zero_mul], zero_mul]
      rw [e, EReal.coe_zero, add_zero, tileK_at]

theorem dvAfter_at (R : ∀ u, Reads (g u) H u) (h : Fin 4) (j : Fin 8) (s : Fin 256) (d : Fin 64) : ∀ n : ℕ, n ≤ 8 →
    dvAfter g n (ix3 h (pos j s) d)
      = ((upto (fun u => ∑ r, (H h).weight (pos u r) (pos j s) * (H h).o (pos u r) d) n : ℝ) : EReal)
  | 0, _ => by
    unfold dvAfter
    rw [pay91_at, upto_zero, EReal.coe_zero]
  | n + 1, hn => by
    have h8 : n < 8 := by omega
    unfold dvAfter
    rw [dif_pos h8, ofK_at, upto_succ _ h8, EReal.coe_add, ← dvAfter_at R h j s d n (by omega)]
    unfold dvTile
    split
    · next hle =>
      have R' := R ⟨n, h8⟩
      unfold dvStep
      rw [pay60_at]
      simp only [R'.prob h (j := j) hle, headQ_at, tileK_at, R'.o, ← EReal.coe_mul, ← coe_sum]
    · next hle =>
      have e : (∑ r, (H h).weight (pos ⟨n, h8⟩ r) (pos j s) * (H h).o (pos ⟨n, h8⟩ r) d) = 0 := by
        rw [Finset.sum_eq_zero fun r _ => by rw [(H h).weight_later (pos_lt (u := j) (not_le.mp hle) s r), zero_mul]]
      rw [e, EReal.coe_zero, add_zero, tileK_at]

theorem dcAfter_at (R : ∀ u, Reads (g u) H u) (h : Fin 4) (j : Fin 8) (s : Fin 256) : ∀ n : ℕ, n ≤ 8 →
    dcAfter g n (ix3 h 0 (pos j s)) = ((upto (fun u => -∑ r, (H h).dscore (pos u r) (pos j s)) n : ℝ) : EReal)
  | 0, _ => by
    unfold dcAfter
    rw [pay92_at, upto_zero, EReal.coe_zero]
  | n + 1, hn => by
    have h8 : n < 8 := by omega
    unfold dcAfter
    rw [dif_pos h8, ofC_at, upto_succ _ h8, EReal.coe_add, ← dcAfter_at R h j s n (by omega)]
    unfold dcTile
    split
    · next hle =>
      have R' := R ⟨n, h8⟩
      unfold dcStep
      rw [pay133_at]
      simp only [R'.pay58 h (j := j) hle, tileC_at, ← coe_sum, EReal.coe_neg]
      rfl
    · next hle =>
      have e : (∑ r, (H h).dscore (pos ⟨n, h8⟩ r) (pos j s)) = 0 :=
        Finset.sum_eq_zero fun r _ => by rw [(H h).dscore_later (pos_lt (u := j) (not_le.mp hle) s r)]
      rw [e, neg_zero, EReal.coe_zero, add_zero, tileC_at]

/-- The keys' gradient of a whole head group. -/
theorem dkAfter_all (R : ∀ u, Reads (g u) H u) (h : Fin 4) (s : Fin 2048) (d : Fin 64) :
    dkAfter g 8 (ix3 h s d) = (((H h).dk s d : ℝ) : EReal) := by
  obtain ⟨j, s, rfl⟩ := exists_pos s
  rw [dkAfter_at R h j s d 8 le_rfl, upto_all _ 8 (fun j hj => absurd j.isLt (by omega)), Head.dk, sum_pos, Finset.sum_mul]

/-- The values' gradient of a whole head group. -/
theorem dvAfter_all (R : ∀ u, Reads (g u) H u) (h : Fin 4) (s : Fin 2048) (d : Fin 64) :
    dvAfter g 8 (ix3 h s d) = (((H h).dv s d : ℝ) : EReal) := by
  obtain ⟨j, s, rfl⟩ := exists_pos s
  rw [dvAfter_at R h j s d 8 le_rfl, upto_all _ 8 (fun j hj => absurd j.isLt (by omega)), Head.dv, sum_pos]

/-- The biases' gradient of a whole head group. -/
theorem dcAfter_all (R : ∀ u, Reads (g u) H u) (h : Fin 4) (s : Fin 2048) :
    dcAfter g 8 (ix3 h 0 s) = (((H h).dc s : ℝ) : EReal) := by
  obtain ⟨j, s, rfl⟩ := exists_pos s
  rw [dcAfter_at R h j s 8 le_rfl, upto_all _ 8 (fun j hj => absurd j.isLt (by omega)), Head.dc, sum_pos, Finset.sum_neg_distrib]

end Cert.Proof.Attn
-- ==== Proof.Greatest.lean ====
module

public import proofs.«01_k».proof.Proof.Numbers
public import Idealize.ShloMosaic.Lib.Pointwise

@[expose] public section

noncomputable section

namespace Cert.Proof.Attn

open Idealize.ShloMosaic Idealize.ShloMosaic.TcCoe

/-- The greater of two vectors, at an index. -/
theorem maximumf_at {s : Shape} (x y : FVec Ideal s .f32) (i : s.Idx) : maximumf x y i = max (x i) (y i) := rfl

/-- The greatest entry of each row of a three-dimensional array. -/
theorem greatest_at {a b n : ℕ} (x : FVec Ideal ⟨3, ![a, b, n]⟩ .f32) (h' : (⟨3, ![a, b, n]⟩ : Shape).ReducesTo [2] (⟨2, ![a, b]⟩ : Shape))
    (h : (⟨3, ![a, b, n]⟩ : Shape).Reduces [2] (⟨2, ![a, b]⟩ : Shape)) (hu : 0 < (⟨0, ![]⟩ : Shape).numel) (i : Fin a) (j : Fin b) :
    Host.reduce FloatOps.maximumf x (constant (⟨0, ![]⟩ : Shape) .f32 0xFF800000#32) h' hu (ix2 i j)
      = Finset.fold max ⊥ (fun k : Fin n => x (ix3 i j k)) Finset.univ := by
  rw [Host.reduce_eq_fold_single FloatOps.maximumf x _ h' h hu]
  have hf : (x ∘ h.lift (ix2 i j)) = fun k : Fin n => x (ix3 i j k) := by
    funext k
    refine congrArg x ?_
    funext d
    apply Fin.ext
    fin_cases d <;> rfl
  refine Eq.trans (congrArg (fun f => Finset.fold max (Ideal.ofBits .f32 0xFF800000#32) f (Finset.univ : Finset (Fin n))) hf) ?_
  rw [minus_infinity]

end Cert.Proof.Attn
-- ==== Proof.HostPart.lean ====
module

public import proofs.«01_k».proof.Proof.Gen.KernelIdeal.Frame
public import proofs.«01_k».proof.Proof.Greatest
public import Idealize.ShloMosaic.Lib.StableHlo.ReadAt

@[expose] public section

set_option maxRecDepth 16384

noncomputable section

namespace Cert.Proof.Attn.Host

open Cert.KernelIdeal Cert.KernelIdeal.Gen
open Idealize.ShloMosaic Idealize.ShloMosaic.TcCoe

/-! # What the kernel's program computes before the launch: each row's log of its total

The same mathematics as the forward pass does, in ordinary operations; the stages are named so that each can be read alone. -/

section Stages

variable {F : FTy → Type} [FloatOps F]
variable (Q K : FVec F S8x2048x64 .f32) (C : FVec F S8x1x2048 .f32)

/-- The positions a query may look at. -/
def mask : IVec S2048x2048 1 :=
  cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- The masked scores. -/
def scores : FVec F S8x2048x2048 .f32 :=
  select (broadcastInDim S8x2048x2048 ![1, 2] bcast_S2048x2048_S8x2048x2048_1_2 mask) (subf (mulf (Host.dotGeneral dot_S8x2048x64_S8x2048x64_S8x2048x2048_2_2_1_1_0_0 none (truncf .bf16 Q bitsLt_bf16_f32) (truncf .bf16 K bitsLt_bf16_f32)) (broadcastInDim S8x2048x2048 ![] bcast_S_S8x2048x2048 (constant S_ .f32 0x3E000000#32))) (broadcastInDim S8x2048x2048 ![0, 1, 2] bcast_S8x1x2048_S8x2048x2048_0_1_2 C)) (broadcastInDim S8x2048x2048 ![] bcast_S_S8x2048x2048 (id (constant S_ .f32 0xFF800000#32)))

/-- Each row's greatest score. -/
def tops : FVec F S8x2048 .f32 :=
  Host.reduce FloatOps.maximumf (scores Q K C) (constant S_ .f32 0xFF800000#32) reducesTo_S8x2048x2048_S8x2048_d2 h_S_

/-- The scores' exponentials. -/
def exps : FVec F S8x2048x2048 .f32 :=
  Host.exp (subf (scores Q K C) (broadcastInDim S8x2048x2048 ![0, 1, 2] bcast_S8x2048x1_S8x2048x2048_0_1_2 (broadcastInDim S8x2048x1 ![0, 1] bcast_S8x2048_S8x2048x1_0_1 (tops Q K C))))

/-- Their rows' sums. -/
def totals : FVec F S8x2048x1 .f32 :=
  broadcastInDim S8x2048x1 ![0, 1] bcast_S8x2048_S8x2048x1_0_1 (Host.reduceAdd (exps Q K C) (constant S_ .f32 0x00000000#32) reducesTo_S8x2048x2048_S8x2048_d2 h_S_)

/-- The greatest scores, as a column. -/
def column : FVec F S8x2048x1 .f32 :=
  broadcastInDim S8x2048x1 ![0, 1] bcast_S8x2048_S8x2048x1_0_1 (tops Q K C)

/-- Each row's log of its total. -/
def logs : FVec F S8x2048x1 .f32 := addf (column Q K C) (Host.log (totals Q K C))

end Stages

section Arrays

variable {F : FTy → Type} [FloatOps F] (m : (ℓ : Loc nD τ sig) → Buf (Elt F) ℓ) (c : Dev nD)

theorem V_v0 : V m c main_v0 = truncf .bf16 (m ((c : Thread nD τ).loc main_arg0)) bitsLt_bf16_f32 := by
  unfold V
  after_reads_simp

theorem V_v1 : V m c main_v1 = truncf .bf16 (m ((c : Thread nD τ).loc main_arg1)) bitsLt_bf16_f32 := by
  unfold V
  after_reads_simp

theorem V_v2 : V m c main_v2 = truncf .bf16 (m ((c : Thread nD τ).loc main_arg2)) bitsLt_bf16_f32 := by
  unfold V
  after_reads_simp

theorem V_v24 : V m c main_v24 = logs (m ((c : Thread nD τ).loc main_arg0)) (m ((c : Thread nD τ).loc main_arg1)) (m ((c : Thread nD τ).loc main_arg3)) := by
  unfold V
  after_reads_simp
  rfl

end Arrays

/-! ## The stages at an index, over the extended reals -/

section Entries

variable (Q K : FVec Ideal S8x2048x64 .f32) (C : FVec Ideal S8x1x2048 .f32) (h : Fin 8) (t s : Fin 2048)

theorem mask_at : mask (ix2 t s) = BitVec.ofBool (decide (s ≤ t)) := by
  pointwise [mask]
  exact sle_words s t

theorem scores_at : scores Q K C (ix3 h t s)
    = if s ≤ t then (∑ d : Fin 64, Q (ix3 h t d) * K (ix3 h s d)) * Ideal.ofBits .f32 0x3E000000#32 - C (ix3 h 0 s)
      else Ideal.ofBits .f32 0xFF800000#32 := by
  rw [← select_bit, ← mask_at t s]
  pointwise [scores]
  rfl

theorem reduces_rows : S8x2048x2048.Reduces [2] S8x2048 :=
  ⟨reducesTo_S8x2048x2048_S8x2048_d2.1, by decide, reducesTo_S8x2048x2048_S8x2048_d2.2⟩

theorem tops_at : tops Q K C (ix2 h t) = Finset.fold max ⊥ (fun s : Fin 2048 => scores Q K C (ix3 h t s)) Finset.univ := by
  unfold tops
  generalize scores Q K C = x
  exact greatest_at x reducesTo_S8x2048x2048_S8x2048_d2 reduces_rows h_S_ h t

theorem exps_at : exps Q K C (ix3 h t s) = Ideal.exp (scores Q K C (ix3 h t s) - tops Q K C (ix2 h t)) := by
  pointwise [exps]

theorem totals_at : totals Q K C (ix3 h t 0) = ∑ s : Fin 2048, exps Q K C (ix3 h t s) := by
  pointwise [totals]

theorem column_at : column Q K C (ix3 h t 0) = tops Q K C (ix2 h t) := by
  unfold column
  generalize tops Q K C = x
  pointwise

/-- A vector plus the logarithm of another, at an index. -/
theorem sum_log_at {S : Shape} (x y : FVec Ideal S .f32) (i : S.Idx) : addf x (Host.log y) i = x i + Ideal.log (y i) := rfl

theorem logs_at : logs Q K C (ix3 h t 0) = tops Q K C (ix2 h t) + Ideal.log (∑ s : Fin 2048, exps Q K C (ix3 h t s)) := by
  rw [← totals_at Q K C h t, ← column_at Q K C h t]
  exact sum_log_at (column Q K C) (totals Q K C) (ix3 h t 0)

end Entries

/-- Each row's log of its total, for finite inputs. -/
theorem logs_real {Q K : FVec Ideal S8x2048x64 .f32} {C : FVec Ideal S8x1x2048 .f32} {H : Fin 8 → Head}
    (hq : ∀ h t d, Q (ix3 h t d) = (((H h).q t d : ℝ) : EReal)) (hk : ∀ h t d, K (ix3 h t d) = (((H h).k t d : ℝ) : EReal))
    (hc : ∀ h s, C (ix3 h 0 s) = (((H h).c s : ℝ) : EReal)) (h : Fin 8) (t : Fin 2048) :
    logs Q K C (ix3 h t 0) = ((Real.log ((H h).total t) : ℝ) : EReal) := by
  have hs : ∀ s, scores Q K C (ix3 h t s) = if s ≤ t then (((H h).score t s : ℝ) : EReal) else ⊥ := by
    intro s
    rw [scores_at]
    simp only [hq, hk, hc, eighth, minus_infinity, ← EReal.coe_mul, ← coe_sum, ← EReal.coe_sub]
    rfl
  obtain ⟨x, hx⟩ : ∃ x : ℝ, tops Q K C (ix2 h t) = (x : EReal) := by
    rw [tops_at, ← max_eq_right (bot_le (a := Finset.fold max ⊥ (fun s : Fin 2048 => scores Q K C (ix3 h t s)) Finset.univ))]
    exact max_real _ (fun s => by rw [hs]; split; exacts [EReal.coe_ne_top _, bot_ne_top])
      ⟨t, by rw [hs, if_pos le_rfl]; exact EReal.coe_ne_bot _⟩
  have he : ∀ s, exps Q K C (ix3 h t s) = (((if s ≤ t then Real.exp ((H h).score t s) else 0) * Real.exp (-x) : ℝ) : EReal) := by
    intro s
    rw [exps_at, hx, hs]
    split
    · rw [← EReal.coe_sub, exp_coe, ← Real.exp_add, sub_eq_add_neg]
    · rw [zero_mul, EReal.bot_sub, exp_bot, EReal.coe_zero]
  have hT : 0 < (H h).total t := (H h).total_pos t
  rw [logs_at, hx]
  simp only [he, ← coe_sum, ← Finset.sum_mul]
  change (x : EReal) + Ideal.log (((H h).total t * Real.exp (-x) : ℝ) : EReal) = _
  rw [log_coe (mul_pos hT (Real.exp_pos _)), Real.log_mul hT.ne' (Real.exp_pos _).ne', Real.log_exp, ← EReal.coe_add]
  exact congrArg _ (by ring)

end Cert.Proof.Attn.Host
-- ==== Proof.Arrays.lean ====
module

public import proofs.«01_k».proof.Proof.Launched
public import proofs.«01_k».proof.Proof.Reals
public import proofs.«01_k».proof.Proof.HostPart
public import Idealize.ShloMosaic.Lib.Pipeline.Value

@[expose] public section

set_option maxRecDepth 16384

noncomputable section

namespace Cert.Proof.Attn

open Cert.KernelIdeal Cert.KernelIdeal.Gen
open Idealize.ShloMosaic Idealize.ShloMosaic.TcCoe
open Idealize.ShloMosaic.Pipeline (Dat)

/-! # From blocks to whole arrays -/

/-- The head numbered `h` in head group `g`. -/
def headOf (g : Fin 2) (h : Fin 4) : Fin 8 := ⟨4 * g.val + h.val, by have := g.isLt; have := h.isLt; omega⟩

/-! ## Where each window's block lies -/

theorem index0_0 (t : Fin cfg0.N) : win0_0.index t 0 = t.val / 8 ∧ win0_0.index t 1 = t.val % 8 ∧ win0_0.index t 2 = 0 := by
  rcases fin_N0 t with rfl | rfl | rfl | rfl | rfl | rfl | rfl | rfl | rfl | rfl | rfl | rfl | rfl | rfl | rfl | rfl <;> decide

theorem index0_1 (t : Fin cfg0.N) : win0_1.index t 0 = t.val / 8 ∧ win0_1.index t 1 = 0 ∧ win0_1.index t 2 = 0 := by
  rcases fin_N0 t with rfl | rfl | rfl | rfl | rfl | rfl | rfl | rfl | rfl | rfl | rfl | rfl | rfl | rfl | rfl | rfl <;> decide

theorem index0_2 (t : Fin cfg0.N) : win0_2.index t 0 = t.val / 8 ∧ win0_2.index t 1 = 0 ∧ win0_2.index t 2 = 0 := by
  rcases fin_N0 t with rfl | rfl | rfl | rfl | rfl | rfl | rfl | rfl | rfl | rfl | rfl | rfl | rfl | rfl | rfl | rfl <;> decide

theorem index0_3 (t : Fin cfg0.N) : win0_3.index t 0 = t.val / 8 ∧ win0_3.index t 1 = 0 ∧ win0_3.index t 2 = 0 := by
  rcases fin_N0 t with rfl | rfl | rfl | rfl | rfl | rfl | rfl | rfl | rfl | rfl | rfl | rfl | rfl | rfl | rfl | rfl <;> decide

theorem index0_4 (t : Fin cfg0.N) : win0_4.index t 0 = t.val / 8 ∧ win0_4.index t 1 = t.val % 8 ∧ win0_4.index t 2 = 0 := by
  rcases fin_N0 t with rfl | rfl | rfl | rfl | rfl | rfl | rfl | rfl | rfl | rfl | rfl | rfl | rfl | rfl | rfl | rfl <;> decide

theorem index0_5 (t : Fin cfg0.N) : win0_5.index t 0 = t.val / 8 ∧ win0_5.index t 1 = t.val % 8 ∧ win0_5.index t 2 = 0 := by
  rcases fin_N0 t with rfl | rfl | rfl | rfl | rfl | rfl | rfl | rfl | rfl | rfl | rfl | rfl | rfl | rfl | rfl | rfl <;> decide

theorem index0_6 (t : Fin cfg0.N) : win0_6.index t 0 = t.val / 8 ∧ win0_6.index t 1 = t.val % 8 ∧ win0_6.index t 2 = 0 := by
  rcases fin_N0 t with rfl | rfl | rfl | rfl | rfl | rfl | rfl | rfl | rfl | rfl | rfl | rfl | rfl | rfl | rfl | rfl <;> decide

theorem index0_7 (t : Fin cfg0.N) : win0_7.index t 0 = t.val / 8 ∧ win0_7.index t 1 = 0 ∧ win0_7.index t 2 = 0 := by
  rcases fin_N0 t with rfl | rfl | rfl | rfl | rfl | rfl | rfl | rfl | rfl | rfl | rfl | rfl | rfl | rfl | rfl | rfl <;> decide

theorem index0_8 (t : Fin cfg0.N) : win0_8.index t 0 = t.val / 8 ∧ win0_8.index t 1 = 0 ∧ win0_8.index t 2 = 0 := by
  rcases fin_N0 t with rfl | rfl | rfl | rfl | rfl | rfl | rfl | rfl | rfl | rfl | rfl | rfl | rfl | rfl | rfl | rfl <;> decide

theorem index0_9 (t : Fin cfg0.N) : win0_9.index t 0 = t.val / 8 ∧ win0_9.index t 1 = 0 ∧ win0_9.index t 2 = 0 := by
  rcases fin_N0 t with rfl | rfl | rfl | rfl | rfl | rfl | rfl | rfl | rfl | rfl | rfl | rfl | rfl | rfl | rfl | rfl <;> decide

/-! ## The blocks the body reads -/

section Blocks

variable {F : FTy → Type} [FloatOps F] (m : (ℓ : Loc nD τ sig) → Buf (Elt F) ℓ) (c : Dev nD) (g : Fin 2) (u : Fin 8) (h : Fin 4)

theorem block_q (r : Fin 256) (d : Fin 64) : (groupBlocks m c g u).q (ix3 h r d) = V m c main_v0 (ix3 (headOf g h) (pos u r) d) := by
  have hi := index0_0 (pointOf g u)
  have hg : (pointOf g u).val / 8 = g.val := by show (8 * g.val + u.val) / 8 = g.val; have := u.isLt; omega
  have hu : (pointOf g u).val % 8 = u.val := by show (8 * g.val + u.val) % 8 = u.val; have := u.isLt; omega
  show iblk m c 0 (pointOf g u) (ix3 h r d) = _
  unfold iblk
  rw [View.read_apply]
  show V m c main_v0 _ = _
  refine congrArg (V m c main_v0) ?_
  funext a
  apply Fin.ext
  match a with
  | ⟨0, _⟩ => show win0_0.index (pointOf g u) 0 * 4 + 1 * h.val = 4 * g.val + h.val; rw [hi.1, hg]; omega
  | ⟨1, _⟩ => show win0_0.index (pointOf g u) 1 * 256 + 1 * (ix3 h r d : Shape.Idx ⟨3, ![4, 256, 64]⟩) 1 = ((ix3 (headOf g h) (pos u r) d : Shape.Idx ⟨3, ![8, 2048, 64]⟩) 1 : ℕ); rw [hi.2.1]; simp [ix3, pos, hu]; omega
  | ⟨2, _⟩ => show win0_0.index (pointOf g u) 2 * 64 + 1 * ((ix3 h r d : Shape.Idx ⟨3, ![4, 256, 64]⟩) 2 : ℕ) = ((ix3 (headOf g h) (pos u r) d : Shape.Idx ⟨3, ![8, 2048, 64]⟩) 2 : ℕ); rw [hi.2.2]; simp [ix3]

theorem block_k (s : Fin 2048) (d : Fin 64) : (groupBlocks m c g u).k (ix3 h s d) = V m c main_v1 (ix3 (headOf g h) s d) := by
  have hi := index0_1 (pointOf g u)
  have hg : (pointOf g u).val / 8 = g.val := by show (8 * g.val + u.val) / 8 = g.val; have := u.isLt; omega
  have hu : (pointOf g u).val % 8 = u.val := by show (8 * g.val + u.val) % 8 = u.val; have := u.isLt; omega
  show iblk m c 1 (pointOf g u) (ix3 h s d) = _
  unfold iblk
  rw [View.read_apply]
  show V m c main_v1 _ = _
  refine congrArg (V m c main_v1) ?_
  funext a
  apply Fin.ext
  match a with
  | ⟨0, _⟩ => show win0_1.index (pointOf g u) 0 * 4 + 1 * h.val = 4 * g.val + h.val; rw [hi.1, hg]; omega
  | ⟨1, _⟩ => show win0_1.index (pointOf g u) 1 * 2048 + 1 * (ix3 h s d : Shape.Idx ⟨3, ![4, 2048, 64]⟩) 1 = ((ix3 (headOf g h) s d : Shape.Idx ⟨3, ![8, 2048, 64]⟩) 1 : ℕ); rw [hi.2.1]; simp [ix3, pos, hu]
  | ⟨2, _⟩ => show win0_1.index (pointOf g u) 2 * 64 + 1 * ((ix3 h s d : Shape.Idx ⟨3, ![4, 2048, 64]⟩) 2 : ℕ) = ((ix3 (headOf g h) s d : Shape.Idx ⟨3, ![8, 2048, 64]⟩) 2 : ℕ); rw [hi.2.2]; simp [ix3]

theorem block_v (s : Fin 2048) (d : Fin 64) : (groupBlocks m c g u).v (ix3 h s d) = V m c main_v2 (ix3 (headOf g h) s d) := by
  have hi := index0_2 (pointOf g u)
  have hg : (pointOf g u).val / 8 = g.val := by show (8 * g.val + u.val) / 8 = g.val; have := u.isLt; omega
  have hu : (pointOf g u).val % 8 = u.val := by show (8 * g.val + u.val) % 8 = u.val; have := u.isLt; omega
  show iblk m c 2 (pointOf g u) (ix3 h s d) = _
  unfold iblk
  rw [View.read_apply]
  show V m c main_v2 _ = _
  refine congrArg (V m c main_v2) ?_
  funext a
  apply Fin.ext
  match a with
  | ⟨0, _⟩ => show win0_2.index (pointOf g u) 0 * 4 + 1 * h.val = 4 * g.val + h.val; rw [hi.1, hg]; omega
  | ⟨1, _⟩ => show win0_2.index (pointOf g u) 1 * 2048 + 1 * (ix3 h s d : Shape.Idx ⟨3, ![4, 2048, 64]⟩) 1 = ((ix3 (headOf g h) s d : Shape.Idx ⟨3, ![8, 2048, 64]⟩) 1 : ℕ); rw [hi.2.1]; simp [ix3, pos, hu]
  | ⟨2, _⟩ => show win0_2.index (pointOf g u) 2 * 64 + 1 * ((ix3 h s d : Shape.Idx ⟨3, ![4, 2048, 64]⟩) 2 : ℕ) = ((ix3 (headOf g h) s d : Shape.Idx ⟨3, ![8, 2048, 64]⟩) 2 : ℕ); rw [hi.2.2]; simp [ix3]

theorem block_c (s : Fin 2048) : (groupBlocks m c g u).c (ix3 h 0 s) = V m c main_arg3 (ix3 (headOf g h) 0 s) := by
  have hi := index0_3 (pointOf g u)
  have hg : (pointOf g u).val / 8 = g.val := by show (8 * g.val + u.val) / 8 = g.val; have := u.isLt; omega
  have hu : (pointOf g u).val % 8 = u.val := by show (8 * g.val + u.val) % 8 = u.val; have := u.isLt; omega
  show iblk m c 3 (pointOf g u) (ix3 h 0 s) = _
  unfold iblk
  rw [View.read_apply]
  show V m c main_arg3 _ = _
  refine congrArg (V m c main_arg3) ?_
  funext a
  apply Fin.ext
  match a with
  | ⟨0, _⟩ => show win0_3.index (pointOf g u) 0 * 4 + 1 * h.val = 4 * g.val + h.val; rw [hi.1, hg]; omega
  | ⟨1, _⟩ => show win0_3.index (pointOf g u) 1 * 1 + 1 * (ix3 h 0 s : Shape.Idx ⟨3, ![4, 1, 2048]⟩) 1 = ((ix3 (headOf g h) 0 s : Shape.Idx ⟨3, ![8, 2048, 2048]⟩) 1 : ℕ); rw [hi.2.1]; simp [ix3, pos, hu]
  | ⟨2, _⟩ => show win0_3.index (pointOf g u) 2 * 2048 + 1 * ((ix3 h 0 s : Shape.Idx ⟨3, ![4, 1, 2048]⟩) 2 : ℕ) = ((ix3 (headOf g h) 0 s : Shape.Idx ⟨3, ![8, 2048, 2048]⟩) 2 : ℕ); rw [hi.2.2]; simp [ix3]

theorem block_l (r : Fin 256) : (groupBlocks m c g u).l (ix3 h r 0) = V m c main_v24 (ix3 (headOf g h) (pos u r) 0) := by
  have hi := index0_4 (pointOf g u)
  have hg : (pointOf g u).val / 8 = g.val := by show (8 * g.val + u.val) / 8 = g.val; have := u.isLt; omega
  have hu : (pointOf g u).val % 8 = u.val := by show (8 * g.val + u.val) % 8 = u.val; have := u.isLt; omega
  show iblk m c 4 (pointOf g u) (ix3 h r 0) = _
  unfold iblk
  rw [View.read_apply]
  show V m c main_v24 _ = _
  refine congrArg (V m c main_v24) ?_
  funext a
  apply Fin.ext
  match a with
  | ⟨0, _⟩ => show win0_4.index (pointOf g u) 0 * 4 + 1 * h.val = 4 * g.val + h.val; rw [hi.1, hg]; omega
  | ⟨1, _⟩ => show win0_4.index (pointOf g u) 1 * 256 + 1 * (ix3 h r 0 : Shape.Idx ⟨3, ![4, 256, 1]⟩) 1 = ((ix3 (headOf g h) (pos u r) 0 : Shape.Idx ⟨3, ![8, 2048, 1]⟩) 1 : ℕ); rw [hi.2.1]; simp [ix3, pos, hu]; omega
  | ⟨2, _⟩ => show win0_4.index (pointOf g u) 2 * 1 + 1 * ((ix3 h r 0 : Shape.Idx ⟨3, ![4, 256, 1]⟩) 2 : ℕ) = ((ix3 (headOf g h) (pos u r) 0 : Shape.Idx ⟨3, ![8, 2048, 1]⟩) 2 : ℕ); rw [hi.2.2]; simp [ix3]

theorem block_o (r : Fin 256) (d : Fin 64) : (groupBlocks m c g u).o (ix3 h r d) = V m c main_arg4 (ix3 (headOf g h) (pos u r) d) := by
  have hi := index0_5 (pointOf g u)
  have hg : (pointOf g u).val / 8 = g.val := by show (8 * g.val + u.val) / 8 = g.val; have := u.isLt; omega
  have hu : (pointOf g u).val % 8 = u.val := by show (8 * g.val + u.val) % 8 = u.val; have := u.isLt; omega
  show iblk m c 5 (pointOf g u) (ix3 h r d) = _
  unfold iblk
  rw [View.read_apply]
  show V m c main_arg4 _ = _
  refine congrArg (V m c main_arg4) ?_
  funext a
  apply Fin.ext
  match a with
  | ⟨0, _⟩ => show win0_5.index (pointOf g u) 0 * 4 + 1 * h.val = 4 * g.val + h.val; rw [hi.1, hg]; omega
  | ⟨1, _⟩ => show win0_5.index (pointOf g u) 1 * 256 + 1 * (ix3 h r d : Shape.Idx ⟨3, ![4, 256, 64]⟩) 1 = ((ix3 (headOf g h) (pos u r) d : Shape.Idx ⟨3, ![8, 2048, 64]⟩) 1 : ℕ); rw [hi.2.1]; simp [ix3, pos, hu]; omega
  | ⟨2, _⟩ => show win0_5.index (pointOf g u) 2 * 64 + 1 * ((ix3 h r d : Shape.Idx ⟨3, ![4, 256, 64]⟩) 2 : ℕ) = ((ix3 (headOf g h) (pos u r) d : Shape.Idx ⟨3, ![8, 2048, 64]⟩) 2 : ℕ); rw [hi.2.2]; simp [ix3]

end Blocks

end Cert.Proof.Attn
-- ==== Proof.Reference.lean ====
module

public import proofs.«01_k».proof.Proof.Gen.ReferenceIdeal.Run
public import proofs.«01_k».proof.Proof.Gradients
public import Idealize.ShloMosaic.Lib.Pointwise

@[expose] public section

set_option maxRecDepth 16384

noncomputable section

namespace Cert.Proof.Attn.Ref

open Cert.ReferenceIdeal Cert.ReferenceIdeal.Gen
open Idealize.ShloMosaic Idealize.ShloMosaic.TcCoe

/-! # The reference, stage by stage

The reference's operations gathered into the stages of a softmax and of its gradient. -/

section Stages

variable {F : FTy → Type} [FloatOps F] (Q K V : FVec F S8x2048x64 .f32) (C : FVec F S8x1x2048 .f32) (O : FVec F S8x2048x64 .f32)

/-- Which keys a query sees. -/
def mask : IVec S8x2048x2048 1 :=
  broadcastInDim S8x2048x2048 ![1, 2] bcast_S2048x2048_S8x2048x2048_1_2 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The masked scores. -/
def scores : FVec F S8x2048x2048 .f32 :=
  select mask (subf (addf (mulf (Host.dotGeneral dot_S8x2048x64_S8x2048x64_S8x2048x2048_2_2_1_1_0_0 none Q K) (broadcastInDim S8x2048x2048 ![] bcast_S_S8x2048x2048 (constant S_ .f32 0x3E000000#32))) (broadcastInDim S8x2048x2048 ![0, 1, 2] bcast_S8x2048x1_S8x2048x2048_0_1_2 (broadcastInDim S8x2048x1 ![0, 1] bcast_S8x2048_S8x2048x1_0_1 (shapeCast _ C shapeCasts_S8x1x2048_S8x2048)))) (broadcastInDim S8x2048x2048 ![0, 1, 2] bcast_S8x1x2048_S8x2048x2048_0_1_2 C)) (broadcastInDim S8x2048x2048 ![] bcast_S_S8x2048x2048 (id (constant S_ .f32 0xFF800000#32)))

/-- Each row's greatest score. -/
def tops : FVec F S8x2048 .f32 :=
  maximumf (broadcastInDim S8x2048 ![] bcast_S_S8x2048 (constant S_ .f32 0xFF800000#32)) (Host.reduce FloatOps.maximumf (scores Q K C) (constant S_ .f32 0xFF800000#32) reducesTo_S8x2048x2048_S8x2048_d2 h_S_)

/-- The scores' exponentials. -/
def exps : FVec F S8x2048x2048 .f32 :=
  Host.exp (subf (scores Q K C) (broadcastInDim S8x2048x2048 ![0, 1, 2] bcast_S8x2048x1_S8x2048x2048_0_1_2 (broadcastInDim S8x2048x1 ![0, 1] bcast_S8x2048_S8x2048x1_0_1 (tops Q K C))))

/-- Their rows' sums. -/
def totals : FVec F S8x2048x1 .f32 :=
  broadcastInDim S8x2048x1 ![0, 1] bcast_S8x2048_S8x2048x1_0_1 (Host.reduceAdd (exps Q K C) (constant S_ .f32 0x00000000#32) reducesTo_S8x2048x2048_S8x2048_d2 h_S_)

/-- The softmax's weights. -/
def weights : FVec F S8x2048x2048 .f32 :=
  Host.divf (exps Q K C) (broadcastInDim S8x2048x2048 ![0, 1, 2] bcast_S8x2048x1_S8x2048x2048_0_1_2 (totals Q K C))

/-- The weights' gradients. -/
def dweights : FVec F S8x2048x2048 .f32 := Host.dotGeneral dot_S8x2048x64_S8x2048x64_S8x2048x2048_2_2_1_1_0_0 none O V

/-- What reaches the exponentials through their rows' sums. -/
def through : FVec F S8x2048 .f32 :=
  Host.reduceAdd (Host.negf (shapeCast _ (Host.reduceAdd (mulf (mulf (dweights V O) (broadcastInDim S8x2048x2048 ![0, 1, 2] bcast_S8x2048x1_S8x2048x2048_0_1_2 (Host.divf (broadcastInDim S8x2048x1 ![] bcast_S_S8x2048x1 (constant S_ .f32 0x3F800000#32)) (mulf (totals Q K C) (totals Q K C))))) (exps Q K C)) (constant S_ .f32 0x00000000#32) reducesTo_S8x2048x2048_S8x2048_d2 h_S_) shapeCasts_S8x2048_S8x2048x1)) (constant S_ .f32 0x00000000#32) reducesTo_S8x2048x1_S8x2048_d2 h_S_

/-- The scores' gradients. -/
def dscores : FVec F S8x2048x2048 .f32 :=
  select mask (mulf (addf (Host.divf (dweights V O) (broadcastInDim S8x2048x2048 ![0, 1, 2] bcast_S8x2048x1_S8x2048x2048_0_1_2 (totals Q K C))) (broadcastInDim S8x2048x2048 ![0, 1] bcast_S8x2048_S8x2048x2048_0_1 (through Q K V C O))) (exps Q K C)) (broadcastInDim S8x2048x2048 ![] bcast_S_S8x2048x2048 (constant S_ .f32 0x00000000#32))

/-- The scaled products' gradients. -/
def dprods : FVec F S8x2048x2048 .f32 :=
  mulf (dscores Q K V C O) (broadcastInDim S8x2048x2048 ![] bcast_S_S8x2048x2048 (constant S_ .f32 0x3E000000#32))

def dq : FVec F S8x2048x64 .f32 := Host.dotGeneral dot_S8x2048x2048_S8x2048x64_S8x2048x64_2_1_1_2_0_0 none (dprods Q K V C O) K

def dk : FVec F S8x2048x64 .f32 := Host.dotGeneral dot_S8x2048x2048_S8x2048x64_S8x2048x64_1_1_2_2_0_0 none (dprods Q K V C O) Q

def dv : FVec F S8x2048x64 .f32 :=
  transpose S8x2048x64 [0, 2, 1] (Host.dotGeneral dot_S8x2048x64_S8x2048x2048_S8x64x2048_1_1_2_2_0_0 none O (weights Q K C)) transposes_S8x64x2048_S8x2048x64_0_2_1

def dc : FVec F S8x1x2048 .f32 :=
  addf (shapeCast _ (Host.reduceAdd (Host.negf (dscores Q K V C O)) (constant S_ .f32 0x00000000#32) reducesTo_S8x2048x2048_S8x2048_d1 h_S_) shapeCasts_S8x2048_S8x1x2048) (broadcastInDim S8x1x2048 ![0, 2] bcast_S8x2048_S8x1x2048_0_2 (Host.reduceAdd (shapeCast _ (Host.reduceAdd (dscores Q K V C O) (constant S_ .f32 0x00000000#32) reducesTo_S8x2048x2048_S8x2048_d2 h_S_) shapeCasts_S8x2048_S8x2048x1) (constant S_ .f32 0x00000000#32) reducesTo_S8x2048x1_S8x2048_d2 h_S_))

end Stages

section Run

open Cert.ReferenceIdeal.Value

variable {F : FTy → Type} [FloatOps F] (m : (ℓ : Loc nD τ sig) → Buf (Elt F) ℓ) (c : Dev nD)

theorem res_dq : res_main_v73 m c = dq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res_dk : res_main_v72 m c = dk (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem res_dv : res_main_v47 m c = dv (m ((c.tc : Thread nD τ).loc main_arg0)) (m ((c.tc : Thread nD τ).loc main_arg1)) (m ((c.tc : Thread nD τ).loc main_arg3)) (m ((c.tc : Thread nD τ).loc main_arg4)) := rfl
theorem res_dc : res_main_v69 m c = dc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Run

end Cert.Proof.Attn.Ref
-- ==== Proof.ReferenceReals.lean ====
module

public import proofs.«01_k».proof.Proof.Reference
public import proofs.«01_k».proof.Proof.Greatest

@[expose] public section

set_option maxRecDepth 16384

noncomputable section

namespace Cert.Proof.Attn.Ref

open Cert.ReferenceIdeal Cert.ReferenceIdeal.Gen
open Idealize.ShloMosaic Idealize.ShloMosaic.TcCoe

/-! # The reference, for finite inputs -/

/-- The arrays hold the eight heads `H`. -/
structure Held (Q K V : FVec Ideal S8x2048x64 .f32) (C : FVec Ideal S8x1x2048 .f32) (O : FVec Ideal S8x2048x64 .f32) (H : Fin 8 → Head) : Prop where
  q : ∀ h t d, Q (ix3 h t d) = (((H h).q t d : ℝ) : EReal)
  k : ∀ h t d, K (ix3 h t d) = (((H h).k t d : ℝ) : EReal)
  v : ∀ h t d, V (ix3 h t d) = (((H h).v t d : ℝ) : EReal)
  c : ∀ h s, C (ix3 h 0 s) = (((H h).c s : ℝ) : EReal)
  o : ∀ h t d, O (ix3 h t d) = (((H h).o t d : ℝ) : EReal)

section Entries

variable (Q K V : FVec Ideal S8x2048x64 .f32) (C : FVec Ideal S8x1x2048 .f32) (O : FVec Ideal S8x2048x64 .f32)
variable (h : Fin 8) (t s : Fin 2048) (d : Fin 64)

theorem mask_at : mask (ix3 h t s) = BitVec.ofBool (decide (s ≤ t)) := by
  pointwise [mask]
  exact sle_words s t

theorem scores_at : scores Q K C (ix3 h t s)
    = if s ≤ t then (∑ d : Fin 64, Q (ix3 h t d) * K (ix3 h s d)) * Ideal.ofBits .f32 0x3E000000#32 + C (ix3 h 0 t) - C (ix3 h 0 s)
      else Ideal.ofBits .f32 0xFF800000#32 := by
  rw [← select_bit, ← mask_at h t s]
  pointwise [scores]
  rfl

theorem reduces_rows : S8x2048x2048.Reduces [2] S8x2048 :=
  ⟨reducesTo_S8x2048x2048_S8x2048_d2.1, by decide, reducesTo_S8x2048x2048_S8x2048_d2.2⟩

theorem tops_at : tops Q K C (ix2 h t) = max ⊥ (Finset.fold max ⊥ (fun s : Fin 2048 => scores Q K C (ix3 h t s)) Finset.univ) := by
  unfold tops
  generalize scores Q K C = x
  refine Eq.trans (maximumf_at _ _ _) ?_
  refine congrArg₂ max ?_ (greatest_at x reducesTo_S8x2048x2048_S8x2048_d2 reduces_rows h_S_ h t)
  pointwise [minus_infinity]

theorem exps_at : exps Q K C (ix3 h t s) = Ideal.exp (scores Q K C (ix3 h t s) - tops Q K C (ix2 h t)) := by
  pointwise [exps]

theorem totals_at : totals Q K C (ix3 h t 0) = ∑ s : Fin 2048, exps Q K C (ix3 h t s) := by
  pointwise [totals]

theorem weights_at : weights Q K C (ix3 h t s) = Ideal.div (exps Q K C (ix3 h t s)) (totals Q K C (ix3 h t 0)) := by
  pointwise [weights]

theorem dweights_at : dweights V O (ix3 h t s) = ∑ d : Fin 64, O (ix3 h t d) * V (ix3 h s d) := by
  pointwise [dweights]

theorem through_at : through Q K V C O (ix2 h t)
    = -∑ s : Fin 2048, dweights V O (ix3 h t s) * Ideal.div 1 (totals Q K C (ix3 h t 0) * totals Q K C (ix3 h t 0)) * exps Q K C (ix3 h t s) := by
  pointwise [through]
  exact Fin.sum_univ_one _

theorem dscores_at : dscores Q K V C O (ix3 h t s)
    = if s ≤ t then (Ideal.div (dweights V O (ix3 h t s)) (totals Q K C (ix3 h t 0)) + through Q K V C O (ix2 h t)) * exps Q K C (ix3 h t s)
      else 0 := by
  rw [← select_bit, ← mask_at h t s]
  pointwise [dscores]

theorem dq_at : dq Q K V C O (ix3 h t d) = ∑ s : Fin 2048, dscores Q K V C O (ix3 h t s) * Ideal.ofBits .f32 0x3E000000#32 * K (ix3 h s d) := by
  pointwise [dq, dprods]

theorem dk_at : dk Q K V C O (ix3 h s d) = ∑ t : Fin 2048, dscores Q K V C O (ix3 h t s) * Ideal.ofBits .f32 0x3E000000#32 * Q (ix3 h t d) := by
  pointwise [dk, dprods]

theorem dv_at : dv Q K C O (ix3 h s d) = ∑ t : Fin 2048, O (ix3 h t d) * weights Q K C (ix3 h t s) := by
  pointwise [dv]

theorem dc_at : dc Q K V C O (ix3 h 0 s) = (∑ t : Fin 2048, -dscores Q K V C O (ix3 h t s)) + ∑ u : Fin 2048, dscores Q K V C O (ix3 h s u) := by
  pointwise [dc]
  simp only [Finset.univ_unique, Finset.sum_const, Finset.card_singleton, one_smul]

end Entries

variable {Q K V : FVec Ideal S8x2048x64 .f32} {C : FVec Ideal S8x1x2048 .f32} {O : FVec Ideal S8x2048x64 .f32} {H : Fin 8 → Head}

namespace Held

theorem scores (R : Held Q K V C O H) (h : Fin 8) (t s : Fin 2048) :
    Ref.scores Q K C (ix3 h t s) = if s ≤ t then (((H h).score t s + (H h).c t : ℝ) : EReal) else ⊥ := by
  rw [scores_at]
  simp only [R.q, R.k, R.c, eighth, minus_infinity, ← EReal.coe_mul, ← coe_sum, ← EReal.coe_add, ← EReal.coe_sub]
  refine if_congr Iff.rfl (congrArg _ ?_) rfl
  unfold Head.score
  ring

/-- A row's greatest score is a real number. -/
theorem tops (R : Held Q K V C O H) (h : Fin 8) (t : Fin 2048) : ∃ x : ℝ, Ref.tops Q K C (ix2 h t) = (x : EReal) := by
  rw [tops_at]
  exact max_real _ (fun s => by rw [R.scores]; split; exacts [EReal.coe_ne_top _, bot_ne_top]) ⟨t, by rw [R.scores, if_pos le_rfl]; exact EReal.coe_ne_bot _⟩

/-- The weights before the division, up to a factor that cancels. -/
theorem exps (R : Held Q K V C O H) (h : Fin 8) (t : Fin 2048) : ∃ a : ℝ, 0 < a ∧ ∀ s,
    Ref.exps Q K C (ix3 h t s) = (((if s ≤ t then Real.exp ((H h).score t s) else 0) * a : ℝ) : EReal) := by
  obtain ⟨x, hx⟩ := R.tops h t
  refine ⟨Real.exp ((H h).c t - x), Real.exp_pos _, fun s => ?_⟩
  rw [exps_at, hx, R.scores]
  split
  · rw [← EReal.coe_sub, exp_coe, ← Real.exp_add]
    exact congrArg _ (congrArg _ (by ring))
  · rw [zero_mul, EReal.bot_sub, exp_bot, EReal.coe_zero]

theorem dweights (R : Held Q K V C O H) (h : Fin 8) (t s : Fin 2048) :
    Ref.dweights V O (ix3 h t s) = (((H h).dweight t s : ℝ) : EReal) := by
  rw [dweights_at]
  simp only [R.o, R.v, ← EReal.coe_mul, ← coe_sum]
  rfl

theorem weights (R : Held Q K V C O H) (h : Fin 8) (t s : Fin 2048) :
    Ref.weights Q K C (ix3 h t s) = (((H h).weight t s : ℝ) : EReal) := by
  obtain ⟨a, ha, he⟩ := R.exps h t
  rw [weights_at, totals_at]
  simp only [he, ← coe_sum, ← Finset.sum_mul]
  have hL : (∑ s, if s ≤ t then Real.exp ((H h).score t s) else 0) * a ≠ 0 := mul_ne_zero ((H h).total_pos t).ne' ha.ne'
  rw [div_coe _ hL]
  refine congrArg _ ?_
  rw [mul_div_mul_right _ _ ha.ne']
  unfold Head.weight
  split
  · rfl
  · rw [zero_div]

theorem dscores (R : Held Q K V C O H) (h : Fin 8) (t s : Fin 2048) :
    Ref.dscores Q K V C O (ix3 h t s) = (((H h).dscore t s : ℝ) : EReal) := by
  obtain ⟨a, ha, he⟩ := R.exps h t
  have hT : 0 < (H h).total t := (H h).total_pos t
  have ht : Ref.totals Q K C (ix3 h t 0) = (((H h).total t * a : ℝ) : EReal) := by
    rw [totals_at]
    simp only [he, ← coe_sum, ← Finset.sum_mul]
    rfl
  have hL : (H h).total t * a ≠ 0 := mul_ne_zero hT.ne' ha.ne'
  have hth : Ref.through Q K V C O (ix2 h t) = ((-((H h).mean t / ((H h).total t * a)) : ℝ) : EReal) := by
    rw [through_at, ht, ← EReal.coe_mul, ← EReal.coe_one, div_coe _ (mul_ne_zero hL hL)]
    simp only [he, R.dweights, ← EReal.coe_mul, ← coe_sum, ← EReal.coe_neg]
    refine congrArg _ (congrArg _ ?_)
    rw [Head.mean, Finset.sum_div]
    refine Finset.sum_congr rfl fun s _ => ?_
    unfold Head.weight
    split
    · field_simp
    · simp
  rw [dscores_at, he, ht, hth, R.dweights, div_coe _ hL]
  simp only [← EReal.coe_mul, ← EReal.coe_add]
  unfold Head.dscore Head.weight
  split
  · refine congrArg _ ?_
    field_simp
    ring
  · rw [zero_mul, EReal.coe_zero]

theorem dq (R : Held Q K V C O H) (h : Fin 8) (t : Fin 2048) (d : Fin 64) : Ref.dq Q K V C O (ix3 h t d) = (((H h).dq t d : ℝ) : EReal) := by
  rw [dq_at]
  simp only [R.dscores, R.k, eighth, ← EReal.coe_mul, ← coe_sum]
  refine congrArg _ ?_
  rw [Head.dq, Finset.sum_mul]
  exact Finset.sum_congr rfl fun s _ => by ring

theorem dk (R : Held Q K V C O H) (h : Fin 8) (s : Fin 2048) (d : Fin 64) : Ref.dk Q K V C O (ix3 h s d) = (((H h).dk s d : ℝ) : EReal) := by
  rw [dk_at]
  simp only [R.dscores, R.q, eighth, ← EReal.coe_mul, ← coe_sum]
  refine congrArg _ ?_
  rw [Head.dk, Finset.sum_mul]
  exact Finset.sum_congr rfl fun s _ => by ring

theorem dv (R : Held Q K V C O H) (h : Fin 8) (s : Fin 2048) (d : Fin 64) : Ref.dv Q K C O (ix3 h s d) = (((H h).dv s d : ℝ) : EReal) := by
  rw [dv_at]
  simp only [R.weights, R.o, ← EReal.coe_mul, ← coe_sum]
  refine congrArg _ ?_
  rw [Head.dv]
  exact Finset.sum_congr rfl fun s _ => mul_comm _ _

theorem dc (R : Held Q K V C O H) (h : Fin 8) (s : Fin 2048) : Ref.dc Q K V C O (ix3 h 0 s) = (((H h).dc s : ℝ) : EReal) := by
  rw [dc_at]
  simp only [R.dscores, ← EReal.coe_neg, ← coe_sum]
  rw [(H h).sum_dscore, EReal.coe_zero, add_zero, Head.dc, Finset.sum_neg_distrib]

end Held

/-! ## Each result as one array -/

theorem dq_eq (R : Held Q K V C O H) : dq Q K V C O = fun i => (((H (i 0)).dq (i 1) (i 2) : ℝ) : EReal) := by
  funext i
  idx_vars i
  exact R.dq i0 i1 i2

theorem dk_eq (R : Held Q K V C O H) : dk Q K V C O = fun i => (((H (i 0)).dk (i 1) (i 2) : ℝ) : EReal) := by
  funext i
  idx_vars i
  exact R.dk i0 i1 i2

theorem dv_eq (R : Held Q K V C O H) : dv Q K C O = fun i => (((H (i 0)).dv (i 1) (i 2) : ℝ) : EReal) := by
  funext i
  idx_vars i
  exact R.dv i0 i1 i2

theorem dc_eq (R : Held Q K V C O H) : dc Q K V C O = fun i => (((H (i 0)).dc (i 2) : ℝ) : EReal) := by
  funext i
  idx_vars i
  obtain rfl : i1 = 0 := Subsingleton.elim _ _
  exact R.dc i0 i2

end Cert.Proof.Attn.Ref
-- ==== Proof.Results.lean ====
module

public import proofs.«01_k».proof.Proof.Arrays
public import proofs.«01_k».proof.Proof.ReferenceReals

@[expose] public section

set_option maxRecDepth 16384

noncomputable section

namespace Cert.Proof.Attn

open Cert.KernelIdeal Cert.KernelIdeal.Gen
open Idealize.ShloMosaic Idealize.ShloMosaic.TcCoe
open Idealize.ShloMosaic.Pipeline (Dat)

/-! # The kernel's four results, for finite inputs -/

variable (m : (ℓ : Loc nD τ sig) → Buf (Elt Ideal) ℓ) (c : Dev nD) (H : Fin 8 → Head)

/-- The arguments hold the heads `H`. -/
abbrev HeldBy : Prop :=
  Ref.Held (m ((c : Thread nD τ).loc main_arg0)) (m ((c : Thread nD τ).loc main_arg1)) (m ((c : Thread nD τ).loc main_arg2))
    (m ((c : Thread nD τ).loc main_arg3)) (m ((c : Thread nD τ).loc main_arg4)) H

variable {m c H}

/-- The blocks of every point hold their part of the heads. -/
theorem reads (R : HeldBy m c H) (g : Fin 2) (u : Fin 8) : Reads (groupBlocks m c g u) (fun h => H (headOf g h)) u where
  q h r d := by rw [block_q, Host.V_v0]; exact R.q _ _ _
  k h s d := by rw [block_k, Host.V_v1]; exact R.k _ _ _
  v h s d := by rw [block_v, Host.V_v2]; exact R.v _ _ _
  c h s := by rw [block_c, V_main_arg3]; exact R.c _ _
  l h r := by rw [block_l, Host.V_v24]; exact Host.logs_real R.q R.k R.c _ _
  o h r d := by rw [block_o, V_main_arg4]; exact R.o _ _ _

variable (H)

/-- The gradient of the queries, of every head. -/
def gradQ : Buf (Elt Ideal) ((c : Thread nD τ).loc main_v25_0) := fun i => (((H (i 0)).dq (i 1) (i 2) : ℝ) : EReal)
/-- The gradient of the keys. -/
def gradK : Buf (Elt Ideal) ((c : Thread nD τ).loc main_v25_1) := fun i => (((H (i 0)).dk (i 1) (i 2) : ℝ) : EReal)
/-- The gradient of the values. -/
def gradV : Buf (Elt Ideal) ((c : Thread nD τ).loc main_v25_2) := fun i => (((H (i 0)).dv (i 1) (i 2) : ℝ) : EReal)
/-- The gradient of the bias. -/
def gradC : Buf (Elt Ideal) ((c : Thread nD τ).loc main_v25_3) := fun i => (((H (i 0)).dc (i 2) : ℝ) : EReal)

variable {H}

theorem pointOf_group (g : Fin 2) (u : Fin 8) : groupOf (pointOf g u) = g := by
  apply Fin.ext; show (8 * g.val + u.val) / 8 = g.val; have := u.isLt; omega

theorem pointOf_tile (g : Fin 2) (u : Fin 8) : tileOf (pointOf g u) = u := by
  apply Fin.ext; show (8 * g.val + u.val) % 8 = u.val; have := u.isLt; omega

theorem flushed_q (R : HeldBy m c H) (t : Fin cfg0.N) (_ : (cfg0.win 6).flush t = true) :
    (dats m 0 c).flushed 6 t = ((cfg0.win 6).blk t).view.read (Elt Ideal) (gradQ (c := c) H) := by
  obtain ⟨g, u, rfl⟩ : ∃ g u, t = pointOf g u := ⟨_, _, (pointOf_self t).symm⟩
  have hi := index0_6 (pointOf g u)
  have hg : (pointOf g u).val / 8 = g.val := congrArg Fin.val (pointOf_group g u)
  have hu : (pointOf g u).val % 8 = u.val := congrArg Fin.val (pointOf_tile g u)
  show (cfg0.win 6).cut (grid0.coords (pointOf g u)) ((dats m 0 c).after 6 (pointOf g u)) = _
  rw [after0_6, pointOf_tile]
  funext j
  rw [View.read_apply]
  change dqOf (groupBlocks m c g u) u j = gradQ (c := c) H _
  idx_vars j
  rw [(reads R g u).dqOf]
  change gradQ (c := c) H (ix3 (headOf g j0) (pos u j1) j2) = _
  refine congrArg (gradQ (c := c) H) ?_
  funext a
  apply Fin.ext
  match a with
  | ⟨0, _⟩ => show 4 * g.val + j0.val = win0_6.index (pointOf g u) 0 * 4 + 1 * j0.val; rw [hi.1, hg]; omega
  | ⟨1, _⟩ => show ((ix3 (headOf g j0) (pos u j1) j2 : Shape.Idx ⟨3, ![8, 2048, 64]⟩) 1 : ℕ) = win0_6.index (pointOf g u) 1 * 256 + 1 * ((ix3 j0 j1 j2 : Shape.Idx ⟨3, ![4, 256, 64]⟩) 1 : ℕ); rw [hi.2.1]; simp [ix3, pos, hu]; omega
  | ⟨2, _⟩ => show ((ix3 (headOf g j0) (pos u j1) j2 : Shape.Idx ⟨3, ![8, 2048, 64]⟩) 2 : ℕ) = win0_6.index (pointOf g u) 2 * 64 + 1 * ((ix3 j0 j1 j2 : Shape.Idx ⟨3, ![4, 256, 64]⟩) 2 : ℕ); rw [hi.2.2]; simp [ix3]

/-- A point that writes an accumulator back is its head group's last. -/
theorem last_point (t : Fin cfg0.N) (h : t.val % 8 = 7) : ∃ g : Fin 2, t = pointOf g 7 :=
  ⟨groupOf t, by apply Fin.ext; show t.val = 8 * (t.val / 8) + 7; omega⟩

theorem flushed_k (R : HeldBy m c H) (t : Fin cfg0.N) (hf : (cfg0.win 7).flush t = true) :
    (dats m 0 c).flushed 7 t = ((cfg0.win 7).blk t).view.read (Elt Ideal) (gradK (c := c) H) := by
  obtain ⟨g, rfl⟩ := last_point t ((flush0_7 t).mp hf)
  have hi := index0_7 (pointOf g 7)
  have hg : (pointOf g 7).val / 8 = g.val := congrArg Fin.val (pointOf_group g 7)
  show (cfg0.win 7).cut (grid0.coords (pointOf g 7)) ((dats m 0 c).after 7 (pointOf g 7)) = _
  rw [after0_7, pointOf_tile, pointOf_group]
  funext j
  rw [View.read_apply]
  change dkAfter (groupBlocks m c g) 8 j = gradK (c := c) H _
  idx_vars j
  rw [dkAfter_all (reads R g)]
  change gradK (c := c) H (ix3 (headOf g j0) j1 j2) = _
  refine congrArg (gradK (c := c) H) ?_
  funext a
  apply Fin.ext
  match a with
  | ⟨0, _⟩ => show 4 * g.val + j0.val = win0_7.index (pointOf g 7) 0 * 4 + 1 * j0.val; rw [hi.1, hg]; omega
  | ⟨1, _⟩ => show ((ix3 (headOf g j0) j1 j2 : Shape.Idx ⟨3, ![8, 2048, 64]⟩) 1 : ℕ) = win0_7.index (pointOf g 7) 1 * 2048 + 1 * ((ix3 j0 j1 j2 : Shape.Idx ⟨3, ![4, 2048, 64]⟩) 1 : ℕ); rw [hi.2.1]; simp [ix3]
  | ⟨2, _⟩ => show ((ix3 (headOf g j0) j1 j2 : Shape.Idx ⟨3, ![8, 2048, 64]⟩) 2 : ℕ) = win0_7.index (pointOf g 7) 2 * 64 + 1 * ((ix3 j0 j1 j2 : Shape.Idx ⟨3, ![4, 2048, 64]⟩) 2 : ℕ); rw [hi.2.2]; simp [ix3]

theorem flushed_v (R : HeldBy m c H) (t : Fin cfg0.N) (hf : (cfg0.win 8).flush t = true) :
    (dats m 0 c).flushed 8 t = ((cfg0.win 8).blk t).view.read (Elt Ideal) (gradV (c := c) H) := by
  obtain ⟨g, rfl⟩ := last_point t ((flush0_8 t).mp hf)
  have hi := index0_8 (pointOf g 7)
  have hg : (pointOf g 7).val / 8 = g.val := congrArg Fin.val (pointOf_group g 7)
  show (cfg0.win 8).cut (grid0.coords (pointOf g 7)) ((dats m 0 c).after 8 (pointOf g 7)) = _
  rw [after0_8, pointOf_tile, pointOf_group]
  funext j
  rw [View.read_apply]
  change dvAfter (groupBlocks m c g) 8 j = gradV (c := c) H _
  idx_vars j
  rw [dvAfter_all (reads R g)]
  change gradV (c := c) H (ix3 (headOf g j0) j1 j2) = _
  refine congrArg (gradV (c := c) H) ?_
  funext a
  apply Fin.ext
  match a with
  | ⟨0, _⟩ => show 4 * g.val + j0.val = win0_8.index (pointOf g 7) 0 * 4 + 1 * j0.val; rw [hi.1, hg]; omega
  | ⟨1, _⟩ => show ((ix3 (headOf g j0) j1 j2 : Shape.Idx ⟨3, ![8, 2048, 64]⟩) 1 : ℕ) = win0_8.index (pointOf g 7) 1 * 2048 + 1 * ((ix3 j0 j1 j2 : Shape.Idx ⟨3, ![4, 2048, 64]⟩) 1 : ℕ); rw [hi.2.1]; simp [ix3]
  | ⟨2, _⟩ => show ((ix3 (headOf g j0) j1 j2 : Shape.Idx ⟨3, ![8, 2048, 64]⟩) 2 : ℕ) = win0_8.index (pointOf g 7) 2 * 64 + 1 * ((ix3 j0 j1 j2 : Shape.Idx ⟨3, ![4, 2048, 64]⟩) 2 : ℕ); rw [hi.2.2]; simp [ix3]

theorem flushed_c (R : HeldBy m c H) (t : Fin cfg0.N) (hf : (cfg0.win 9).flush t = true) :
    (dats m 0 c).flushed 9 t = ((cfg0.win 9).blk t).view.read (Elt Ideal) (gradC (c := c) H) := by
  obtain ⟨g, rfl⟩ := last_point t ((flush0_9 t).mp hf)
  have hi := index0_9 (pointOf g 7)
  have hg : (pointOf g 7).val / 8 = g.val := congrArg Fin.val (pointOf_group g 7)
  show (cfg0.win 9).cut (grid0.coords (pointOf g 7)) ((dats m 0 c).after 9 (pointOf g 7)) = _
  rw [after0_9, pointOf_tile, pointOf_group]
  funext j
  rw [View.read_apply]
  change dcAfter (groupBlocks m c g) 8 j = gradC (c := c) H _
  idx_vars j
  obtain rfl : j1 = 0 := Subsingleton.elim _ _
  rw [dcAfter_all (reads R g)]
  change gradC (c := c) H (ix3 (headOf g j0) 0 j2) = _
  refine congrArg (gradC (c := c) H) ?_
  funext a
  apply Fin.ext
  match a with
  | ⟨0, _⟩ => show 4 * g.val + j0.val = win0_9.index (pointOf g 7) 0 * 4 + 1 * j0.val; rw [hi.1, hg]; omega
  | ⟨1, _⟩ => show ((ix3 (headOf g j0) 0 j2 : Shape.Idx ⟨3, ![8, 1, 2048]⟩) 1 : ℕ) = win0_9.index (pointOf g 7) 1 * 1 + 1 * ((ix3 j0 0 j2 : Shape.Idx ⟨3, ![4, 1, 2048]⟩) 1 : ℕ); rw [hi.2.1]; simp [ix3]
  | ⟨2, _⟩ => show ((ix3 (headOf g j0) 0 j2 : Shape.Idx ⟨3, ![8, 1, 2048]⟩) 2 : ℕ) = win0_9.index (pointOf g 7) 2 * 2048 + 1 * ((ix3 j0 0 j2 : Shape.Idx ⟨3, ![4, 1, 2048]⟩) 2 : ℕ); rw [hi.2.2]; simp [ix3]

theorem final_q (R : HeldBy m c H) : (dats m 0 c).arrAt 6 cfg0.N = gradQ (c := c) H := by
  refine (dats m 0 c).arrAt_eq_of_cover 6 (gradQ (c := c) H) (flushed_q R) fun i => ?_
  have h0 : (i 0 : ℕ) < 8 := (i 0).isLt
  have h1 : (i 1 : ℕ) < 2048 := (i 1).isLt
  have h2 : (i 2 : ℕ) < 64 := (i 2).isLt
  obtain ⟨g, hgi⟩ : ∃ g : Fin 2, g.val = (i 0 : ℕ) / 4 := ⟨⟨(i 0 : ℕ) / 4, by omega⟩, rfl⟩
  obtain ⟨u, hui⟩ : ∃ u : Fin 8, u.val = (i 1 : ℕ) / 256 := ⟨⟨(i 1 : ℕ) / 256, by omega⟩, rfl⟩
  have hi := index0_6 (pointOf g u)
  have hg : (pointOf g u).val / 8 = g.val := congrArg Fin.val (pointOf_group g u)
  have hu : (pointOf g u).val % 8 = u.val := congrArg Fin.val (pointOf_tile g u)
  refine ⟨pointOf g u, flush0_6 _, ?_⟩
  show i ∈ ((View.whole main_v25_0).slice (win0_6.rect (pointOf g u))).set
  rw [View.set_slice_whole, Rect.mem_set_unit]
  intro a
  match a with
  | ⟨0, _⟩ => show win0_6.index (pointOf g u) 0 * 4 ≤ (i 0 : ℕ) ∧ (i 0 : ℕ) < win0_6.index (pointOf g u) 0 * 4 + 4; rw [hi.1]; omega
  | ⟨1, _⟩ => show win0_6.index (pointOf g u) 1 * 256 ≤ (i 1 : ℕ) ∧ (i 1 : ℕ) < win0_6.index (pointOf g u) 1 * 256 + 256; rw [hi.2.1]; omega
  | ⟨2, _⟩ => show win0_6.index (pointOf g u) 2 * 64 ≤ (i 2 : ℕ) ∧ (i 2 : ℕ) < win0_6.index (pointOf g u) 2 * 64 + 64; rw [hi.2.2]; omega

theorem final_k (R : HeldBy m c H) : (dats m 0 c).arrAt 7 cfg0.N = gradK (c := c) H := by
  refine (dats m 0 c).arrAt_eq_of_cover 7 (gradK (c := c) H) (flushed_k R) fun i => ?_
  have h0 : (i 0 : ℕ) < 8 := (i 0).isLt
  have h1 : (i 1 : ℕ) < 2048 := (i 1).isLt
  have h2 : (i 2 : ℕ) < 64 := (i 2).isLt
  obtain ⟨g, hgi⟩ : ∃ g : Fin 2, g.val = (i 0 : ℕ) / 4 := ⟨⟨(i 0 : ℕ) / 4, by omega⟩, rfl⟩
  obtain ⟨u, hui⟩ : ∃ u : Fin 8, u.val = 7 := ⟨⟨7, by omega⟩, rfl⟩
  have hi := index0_7 (pointOf g u)
  have hg : (pointOf g u).val / 8 = g.val := congrArg Fin.val (pointOf_group g u)
  have hu : (pointOf g u).val % 8 = u.val := congrArg Fin.val (pointOf_tile g u)
  refine ⟨pointOf g u, (flush0_7 _).mpr (hu.trans hui), ?_⟩
  show i ∈ ((View.whole main_v25_1).slice (win0_7.rect (pointOf g u))).set
  rw [View.set_slice_whole, Rect.mem_set_unit]
  intro a
  match a with
  | ⟨0, _⟩ => show win0_7.index (pointOf g u) 0 * 4 ≤ (i 0 : ℕ) ∧ (i 0 : ℕ) < win0_7.index (pointOf g u) 0 * 4 + 4; rw [hi.1]; omega
  | ⟨1, _⟩ => show win0_7.index (pointOf g u) 1 * 2048 ≤ (i 1 : ℕ) ∧ (i 1 : ℕ) < win0_7.index (pointOf g u) 1 * 2048 + 2048; rw [hi.2.1]; omega
  | ⟨2, _⟩ => show win0_7.index (pointOf g u) 2 * 64 ≤ (i 2 : ℕ) ∧ (i 2 : ℕ) < win0_7.index (pointOf g u) 2 * 64 + 64; rw [hi.2.2]; omega

theorem final_v (R : HeldBy m c H) : (dats m 0 c).arrAt 8 cfg0.N = gradV (c := c) H := by
  refine (dats m 0 c).arrAt_eq_of_cover 8 (gradV (c := c) H) (flushed_v R) fun i => ?_
  have h0 : (i 0 : ℕ) < 8 := (i 0).isLt
  have h1 : (i 1 : ℕ) < 2048 := (i 1).isLt
  have h2 : (i 2 : ℕ) < 64 := (i 2).isLt
  obtain ⟨g, hgi⟩ : ∃ g : Fin 2, g.val = (i 0 : ℕ) / 4 := ⟨⟨(i 0 : ℕ) / 4, by omega⟩, rfl⟩
  obtain ⟨u, hui⟩ : ∃ u : Fin 8, u.val = 7 := ⟨⟨7, by omega⟩, rfl⟩
  have hi := index0_8 (pointOf g u)
  have hg : (pointOf g u).val / 8 = g.val := congrArg Fin.val (pointOf_group g u)
  have hu : (pointOf g u).val % 8 = u.val := congrArg Fin.val (pointOf_tile g u)
  refine ⟨pointOf g u, (flush0_8 _).mpr (hu.trans hui), ?_⟩
  show i ∈ ((View.whole main_v25_2).slice (win0_8.rect (pointOf g u))).set
  rw [View.set_slice_whole, Rect.mem_set_unit]
  intro a
  match a with
  | ⟨0, _⟩ => show win0_8.index (pointOf g u) 0 * 4 ≤ (i 0 : ℕ) ∧ (i 0 : ℕ) < win0_8.index (pointOf g u) 0 * 4 + 4; rw [hi.1]; omega
  | ⟨1, _⟩ => show win0_8.index (pointOf g u) 1 * 2048 ≤ (i 1 : ℕ) ∧ (i 1 : ℕ) < win0_8.index (pointOf g u) 1 * 2048 + 2048; rw [hi.2.1]; omega
  | ⟨2, _⟩ => show win0_8.index (pointOf g u) 2 * 64 ≤ (i 2 : ℕ) ∧ (i 2 : ℕ) < win0_8.index (pointOf g u) 2 * 64 + 64; rw [hi.2.2]; omega

theorem final_c (R : HeldBy m c H) : (dats m 0 c).arrAt 9 cfg0.N = gradC (c := c) H := by
  refine (dats m 0 c).arrAt_eq_of_cover 9 (gradC (c := c) H) (flushed_c R) fun i => ?_
  have h0 : (i 0 : ℕ) < 8 := (i 0).isLt
  have h1 : (i 1 : ℕ) < 1 := (i 1).isLt
  have h2 : (i 2 : ℕ) < 2048 := (i 2).isLt
  obtain ⟨g, hgi⟩ : ∃ g : Fin 2, g.val = (i 0 : ℕ) / 4 := ⟨⟨(i 0 : ℕ) / 4, by omega⟩, rfl⟩
  obtain ⟨u, hui⟩ : ∃ u : Fin 8, u.val = 7 := ⟨⟨7, by omega⟩, rfl⟩
  have hi := index0_9 (pointOf g u)
  have hg : (pointOf g u).val / 8 = g.val := congrArg Fin.val (pointOf_group g u)
  have hu : (pointOf g u).val % 8 = u.val := congrArg Fin.val (pointOf_tile g u)
  refine ⟨pointOf g u, (flush0_9 _).mpr (hu.trans hui), ?_⟩
  show i ∈ ((View.whole main_v25_3).slice (win0_9.rect (pointOf g u))).set
  rw [View.set_slice_whole, Rect.mem_set_unit]
  intro a
  match a with
  | ⟨0, _⟩ => show win0_9.index (pointOf g u) 0 * 4 ≤ (i 0 : ℕ) ∧ (i 0 : ℕ) < win0_9.index (pointOf g u) 0 * 4 + 4; rw [hi.1]; omega
  | ⟨1, _⟩ => show win0_9.index (pointOf g u) 1 * 1 ≤ (i 1 : ℕ) ∧ (i 1 : ℕ) < win0_9.index (pointOf g u) 1 * 1 + 1; rw [hi.2.1]; omega
  | ⟨2, _⟩ => show win0_9.index (pointOf g u) 2 * 2048 ≤ (i 2 : ℕ) ∧ (i 2 : ℕ) < win0_9.index (pointOf g u) 2 * 2048 + 2048; rw [hi.2.2]; omega

end Cert.Proof.Attn
-- ==== Proof.Finite.lean ====
module

public import proofs.«01_k».proof.Pre_finite
public import proofs.«01_k».proof.Proof.ReferenceReals
public import Idealize.ShloMosaic.Lib.ReduceAll

@[expose] public section

noncomputable section

namespace Cert.Proof.Attn.Finite

open Cert.Pre_finite
open Idealize.ShloMosaic Idealize.ShloMosaic.TcCoe

/-! # Reading the precondition: every entry of every argument is a real number -/

/-- The shape relations the precondition states. -/
theorem facts : Cert.Pre_finite.Facts where
  bcast_S_S8x2048x64 := by decide
  reducesTo_S8x2048x64_S_d0_1_2 := by decide
  h_S_ := by decide
  bcast_S_S8x1x2048 := by decide
  reducesTo_S8x1x2048_S_d0_1_2 := by decide

/-- An extended real whose absolute value is below infinity is real. -/
theorem real_of_below {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : x i = ((x i).toReal : EReal) := by
  have e' : BitVec.ofBool (decide (max (x i) (-(x i)) < Ideal.ofBits .f32 0x7F800000#32)) = 1#1 := e
  rw [infinity] at e'
  have hlt : max (x i) (-(x i)) < (⊤ : EReal) := by
    by_contra hn
    rw [decide_eq_false hn] at e'
    exact absurd e' (by decide)
  refine (EReal.coe_toReal (ne_of_lt (lt_of_le_of_lt (le_max_left _ _) hlt)) fun hbot => ?_).symm
  rw [hbot, EReal.neg_bot, max_eq_right bot_le] at hlt
  exact lt_irrefl _ hlt

section Read

variable [Cert.Pre_finite.Facts]
variable {Q K V : FVec Ideal S8x2048x64 .f32} {C : FVec Ideal S8x1x2048 .f32} {O : FVec Ideal S8x2048x64 .f32}

instance : Subsingleton S_.Idx := ⟨fun a b => funext fun d => d.elim0⟩

/-- The heads that five arrays hold. -/
def heads (Q K V : FVec Ideal S8x2048x64 .f32) (C : FVec Ideal S8x1x2048 .f32) (O : FVec Ideal S8x2048x64 .f32) (h : Fin 8) : Head where
  q t d := (Q (ix3 h t d)).toReal
  k t d := (K (ix3 h t d)).toReal
  v t d := (V (ix3 h t d)).toReal
  c s := (C (ix3 h 0 s)).toReal
  o t d := (O (ix3 h t d)).toReal

/-- Under the precondition the arrays hold them. -/
theorem held (e : Cert.Pre_finite.fn (F := Ideal) Q K V C O = fun _ => 1#1) : Ref.Held Q K V C O (heads Q K V C O) := by
  have e0 := congrFun e ix0
  unfold Cert.Pre_finite.fn Cert.Pre_finite.fn_part1 at e0
  obtain ⟨e1, eO⟩ := IntOp.andi_eq_one.mp e0
  obtain ⟨e2, eC⟩ := IntOp.andi_eq_one.mp e1
  obtain ⟨e3, eV⟩ := IntOp.andi_eq_one.mp e2
  obtain ⟨eQ, eK⟩ := IntOp.andi_eq_one.mp e3
  exact {
    q := fun h t d => real_of_below Q _ _ (Host.reduce_andi_all _ _ _ _ _ eQ _)
    k := fun h t d => real_of_below K _ _ (Host.reduce_andi_all _ _ _ _ _ eK _)
    v := fun h t d => real_of_below V _ _ (Host.reduce_andi_all _ _ _ _ _ eV _)
    c := fun h s => real_of_below C _ _ (Host.reduce_andi_all _ _ _ _ _ eC _)
    o := fun h t d => real_of_below O _ _ (Host.reduce_andi_all _ _ _ _ _ eO _) }

end Read

end Cert.Proof.Attn.Finite
-- ==== Proof.Products.lean ====
module

public import proofs.«01_k».proof.Proof.Numbers
public import Idealize.ShloMosaic.Lib.Pipeline.ValueKit
public import Idealize.ShloMosaic.Lib.Claim
public import Idealize.ShloMosaic.Lib.Quiescent

@[expose] public section

noncomputable section

namespace Cert.Proof.Products

open Idealize.ShloMosaic

/-! # Products of matrices over the extended reals

A row of each definition says which axes are summed over. All that the calls share is here: their programs differ
in shapes, in tiles, and in whether a factor comes as two halves. -/

variable {p q r : ℕ}

/-- Rows of the left factor with columns of the right one. -/
def product (a : FVec Ideal ⟨2, ![p, q]⟩ .bf16) (b : FVec Ideal ⟨2, ![q, r]⟩ .bf16) : FVec Ideal ⟨2, ![p, r]⟩ .f32 :=
  fun i => ∑ k : Fin q, a (ix2 (i 0) k) * b (ix2 k (i 1))

/-- Columns of the left factor with columns of the right one: the gradient of a product in its right factor. -/
def inRight (a : FVec Ideal ⟨2, ![q, p]⟩ .bf16) (d : FVec Ideal ⟨2, ![q, r]⟩ .bf16) : FVec Ideal ⟨2, ![p, r]⟩ .f32 :=
  fun i => ∑ k : Fin q, a (ix2 k (i 0)) * d (ix2 k (i 1))

/-- Rows of the left factor with rows of the right one: the gradient of a product in its left factor. -/
def inLeft (d : FVec Ideal ⟨2, ![p, q]⟩ .bf16) (b : FVec Ideal ⟨2, ![r, q]⟩ .bf16) : FVec Ideal ⟨2, ![p, r]⟩ .f32 :=
  fun i => ∑ k : Fin q, d (ix2 (i 0) k) * b (ix2 (i 1) k)

/-- An entry of the array whose left half is the first of two matrices and whose right half is the second. -/
def joined (x : FVec Ideal ⟨3, ![2, p, q]⟩ .bf16) (s : Fin p) (j : Fin (2 * q)) : EReal :=
  x (ix3 ⟨j.val / q, Nat.div_lt_of_lt_mul (by have := j.isLt; omega)⟩ s ⟨j.val % q, Nat.mod_lt _ (by have := j.isLt; omega)⟩)

/-- The same entry, read off whichever half its column lies in. -/
theorem joined_cases (x : FVec Ideal ⟨3, ![2, p, q]⟩ .bf16) (s : Fin p) (j : Fin (2 * q)) :
    joined x s j = if h : j.val < q then x (ix3 0 s ⟨j.val, h⟩) else x (ix3 1 s ⟨j.val - q, by have := j.isLt; omega⟩) := by
  have hj := j.isLt
  unfold joined
  split
  next h =>
    refine congrArg x (congrArg₂ (fun u v => ix3 u s v) (Fin.ext ?_) (Fin.ext ?_))
    · exact Nat.div_eq_of_lt h
    · exact Nat.mod_eq_of_lt h
  next h =>
    have h1 : j.val / q = 1 := Nat.div_eq_of_lt_le (by omega) (by omega)
    refine congrArg x (congrArg₂ (fun u v => ix3 u s v) (Fin.ext h1) (Fin.ext ?_))
    show j.val % q = j.val - q
    rw [Nat.mod_eq_sub_mod (by omega), Nat.mod_eq_of_lt (by omega)]

/-- A sum over the first half's columns and one over the second's are one sum over the joined columns. -/
theorem sum_halves (x : FVec Ideal ⟨3, ![2, p, q]⟩ .bf16) (s : Fin p) (f : Fin (2 * q) → EReal) :
    (∑ k : Fin q, x (ix3 0 s k) * f ⟨k.val, by have := k.isLt; omega⟩) + ∑ k : Fin q, x (ix3 1 s k) * f ⟨q + k.val, by have := k.isLt; omega⟩
      = ∑ j : Fin (2 * q), joined x s j * f j := by
  rw [← Fin.sum_mul_add_fin 2 q (fun j => joined x s j * f j) rfl, Fin.sum_univ_two]
  refine congrArg₂ (· + ·) (Finset.sum_congr rfl fun k _ => ?_) (Finset.sum_congr rfl fun k _ => ?_)
  · have e : (⟨(0 : Fin 2).val * q + k.val, by have := k.isLt; show 0 * q + k.val < 2 * q; omega⟩ : Fin (2 * q)) = ⟨k.val, by have := k.isLt; omega⟩ :=
      Fin.ext (by show 0 * q + k.val = k.val; omega)
    rw [e, joined_cases, dif_pos k.isLt]
  · have e : (⟨(1 : Fin 2).val * q + k.val, by have := k.isLt; show 1 * q + k.val < 2 * q; omega⟩ : Fin (2 * q)) = ⟨q + k.val, by have := k.isLt; omega⟩ :=
      Fin.ext (by show 1 * q + k.val = q + k.val; omega)
    rw [e, joined_cases, dif_neg (by show ¬q + k.val < q; omega)]
    exact congrArg (fun v => x (ix3 1 s v) * _) (Fin.ext (by show k.val = q + k.val - q; omega))

/-- `inRight` where the right factor comes as two halves. -/
def inRightJoined (a : FVec Ideal ⟨2, ![q, p]⟩ .bf16) (d : FVec Ideal ⟨3, ![2, q, r]⟩ .bf16) : FVec Ideal ⟨2, ![p, 2 * r]⟩ .f32 :=
  fun i => ∑ k : Fin q, a (ix2 k (i 0)) * joined d k (i 1)

/-- `inLeft` where the left factor comes as two halves. -/
def inLeftJoined (d : FVec Ideal ⟨3, ![2, p, q]⟩ .bf16) (b : FVec Ideal ⟨2, ![r, 2 * q]⟩ .bf16) : FVec Ideal ⟨2, ![p, r]⟩ .f32 :=
  fun i => ∑ k : Fin (2 * q), joined d (i 0) k * b (ix2 (i 1) k)

end Cert.Proof.Products
-- ==== Proof.FfnUp.lean ====
module

public import proofs.«01_k».proof.Defs
public import proofs.«01_k».proof.Proof.Products
public import proofs.«01_k».proof.Proof.Gen.FfnUp
public import proofs.«01_k».proof.Proof.Gen.FfnUpIdeal.Value
public import proofs.«01_k».proof.Proof.Gen.FfnUpReferenceIdeal.Run

@[expose] public section

set_option maxRecDepth 16384

noncomputable section

namespace Cert.Proof.FfnUp

open Cert.FfnUpIdeal Cert.FfnUpIdeal.Gen Cert.Proof.Products
open Idealize.ShloMosaic Idealize.ShloMosaic.TcCoe Idealize.SL.Sem
open Idealize.ShloMosaic.Pipeline (Dat)

/-! # The feed-forward's first product -/

/-- The block of each factor and of the result at a grid point: two row tiles by four column tiles. -/
theorem index : ∀ t : Fin cfg0.N, win0_0.index t = ![t.val / 4, 0] ∧ win0_1.index t = ![0, t.val % 4] ∧ win0_2.index t = ![t.val / 4, t.val % 4] :=
  (by decide +kernel : ∀ t : Fin grid0.N, _)

/-- The result array is the product: each point writes its block of it, and the blocks cover it. -/
theorem final (m : (ℓ : Loc nD τ sig) → Buf (Elt Ideal) ℓ) (c : Dev nD) :
    (dats m 0 c).arrAt 2 cfg0.N = product (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, product]
  blk_point [iblk, V, (index t).1, (index t).2.1, (index t).2.2]

/-- The program as written has the idealized one's text. -/
theorem defs_eq {F : FTy → Type} [FloatOps F] : Cert.FfnUp.defs (F := F) = Cert.FfnUpIdeal.defs (F := F) := by
  refine congrArg (Pipeline.defs Cert.FfnUp.pcfgs) (congrArg Defs.onTc (funext fun l => funext fun a => ?_))
  obtain ⟨n, hn⟩ := l
  match n, hn with
  | 0, _ => rfl

/-- The program as written runs. -/
theorem frame_kernel : Cert.quiescent_FfnUp := fun m ρ _ => by
  rw [defs_eq, show Cert.FfnUp.main (F := Bits) = Cert.FfnUpIdeal.main (F := Bits) from rfl]
  exact frame (F := Bits) m ρ

/-- The idealized program runs. -/
theorem frame_ideal : Cert.quiescent_FfnUpIdeal := fun m ρ _ => frame (F := Ideal) m ρ

/-- The reference runs. -/
theorem frame_reference : Cert.quiescent_FfnUpReferenceIdeal := fun m ρ _ =>
  (θ_run Cert.FfnUpReferenceIdeal.defs _ _).mono (fun r h => ⟨fun c => (h c).2, sem_eq_zero_of_no_sems (by decide) r.2⟩)
    (Cert.FfnUpReferenceIdeal.Value.run (F := Ideal) m ρ)

/-- The two programs' results are equal, entry by entry. -/
theorem algebraic : Cert.algebraic_FfnUpIdeal_FfnUpReferenceIdeal := by
  pair_intro
  · run_from Cert.FfnUpIdeal.Value.run_blocks m g
  · run_from Cert.FfnUpReferenceIdeal.Value.run m' g'
    rw [final m c]
    funext i
    pointwise [product]

end Cert.Proof.FfnUp
-- ==== Proof.DWUp.lean ====
module

public import proofs.«01_k».proof.Defs
public import proofs.«01_k».proof.Proof.Products
public import proofs.«01_k».proof.Proof.Gen.DWUp
public import proofs.«01_k».proof.Proof.Gen.DWUpIdeal.Value
public import proofs.«01_k».proof.Proof.Gen.DWUpReferenceIdeal.Run

@[expose] public section

set_option maxRecDepth 16384

noncomputable section

namespace Cert.Proof.DWUp

open Cert.DWUpIdeal Cert.DWUpIdeal.Gen Cert.Proof.Products
open Idealize.ShloMosaic Idealize.ShloMosaic.TcCoe Idealize.SL.Sem
open Idealize.ShloMosaic.Pipeline (Dat)

/-! # The gradient of the feed-forward's first weight -/

/-- The block of each factor and of the result at a grid point: four column tiles, two to each half of the right factor. -/
theorem index : ∀ t : Fin cfg0.N, win0_0.index t = ![0, 0] ∧ win0_1.index t = ![t.val / 2, 0, t.val % 2] ∧ win0_2.index t = ![0, t.val] :=
  (by decide +kernel : ∀ t : Fin grid0.N, _)

/-- The result array is the product: each point writes its block of it, and the blocks cover it. -/
theorem final (m : (ℓ : Loc nD τ sig) → Buf (Elt Ideal) ℓ) (c : Dev nD) :
    (dats m 0 c).arrAt 2 cfg0.N = inRightJoined (r := 2816) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, inRightJoined, joined]
  blk_point [iblk, V, (index t).1, (index t).2.1, (index t).2.2]

/-- The program as written has the idealized one's text. -/
theorem defs_eq {F : FTy → Type} [FloatOps F] : Cert.DWUp.defs (F := F) = Cert.DWUpIdeal.defs (F := F) := by
  refine congrArg (Pipeline.defs Cert.DWUp.pcfgs) (congrArg Defs.onTc (funext fun l => funext fun a => ?_))
  obtain ⟨n, hn⟩ := l
  match n, hn with
  | 0, _ => rfl

/-- The program as written runs. -/
theorem frame_kernel : Cert.quiescent_DWUp := fun m ρ _ => by
  rw [defs_eq, show Cert.DWUp.main (F := Bits) = Cert.DWUpIdeal.main (F := Bits) from rfl]
  exact frame (F := Bits) m ρ

/-- The idealized program runs. -/
theorem frame_ideal : Cert.quiescent_DWUpIdeal := fun m ρ _ => frame (F := Ideal) m ρ

/-- The reference runs. -/
theorem frame_reference : Cert.quiescent_DWUpReferenceIdeal := fun m ρ _ =>
  (θ_run Cert.DWUpReferenceIdeal.defs _ _).mono (fun r h => ⟨fun c => (h c).2, sem_eq_zero_of_no_sems (by decide) r.2⟩)
    (Cert.DWUpReferenceIdeal.Value.run (F := Ideal) m ρ)

/-- The two programs' results are equal, entry by entry. -/
theorem algebraic : Cert.algebraic_DWUpIdeal_DWUpReferenceIdeal := by
  pair_intro
  · run_from Cert.DWUpIdeal.Value.run_blocks m g
  · run_from Cert.DWUpReferenceIdeal.Value.run m' g'
    rw [final m c]
    funext i
    pointwise [inRightJoined]
    exact Finset.sum_congr rfl fun k _ => (mul_comm _ _).trans (congrArg _ (joined_cases (q := 2816) _ _ _).symm)

end Cert.Proof.DWUp
-- ==== Proof.DH2.lean ====
module

public import proofs.«01_k».proof.Defs
public import proofs.«01_k».proof.Proof.Products
public import proofs.«01_k».proof.Proof.Gen.DH2
public import proofs.«01_k».proof.Proof.Gen.DH2Ideal.Value
public import proofs.«01_k».proof.Proof.Gen.DH2ReferenceIdeal.Run

@[expose] public section

set_option maxRecDepth 16384

noncomputable section

namespace Cert.Proof.DH2

open Cert.DH2Ideal Cert.DH2Ideal.Gen Cert.Proof.Products
open Idealize.ShloMosaic Idealize.ShloMosaic.TcCoe Idealize.SL.Sem
open Idealize.ShloMosaic.Pipeline (Dat)

/-! # The gradient of the feed-forward's input -/

/-- The block of each factor and of the result at a grid point: two row tiles, each in four steps over the summed axis, two to each half of the left factor. -/
theorem index : ∀ t : Fin cfg0.N, win0_0.index t = ![t.val % 4 / 2, t.val / 4, t.val % 2] ∧ win0_1.index t = ![0, t.val % 4] ∧ win0_2.index t = ![t.val / 4, 0] :=
  (by decide +kernel : ∀ t : Fin grid0.N, _)

/-- One step's part of a block of the result. -/
theorem part_at (d : Vec Ideal S1x1024x1408 .bf16) (w : Vec Ideal S1024x1408 .bf16) (j : S1024x1024.Idx) :
    k0_pay1 d w j = ∑ k : Fin 1408, d (ix3 0 (j 0) k) * w (ix2 (j 1) k) := by
  pointwise [k0_pay1]

/-- A later step adds its part to what the steps before left. -/
theorem add_at (d : Vec Ideal S1x1024x1408 .bf16) (w : Vec Ideal S1024x1408 .bf16) (o : Vec Ideal S1024x1024 .f32) (j : S1024x1024.Idx) :
    k0_pay2 d w o j = o j + k0_pay1 d w j := by
  pointwise [k0_pay2]

/-- The result array is the product: a block's four steps sum over its 4 · 1408 columns, and the blocks cover the array. -/
theorem final (m : (ℓ : Loc nD τ sig) → Buf (Elt Ideal) ℓ) (c : Dev nD) :
    (dats m 0 c).arrAt 2 cfg0.N = inLeftJoined (q := 2816) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; exact (zero_add (k0_pay1 _ _ j)).symm)
    (fun t h j => by rw [outsAt0_B m c t h (by omega)]; frame_out; rw [add_at]) t ((flush0_2 t).mp hf) y, zero_add]
  pointwise [inLeftJoined]
  simp only [part_at]
  refine Fin.sum_mul_add_congr fun s k hl => congrArg₂ (· * ·) ?_ ?_
  · unfold joined
    blk_ext! [iblk, V, (index _).1, (index t).2.2]
  · blk_ext! [iblk, V, (index _).2.1, (index t).2.2]

/-- The program as written has the idealized one's text. -/
theorem defs_eq {F : FTy → Type} [FloatOps F] : Cert.DH2.defs (F := F) = Cert.DH2Ideal.defs (F := F) := by
  refine congrArg (Pipeline.defs Cert.DH2.pcfgs) (congrArg Defs.onTc (funext fun l => funext fun a => ?_))
  obtain ⟨n, hn⟩ := l
  match n, hn with
  | 0, _ => rfl

/-- The program as written runs. -/
theorem frame_kernel : Cert.quiescent_DH2 := fun m ρ _ => by
  rw [defs_eq, show Cert.DH2.main (F := Bits) = Cert.DH2Ideal.main (F := Bits) from rfl]
  exact frame (F := Bits) m ρ

/-- The idealized program runs. -/
theorem frame_ideal : Cert.quiescent_DH2Ideal := fun m ρ _ => frame (F := Ideal) m ρ

/-- The reference runs. -/
theorem frame_reference : Cert.quiescent_DH2ReferenceIdeal := fun m ρ _ =>
  (θ_run Cert.DH2ReferenceIdeal.defs _ _).mono (fun r h => ⟨fun c => (h c).2, sem_eq_zero_of_no_sems (by decide) r.2⟩)
    (Cert.DH2ReferenceIdeal.Value.run (F := Ideal) m ρ)

/-- The two programs' results are equal, entry by entry. -/
theorem algebraic : Cert.algebraic_DH2Ideal_DH2ReferenceIdeal := by
  pair_intro
  · run_from Cert.DH2Ideal.Value.run_blocks m g
  · run_from Cert.DH2ReferenceIdeal.Value.run m' g'
    rw [final m c]
    funext i
    pointwise [inLeftJoined]
    exact sum_halves (q := 2816) _ _ (fun j => m ((c.tc : Thread nD τ).loc main_arg1) (ix2 (i 1) j))

end Cert.Proof.DH2
-- ==== Proof.DWDown.lean ====
module

public import proofs.«01_k».proof.Defs
public import proofs.«01_k».proof.Proof.Products
public import proofs.«01_k».proof.Proof.Gen.DWDown
public import proofs.«01_k».proof.Proof.Gen.DWDownIdeal.Value
public import proofs.«01_k».proof.Proof.Gen.DWDownReferenceIdeal.Run

@[expose] public section

set_option maxRecDepth 16384

noncomputable section

namespace Cert.Proof.DWDown

open Cert.DWDownIdeal Cert.DWDownIdeal.Gen Cert.Proof.Products
open Idealize.ShloMosaic Idealize.ShloMosaic.TcCoe Idealize.SL.Sem
open Idealize.ShloMosaic.Pipeline (Dat)

/-! # The gradient of the feed-forward's second weight -/

/-- The block of each factor and of the result at a grid point: two row tiles. -/
theorem index : ∀ t : Fin cfg0.N, win0_0.index t = ![0, t.val] ∧ win0_1.index t = ![0, 0] ∧ win0_2.index t = ![t.val, 0] :=
  (by decide +kernel : ∀ t : Fin grid0.N, _)

/-- The result array is the product: each point writes its block of it, and the blocks cover it. -/
theorem final (m : (ℓ : Loc nD τ sig) → Buf (Elt Ideal) ℓ) (c : Dev nD) :
    (dats m 0 c).arrAt 2 cfg0.N = inRight (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, inRight]
  blk_point [iblk, V, (index t).1, (index t).2.1, (index t).2.2]

/-- The program as written has the idealized one's text. -/
theorem defs_eq {F : FTy → Type} [FloatOps F] : Cert.DWDown.defs (F := F) = Cert.DWDownIdeal.defs (F := F) := by
  refine congrArg (Pipeline.defs Cert.DWDown.pcfgs) (congrArg Defs.onTc (funext fun l => funext fun a => ?_))
  obtain ⟨n, hn⟩ := l
  match n, hn with
  | 0, _ => rfl

/-- The program as written runs. -/
theorem frame_kernel : Cert.quiescent_DWDown := fun m ρ _ => by
  rw [defs_eq, show Cert.DWDown.main (F := Bits) = Cert.DWDownIdeal.main (F := Bits) from rfl]
  exact frame (F := Bits) m ρ

/-- The idealized program runs. -/
theorem frame_ideal : Cert.quiescent_DWDownIdeal := fun m ρ _ => frame (F := Ideal) m ρ

/-- The reference runs. -/
theorem frame_reference : Cert.quiescent_DWDownReferenceIdeal := fun m ρ _ =>
  (θ_run Cert.DWDownReferenceIdeal.defs _ _).mono (fun r h => ⟨fun c => (h c).2, sem_eq_zero_of_no_sems (by decide) r.2⟩)
    (Cert.DWDownReferenceIdeal.Value.run (F := Ideal) m ρ)

/-- The two programs' results are equal, entry by entry. -/
theorem algebraic : Cert.algebraic_DWDownIdeal_DWDownReferenceIdeal := by
  pair_intro
  · run_from Cert.DWDownIdeal.Value.run_blocks m g
  · run_from Cert.DWDownReferenceIdeal.Value.run m' g'
    rw [final m c]
    funext i
    pointwise [inRight]
    exact Finset.sum_congr rfl fun k _ => mul_comm _ _

end Cert.Proof.DWDown
-- ==== Proof.DAct.lean ====
module

public import proofs.«01_k».proof.Defs
public import proofs.«01_k».proof.Proof.Products
public import proofs.«01_k».proof.Proof.Gen.DAct
public import proofs.«01_k».proof.Proof.Gen.DActIdeal.Value
public import proofs.«01_k».proof.Proof.Gen.DActReferenceIdeal.Run

@[expose] public section

set_option maxRecDepth 16384

noncomputable section

namespace Cert.Proof.DAct

open Cert.DActIdeal Cert.DActIdeal.Gen Cert.Proof.Products
open Idealize.ShloMosaic Idealize.ShloMosaic.TcCoe Idealize.SL.Sem
open Idealize.ShloMosaic.Pipeline (Dat)

/-! # The gradient of the gated activation -/

/-- The block of each factor and of the result at a grid point: two row tiles by two column tiles. -/
theorem index : ∀ t : Fin cfg0.N, win0_0.index t = ![t.val / 2, 0] ∧ win0_1.index t = ![t.val % 2, 0] ∧ win0_2.index t = ![t.val / 2, t.val % 2] :=
  (by decide +kernel : ∀ t : Fin grid0.N, _)

/-- The result array is the product: each point writes its block of it, and the blocks cover it. -/
theorem final (m : (ℓ : Loc nD τ sig) → Buf (Elt Ideal) ℓ) (c : Dev nD) :
    (dats m 0 c).arrAt 2 cfg0.N = inLeft (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, inLeft]
  blk_point [iblk, V, (index t).1, (index t).2.1, (index t).2.2]

/-- The program as written has the idealized one's text. -/
theorem defs_eq {F : FTy → Type} [FloatOps F] : Cert.DAct.defs (F := F) = Cert.DActIdeal.defs (F := F) := by
  refine congrArg (Pipeline.defs Cert.DAct.pcfgs) (congrArg Defs.onTc (funext fun l => funext fun a => ?_))
  obtain ⟨n, hn⟩ := l
  match n, hn with
  | 0, _ => rfl

/-- The program as written runs. -/
theorem frame_kernel : Cert.quiescent_DAct := fun m ρ _ => by
  rw [defs_eq, show Cert.DAct.main (F := Bits) = Cert.DActIdeal.main (F := Bits) from rfl]
  exact frame (F := Bits) m ρ

/-- The idealized program runs. -/
theorem frame_ideal : Cert.quiescent_DActIdeal := fun m ρ _ => frame (F := Ideal) m ρ

/-- The reference runs. -/
theorem frame_reference : Cert.quiescent_DActReferenceIdeal := fun m ρ _ =>
  (θ_run Cert.DActReferenceIdeal.defs _ _).mono (fun r h => ⟨fun c => (h c).2, sem_eq_zero_of_no_sems (by decide) r.2⟩)
    (Cert.DActReferenceIdeal.Value.run (F := Ideal) m ρ)

/-- The two programs' results are equal, entry by entry. -/
theorem algebraic : Cert.algebraic_DActIdeal_DActReferenceIdeal := by
  pair_intro
  · run_from Cert.DActIdeal.Value.run_blocks m g
  · run_from Cert.DActReferenceIdeal.Value.run m' g'
    rw [final m c]
    funext i
    pointwise [inLeft]

end Cert.Proof.DAct
-- ==== Proof.DWOut.lean ====
module

public import proofs.«01_k».proof.Defs
public import proofs.«01_k».proof.Proof.Products
public import proofs.«01_k».proof.Proof.Gen.DWOut
public import proofs.«01_k».proof.Proof.Gen.DWOutIdeal.Value
public import proofs.«01_k».proof.Proof.Gen.DWOutReferenceIdeal.Run

@[expose] public section

set_option maxRecDepth 16384

noncomputable section

namespace Cert.Proof.DWOut

open Cert.DWOutIdeal Cert.DWOutIdeal.Gen Cert.Proof.Products
open Idealize.ShloMosaic Idealize.ShloMosaic.TcCoe Idealize.SL.Sem
open Idealize.ShloMosaic.Pipeline (Dat)

/-! # The gradient of the mixers' output weight -/

/-- The block of each factor and of the result at a grid point: one tile. -/
theorem index : ∀ t : Fin cfg0.N, win0_0.index t = ![0, 0] ∧ win0_1.index t = ![0, 0] ∧ win0_2.index t = ![0, 0] :=
  (by decide +kernel : ∀ t : Fin grid0.N, _)

/-- The result array is the product: each point writes its block of it, and the blocks cover it. -/
theorem final (m : (ℓ : Loc nD τ sig) → Buf (Elt Ideal) ℓ) (c : Dev nD) :
    (dats m 0 c).arrAt 2 cfg0.N = inRight (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, inRight]
  blk_point [iblk, V, (index t).1, (index t).2.1, (index t).2.2]

/-- The program as written has the idealized one's text. -/
theorem defs_eq {F : FTy → Type} [FloatOps F] : Cert.DWOut.defs (F := F) = Cert.DWOutIdeal.defs (F := F) := by
  refine congrArg (Pipeline.defs Cert.DWOut.pcfgs) (congrArg Defs.onTc (funext fun l => funext fun a => ?_))
  obtain ⟨n, hn⟩ := l
  match n, hn with
  | 0, _ => rfl

/-- The program as written runs. -/
theorem frame_kernel : Cert.quiescent_DWOut := fun m ρ _ => by
  rw [defs_eq, show Cert.DWOut.main (F := Bits) = Cert.DWOutIdeal.main (F := Bits) from rfl]
  exact frame (F := Bits) m ρ

/-- The idealized program runs. -/
theorem frame_ideal : Cert.quiescent_DWOutIdeal := fun m ρ _ => frame (F := Ideal) m ρ

/-- The reference runs. -/
theorem frame_reference : Cert.quiescent_DWOutReferenceIdeal := fun m ρ _ =>
  (θ_run Cert.DWOutReferenceIdeal.defs _ _).mono (fun r h => ⟨fun c => (h c).2, sem_eq_zero_of_no_sems (by decide) r.2⟩)
    (Cert.DWOutReferenceIdeal.Value.run (F := Ideal) m ρ)

/-- The two programs' results are equal, entry by entry. -/
theorem algebraic : Cert.algebraic_DWOutIdeal_DWOutReferenceIdeal := by
  pair_intro
  · run_from Cert.DWOutIdeal.Value.run_blocks m g
  · run_from Cert.DWOutReferenceIdeal.Value.run m' g'
    rw [final m c]
    funext i
    pointwise [inRight]
    exact Finset.sum_congr rfl fun k _ => mul_comm _ _

end Cert.Proof.DWOut
-- ==== Proof.DWIn.lean ====
module

public import proofs.«01_k».proof.Defs
public import proofs.«01_k».proof.Proof.Products
public import proofs.«01_k».proof.Proof.Gen.DWIn
public import proofs.«01_k».proof.Proof.Gen.DWInIdeal.Value
public import proofs.«01_k».proof.Proof.Gen.DWInReferenceIdeal.Run

@[expose] public section

set_option maxRecDepth 16384

noncomputable section

namespace Cert.Proof.DWIn

open Cert.DWInIdeal Cert.DWInIdeal.Gen Cert.Proof.Products
open Idealize.ShloMosaic Idealize.ShloMosaic.TcCoe Idealize.SL.Sem
open Idealize.ShloMosaic.Pipeline (Dat)

/-! # The gradient of the input projection's weight -/

/-- The block of each factor and of the result at a grid point: two row tiles. -/
theorem index : ∀ t : Fin cfg0.N, win0_0.index t = ![0, t.val] ∧ win0_1.index t = ![0, 0] ∧ win0_2.index t = ![t.val, 0] :=
  (by decide +kernel : ∀ t : Fin grid0.N, _)

/-- The result array is the product: each point writes its block of it, and the blocks cover it. -/
theorem final (m : (ℓ : Loc nD τ sig) → Buf (Elt Ideal) ℓ) (c : Dev nD) :
    (dats m 0 c).arrAt 2 cfg0.N = inRight (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, inRight]
  blk_point [iblk, V, (index t).1, (index t).2.1, (index t).2.2]

/-- The program as written has the idealized one's text. -/
theorem defs_eq {F : FTy → Type} [FloatOps F] : Cert.DWIn.defs (F := F) = Cert.DWInIdeal.defs (F := F) := by
  refine congrArg (Pipeline.defs Cert.DWIn.pcfgs) (congrArg Defs.onTc (funext fun l => funext fun a => ?_))
  obtain ⟨n, hn⟩ := l
  match n, hn with
  | 0, _ => rfl

/-- The program as written runs. -/
theorem frame_kernel : Cert.quiescent_DWIn := fun m ρ _ => by
  rw [defs_eq, show Cert.DWIn.main (F := Bits) = Cert.DWInIdeal.main (F := Bits) from rfl]
  exact frame (F := Bits) m ρ

/-- The idealized program runs. -/
theorem frame_ideal : Cert.quiescent_DWInIdeal := fun m ρ _ => frame (F := Ideal) m ρ

/-- The reference runs. -/
theorem frame_reference : Cert.quiescent_DWInReferenceIdeal := fun m ρ _ =>
  (θ_run Cert.DWInReferenceIdeal.defs _ _).mono (fun r h => ⟨fun c => (h c).2, sem_eq_zero_of_no_sems (by decide) r.2⟩)
    (Cert.DWInReferenceIdeal.Value.run (F := Ideal) m ρ)

/-- The two programs' results are equal, entry by entry. -/
theorem algebraic : Cert.algebraic_DWInIdeal_DWInReferenceIdeal := by
  pair_intro
  · run_from Cert.DWInIdeal.Value.run_blocks m g
  · run_from Cert.DWInReferenceIdeal.Value.run m' g'
    rw [final m c]
    funext i
    pointwise [inRight]
    exact Finset.sum_congr rfl fun k _ => mul_comm _ _

end Cert.Proof.DWIn
-- ==== Proof.DH.lean ====
module

public import proofs.«01_k».proof.Defs
public import proofs.«01_k».proof.Proof.Products
public import proofs.«01_k».proof.Proof.Gen.DH
public import proofs.«01_k».proof.Proof.Gen.DHIdeal.Value
public import proofs.«01_k».proof.Proof.Gen.DHReferenceIdeal.Run

@[expose] public section

set_option maxRecDepth 16384

noncomputable section

namespace Cert.Proof.DH

open Cert.DHIdeal Cert.DHIdeal.Gen Cert.Proof.Products
open Idealize.ShloMosaic Idealize.ShloMosaic.TcCoe Idealize.SL.Sem
open Idealize.ShloMosaic.Pipeline (Dat)

/-! # The gradient of the input projection's argument -/

/-- The block of each factor and of the result at a grid point: two row tiles. -/
theorem index : ∀ t : Fin cfg0.N, win0_0.index t = ![t.val, 0] ∧ win0_1.index t = ![0, 0] ∧ win0_2.index t = ![t.val, 0] :=
  (by decide +kernel : ∀ t : Fin grid0.N, _)

/-- The result array is the product: each point writes its block of it, and the blocks cover it. -/
theorem final (m : (ℓ : Loc nD τ sig) → Buf (Elt Ideal) ℓ) (c : Dev nD) :
    (dats m 0 c).arrAt 2 cfg0.N = inLeft (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  pointwise [k0_pay1, inLeft]
  blk_point [iblk, V, (index t).1, (index t).2.1, (index t).2.2]

/-- The program as written has the idealized one's text. -/
theorem defs_eq {F : FTy → Type} [FloatOps F] : Cert.DH.defs (F := F) = Cert.DHIdeal.defs (F := F) := by
  refine congrArg (Pipeline.defs Cert.DH.pcfgs) (congrArg Defs.onTc (funext fun l => funext fun a => ?_))
  obtain ⟨n, hn⟩ := l
  match n, hn with
  | 0, _ => rfl

/-- The program as written runs. -/
theorem frame_kernel : Cert.quiescent_DH := fun m ρ _ => by
  rw [defs_eq, show Cert.DH.main (F := Bits) = Cert.DHIdeal.main (F := Bits) from rfl]
  exact frame (F := Bits) m ρ

/-- The idealized program runs. -/
theorem frame_ideal : Cert.quiescent_DHIdeal := fun m ρ _ => frame (F := Ideal) m ρ

/-- The reference runs. -/
theorem frame_reference : Cert.quiescent_DHReferenceIdeal := fun m ρ _ =>
  (θ_run Cert.DHReferenceIdeal.defs _ _).mono (fun r h => ⟨fun c => (h c).2, sem_eq_zero_of_no_sems (by decide) r.2⟩)
    (Cert.DHReferenceIdeal.Value.run (F := Ideal) m ρ)

/-- The two programs' results are equal, entry by entry. -/
theorem algebraic : Cert.algebraic_DHIdeal_DHReferenceIdeal := by
  pair_intro
  · run_from Cert.DHIdeal.Value.run_blocks m g
  · run_from Cert.DHReferenceIdeal.Value.run m' g'
    rw [final m c]
    funext i
    pointwise [inLeft]

end Cert.Proof.DH
-- ==== Proof.Norms.lean ====
module

public import proofs.«01_k».proof.Proof.Products

@[expose] public section

noncomputable section

namespace Cert.Proof.Norms

open Idealize.ShloMosaic

/-! # A row divided by its root mean square -/

variable {p q : ℕ}

/-- The factor of a row of `n` entries: the inverse root of the mean of its squares plus 1e-6 (`n` by its float word). -/
def factor (n : BitVec 32) (row : Fin q → EReal) : EReal :=
  Ideal.rsqrt (Ideal.div (∑ k : Fin q, row k * row k) (Ideal.ofBits .f32 n) + Ideal.ofBits .f32 0x358637BD#32)

/-- An entry of a normed row: the entry, times the row's factor, times the column's weight. -/
def normAt (n : BitVec 32) (row : Fin q → EReal) (g : FVec Ideal ⟨2, ![1, q]⟩ .f32) (j : Fin q) : EReal :=
  row j * factor n row * g (ix2 0 j)

/-- A row of a matrix. -/
def rowOf (x : FVec Ideal ⟨2, ![p, q]⟩ .f32) (s : Fin p) : Fin q → EReal := fun k => x (ix2 s k)

end Cert.Proof.Norms
-- ==== Proof.InProj.lean ====
module

public import proofs.«01_k».proof.Defs
public import proofs.«01_k».proof.Proof.Norms
public import proofs.«01_k».proof.Proof.Gen.InProj
public import proofs.«01_k».proof.Proof.Gen.InProjIdeal.Value
public import proofs.«01_k».proof.Proof.Gen.InProjReferenceIdeal.Run

@[expose] public section

set_option maxRecDepth 16384

noncomputable section

namespace Cert.Proof.InProj

open Cert.InProjIdeal Cert.InProjIdeal.Gen Cert.Proof.Norms
open Idealize.ShloMosaic Idealize.ShloMosaic.TcCoe Idealize.SL.Sem
open Idealize.ShloMosaic.Pipeline (Dat)

/-! # The input's norm and the input projection -/

/-- The block of each array at a grid point: four row tiles; the norm's weight and the projection's are whole. -/
theorem index : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The normed rows. -/
def normed (x : FVec Ideal S2048x1024 .f32) (g : FVec Ideal S1x1024 .f32) : FVec Ideal S2048x1024 .bf16 :=
  fun i => normAt 0x44800000#32 (rowOf x (i 0)) g (i 1)

/-- The normed rows times the projection's weight. -/
def projected (x : FVec Ideal S2048x1024 .f32) (g : FVec Ideal S1x1024 .f32) (w : FVec Ideal S1024x2176 .bf16) : FVec Ideal S2048x2176 .f32 :=
  fun i => ∑ k : Fin 1024, normAt 0x44800000#32 (rowOf x (i 0)) g k * w (ix2 k (i 1))

/-- The first result array holds the normed rows. -/
theorem final_h (m : (ℓ : Loc nD τ sig) → Buf (Elt Ideal) ℓ) (c : Dev nD) :
    (dats m 0 c).arrAt 3 cfg0.N = normed (m ((c : Thread nD τ).loc main_arg0)) (m ((c : Thread nD τ).loc main_arg1)) := by
  refine (dats m 0 c).arrAt_eq_of_covers 3 _ (by decide +kernel) fun t _ y => ?_
  blk_simp
  rw [after0_3]
  unfold out0_3
  frame_out
  pointwise [k0_pay1, normed, normAt, factor, rowOf]
  blk_point [iblk, V, (index t).1, (index t).2.1, (index t).2.2.2.1]

/-- The second result array holds their product with the weight. -/
theorem final_z (m : (ℓ : Loc nD τ sig) → Buf (Elt Ideal) ℓ) (c : Dev nD) :
    (dats m 0 c).arrAt 4 cfg0.N = projected (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  unfold out0_4
  frame_out
  pointwise [k0_pay2, k0_pay1, projected, normAt, factor, rowOf]
  blk_point [iblk, V, (index t).1, (index t).2.1, (index t).2.2.1, (index t).2.2.2.2]

/-- The program as written has the idealized one's text. -/
theorem defs_eq {F : FTy → Type} [FloatOps F] : Cert.InProj.defs (F := F) = Cert.InProjIdeal.defs (F := F) := by
  refine congrArg (Pipeline.defs Cert.InProj.pcfgs) (congrArg Defs.onTc (funext fun l => funext fun a => ?_))
  obtain ⟨n, hn⟩ := l
  match n, hn with
  | 0, _ => rfl

/-- The program as written runs. -/
theorem frame_kernel : Cert.quiescent_InProj := fun m ρ _ => by
  rw [defs_eq, show Cert.InProj.main (F := Bits) = Cert.InProjIdeal.main (F := Bits) from rfl]
  exact frame (F := Bits) m ρ

/-- The idealized program runs. -/
theorem frame_ideal : Cert.quiescent_InProjIdeal := fun m ρ _ => frame (F := Ideal) m ρ

/-- The reference runs. -/
theorem frame_reference : Cert.quiescent_InProjReferenceIdeal := fun m ρ _ =>
  (θ_run Cert.InProjReferenceIdeal.defs _ _).mono (fun r h => ⟨fun c => (h c).2.2, sem_eq_zero_of_no_sems (by decide) r.2⟩)
    (Cert.InProjReferenceIdeal.Value.run (F := Ideal) m ρ)

/-- The two programs' results are equal, entry by entry. -/
theorem algebraic : Cert.algebraic_InProjIdeal_InProjReferenceIdeal := by
  pair_intro
  · run_from Cert.InProjIdeal.Value.run_blocks m g
  · run_from Cert.InProjReferenceIdeal.Value.run m' g'
    · rw [final_h m c]
      funext i
      pointwise [normed, normAt, factor, rowOf]
    · rw [final_z m c]
      funext i
      pointwise [projected, normAt, factor, rowOf]

end Cert.Proof.InProj
-- ==== Proof.MixOut.lean ====
module

public import proofs.«01_k».proof.Defs
public import proofs.«01_k».proof.Proof.Norms
public import proofs.«01_k».proof.Proof.Gen.MixOut
public import proofs.«01_k».proof.Proof.Gen.MixOutIdeal.Value
public import proofs.«01_k».proof.Proof.Gen.MixOutReferenceIdeal.Run

@[expose] public section

set_option maxRecDepth 16384

noncomputable section

namespace Cert.Proof.MixOut

open Cert.MixOutIdeal Cert.MixOutIdeal.Gen Cert.Proof.Norms
open Idealize.ShloMosaic Idealize.ShloMosaic.TcCoe Idealize.SL.Sem
open Idealize.ShloMosaic.Pipeline (Dat)

/-! # The two mixers' results, gated and normed, and their output product

Each definition is of one row, given the row of each operand, so that it serves a tile's row and the array's alike. -/

/-- The smooth step of an entry, by the hyperbolic tangent. -/
def gelu (y : EReal) : EReal :=
  y * (Ideal.ofBits .f32 0x3F000000#32 * (1 + Ideal.tanh (Ideal.ofBits .f32 0x3F4C422A#32 * (y + Ideal.ofBits .f32 0x3D372713#32 * (y * y * y)))))

/-- The gated unit: an entry's smooth step times the logistic function of the row's product with the gate's weight. -/
def gated (y : Fin 512 → EReal) (w : FVec Ideal S512x512 .bf16) (b : FVec Ideal S1x512 .f32) (j : Fin 512) : EReal :=
  gelu (y j) * Ideal.div 1 (1 + Ideal.exp (-((∑ k : Fin 512, gelu (y k) * w (ix2 k j)) + b (ix2 0 j))))

/-- A row of the attention's result, its eight heads laid side by side. -/
def heads {p : ℕ} (att : FVec Ideal ⟨3, ![8, p, 64]⟩ .f32) (s : Fin p) (j : Fin 512) : EReal :=
  att (ix3 ⟨j.val / 64, by omega⟩ s ⟨j.val % 64, by omega⟩)

/-- The layer's rows after the mixers: the input plus the attention's normed part and the gated unit's normed part, each times its half of the weight's rows. -/
def after (a y : Fin 512 → EReal) (x : Fin 1024 → EReal) (ga gs : FVec Ideal S1x512 .f32) (w : FVec Ideal S1024x1024 .bf16) (j : Fin 1024) : EReal :=
  x j + ((∑ k : Fin 512, normAt 0x44000000#32 a ga k * w (ix2 ⟨k.val, by omega⟩ j))
    + ∑ k : Fin 512, normAt 0x44000000#32 y gs k * w (ix2 ⟨512 + k.val, by omega⟩ j))

/-- The rows after the mixers, whole. -/
def rows (y : FVec Ideal S2048x512 .f32) (att : FVec Ideal S8x2048x64 .f32) (x : FVec Ideal S2048x1024 .f32) (wg : FVec Ideal S512x512 .bf16) (bg ga gs : FVec Ideal S1x512 .f32)
    (w : FVec Ideal S1024x1024 .bf16) : FVec Ideal S2048x1024 .f32 :=
  fun i => after (heads att (i 0)) (gated (rowOf y (i 0)) wg bg) (rowOf x (i 0)) ga gs w (i 1)

/-- The two normed parts, side by side. -/
def mixed (y : FVec Ideal S2048x512 .f32) (att : FVec Ideal S8x2048x64 .f32) (wg : FVec Ideal S512x512 .bf16) (bg ga gs : FVec Ideal S1x512 .f32) : FVec Ideal S2048x1024 .bf16 :=
  fun i => if h : (i 1).val < 512 then normAt 0x44000000#32 (heads att (i 0)) ga ⟨(i 1).val, h⟩
    else normAt 0x44000000#32 (gated (rowOf y (i 0)) wg bg) gs ⟨(i 1).val - 512, by have : (i 1).val < 1024 := (i 1).isLt; omega⟩

/-- The left half is the attention's normed part. -/
theorem mixed_left (y : FVec Ideal S2048x512 .f32) (att : FVec Ideal S8x2048x64 .f32) (wg : FVec Ideal S512x512 .bf16) (bg ga gs : FVec Ideal S1x512 .f32) (s : Fin 2048) (k : Fin 512) :
    mixed y att wg bg ga gs (ix2 s ⟨k.val, by omega⟩) = normAt 0x44000000#32 (heads att s) ga k :=
  dif_pos k.isLt

/-- The right half is the gated unit's. -/
theorem mixed_right (y : FVec Ideal S2048x512 .f32) (att : FVec Ideal S8x2048x64 .f32) (wg : FVec Ideal S512x512 .bf16) (bg ga gs : FVec Ideal S1x512 .f32) (s : Fin 2048) (k : Fin 512) :
    mixed y att wg bg ga gs (ix2 s ⟨512 + k.val, by omega⟩) = normAt 0x44000000#32 (gated (rowOf y s) wg bg) gs k :=
  (dif_neg (show ¬512 + k.val < 512 by omega)).trans (congrArg (normAt _ _ gs) (Fin.ext (show 512 + k.val - 512 = k.val by omega)))

/-- The rows after the mixers, normed. -/
def normedRows (y : FVec Ideal S2048x512 .f32) (att : FVec Ideal S8x2048x64 .f32) (x : FVec Ideal S2048x1024 .f32) (wg : FVec Ideal S512x512 .bf16) (bg ga gs : FVec Ideal S1x512 .f32)
    (w : FVec Ideal S1024x1024 .bf16) (gf : FVec Ideal S1x1024 .f32) : FVec Ideal S2048x1024 .bf16 :=
  fun i => normAt 0x44800000#32 (after (heads att (i 0)) (gated (rowOf y (i 0)) wg bg) (rowOf x (i 0)) ga gs w) gf (i 1)

/-! ## The body at one grid point -/

/-- The gated unit's normed part of a tile. -/
theorem ssm_at (y : Vec Ideal S512x512 .f32) (w : Vec Ideal S512x512 .bf16) (b g : Vec Ideal S1x512 .f32) (r j : Fin 512) :
    k0_pay6 (k0_pay4 y w b) (k0_pay5 g) (ix2 r j) = normAt 0x44000000#32 (gated (rowOf y r) w b) g j := by
  pointwise [k0_pay6, k0_pay4, k0_pay5, normAt, factor, gated, gelu, rowOf]
  simp only [zero_sub]

/-- One head of a tile. -/
def head (x : Vec Ideal S8x512x64 .f32) (n : Fin 8) : Vec Ideal S512x64 .f32 := fun k => x (ix3 n (k 0) (k 1))

/-- The first head as the body loads and casts it. -/
theorem head_0 (x : Vec Ideal S8x512x64 .f32) : shapeCast S512x64 (View.ld x r0_2) shapeCasts_S1x512x64_S512x64 = head x 0 := by
  funext k
  pointwise [head]

/-- The second head as the body loads and casts it. -/
theorem head_1 (x : Vec Ideal S8x512x64 .f32) : shapeCast S512x64 (View.ld x r0_3) shapeCasts_S1x512x64_S512x64 = head x 1 := by
  funext k
  pointwise [head]

/-- The third head as the body loads and casts it. -/
theorem head_2 (x : Vec Ideal S8x512x64 .f32) : shapeCast S512x64 (View.ld x r0_4) shapeCasts_S1x512x64_S512x64 = head x 2 := by
  funext k
  pointwise [head]

/-- The fourth head as the body loads and casts it. -/
theorem head_3 (x : Vec Ideal S8x512x64 .f32) : shapeCast S512x64 (View.ld x r0_5) shapeCasts_S1x512x64_S512x64 = head x 3 := by
  funext k
  pointwise [head]

/-- The fifth head as the body loads and casts it. -/
theorem head_4 (x : Vec Ideal S8x512x64 .f32) : shapeCast S512x64 (View.ld x r0_6) shapeCasts_S1x512x64_S512x64 = head x 4 := by
  funext k
  pointwise [head]

/-- The sixth head as the body loads and casts it. -/
theorem head_5 (x : Vec Ideal S8x512x64 .f32) : shapeCast S512x64 (View.ld x r0_7) shapeCasts_S1x512x64_S512x64 = head x 5 := by
  funext k
  pointwise [head]

/-- The seventh head as the body loads and casts it. -/
theorem head_6 (x : Vec Ideal S8x512x64 .f32) : shapeCast S512x64 (View.ld x r0_8) shapeCasts_S1x512x64_S512x64 = head x 6 := by
  funext k
  pointwise [head]

/-- The eighth head as the body loads and casts it. -/
theorem head_7 (x : Vec Ideal S8x512x64 .f32) : shapeCast S512x64 (View.ld x r0_9) shapeCasts_S1x512x64_S512x64 = head x 7 := by
  funext k
  pointwise [head]

/-- The eight heads of a tile as the body casts them. -/
def pieces (x : Vec Ideal S8x512x64 .f32) : Fin 8 → Vec Ideal S512x64 .f32 :=
  ![shapeCast S512x64 (View.ld x r0_2) shapeCasts_S1x512x64_S512x64,
    shapeCast S512x64 (View.ld x r0_3) shapeCasts_S1x512x64_S512x64,
    shapeCast S512x64 (View.ld x r0_4) shapeCasts_S1x512x64_S512x64,
    shapeCast S512x64 (View.ld x r0_5) shapeCasts_S1x512x64_S512x64,
    shapeCast S512x64 (View.ld x r0_6) shapeCasts_S1x512x64_S512x64,
    shapeCast S512x64 (View.ld x r0_7) shapeCasts_S1x512x64_S512x64,
    shapeCast S512x64 (View.ld x r0_8) shapeCasts_S1x512x64_S512x64,
    shapeCast S512x64 (View.ld x r0_9) shapeCasts_S1x512x64_S512x64]

/-- They are the tile's heads. -/
theorem pieces_eq (x : Vec Ideal S8x512x64 .f32) (n : Fin 8) : pieces x n = head x n :=
  match n with
  | 0 => head_0 x
  | 1 => head_1 x
  | 2 => head_2 x
  | 3 => head_3 x
  | 4 => head_4 x
  | 5 => head_5 x
  | 6 => head_6 x
  | 7 => head_7 x

/-- Joined, they are the tile's rows of heads side by side. -/
theorem heads_at (x : Vec Ideal S8x512x64 .f32) :
    concatenate S512x512 1 [⟨S512x64, shapeCast S512x64 (View.ld x r0_2) shapeCasts_S1x512x64_S512x64⟩,
      ⟨S512x64, shapeCast S512x64 (View.ld x r0_3) shapeCasts_S1x512x64_S512x64⟩,
      ⟨S512x64, shapeCast S512x64 (View.ld x r0_4) shapeCasts_S1x512x64_S512x64⟩,
      ⟨S512x64, shapeCast S512x64 (View.ld x r0_5) shapeCasts_S1x512x64_S512x64⟩,
      ⟨S512x64, shapeCast S512x64 (View.ld x r0_6) shapeCasts_S1x512x64_S512x64⟩,
      ⟨S512x64, shapeCast S512x64 (View.ld x r0_7) shapeCasts_S1x512x64_S512x64⟩,
      ⟨S512x64, shapeCast S512x64 (View.ld x r0_8) shapeCasts_S1x512x64_S512x64⟩,
      ⟨S512x64, shapeCast S512x64 (View.ld x r0_9) shapeCasts_S1x512x64_S512x64⟩]
      concatenates_S512x64_S512x64_S512x64_S512x64_S512x64_S512x64_S512x64_S512x64_S512x512_d1 = fun i => heads x (i 0) (i 1) := by
  funext i
  idx_vars i
  refine (Idealize.ShloMosaic.concatenate_ofFn_apply (t := S512x512) (s₁ := S512x64) 1 (pieces x)
    concatenates_S512x64_S512x64_S512x64_S512x64_S512x64_S512x64_S512x64_S512x64_S512x512_d1 rfl 64 rfl (ix2 i0 i1)
    ⟨i1.val / 64, by omega⟩ rfl (ix2 i0 ⟨i1.val % 64, by omega⟩) rfl ?_).trans (congrFun (pieces_eq x _) _)
  intro b hb
  match b with
  | 0 => rfl
  | 1 => exact absurd rfl hb

/-- The attention's normed part of a tile. -/
theorem att_at (x : Vec Ideal S8x512x64 .f32) (g : Vec Ideal S1x512 .f32) (r j : Fin 512) :
    k0_pay1 (k0_pay7 (View.ld x r0_2) (View.ld x r0_3) (View.ld x r0_4) (View.ld x r0_5) (View.ld x r0_6) (View.ld x r0_7) (View.ld x r0_8) (View.ld x r0_9)) (k0_pay8 g) (ix2 r j)
      = normAt 0x44000000#32 (heads x r) g j := by
  unfold k0_pay7
  dsimp only
  rw [heads_at x]
  pointwise [k0_pay1, k0_pay8, normAt, factor]

/-- The rows after the mixers, of a tile. -/
theorem after_at (s : FVec Ideal S512x512 .bf16) (a g : FVec Ideal S512x512 .f32) (x : Vec Ideal S512x1024 .f32) (u v : Vec Ideal S512x1024 .bf16) (i : S512x1024.Idx) :
    k0_pay2 s a g x u v i = x i + ((∑ k : Fin 512, k0_pay1 a g (ix2 (i 0) k) * u (ix2 k (i 1))) + ∑ k : Fin 512, s (ix2 (i 0) k) * v (ix2 k (i 1))) := by
  pointwise [k0_pay2]

/-- Those rows, normed. -/
theorem normed_at (s : FVec Ideal S512x512 .bf16) (a g : FVec Ideal S512x512 .f32) (x : Vec Ideal S512x1024 .f32) (u v : Vec Ideal S512x1024 .bf16) (w : Vec Ideal S1x1024 .f32) (i : S512x1024.Idx) :
    k0_pay3 s a g x u v w i = normAt 0x44800000#32 (fun j => k0_pay2 s a g x u v (ix2 (i 0) j)) w (i 1) := by
  pointwise [k0_pay3, normAt, factor]

/-! ## From tiles to arrays -/

/-- The block of each array at a grid point: four row tiles; the weights are whole. -/
theorem index : ∀ t : Fin cfg0.N, win0_0.index t = ![t.val, 0] ∧ win0_1.index t = ![0, t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0] :=
  (by decide +kernel : ∀ t : Fin grid0.N, _)

/-- A row of the array that a row of a tile is. -/
def row (t : Fin cfg0.N) (r : Fin 512) : Fin 2048 := ⟨t.val * 512 + r.val, by have : t.val < 4 := t.isLt; omega⟩

variable (m : (ℓ : Loc nD τ sig) → Buf (Elt Ideal) ℓ) (c : Dev nD)

/-! A tile's rows are rows of the arrays, and the weights' blocks the weights. -/

/-- A tile's row of the S5 mixer's result. -/
theorem tile_y (t : Fin cfg0.N) (r : Fin 512) : rowOf (p := 512) (q := 512) (iblk m c 0 t) r = rowOf (p := 2048) (q := 512) (m ((c : Thread nD τ).loc main_arg0)) (row t r) := by
  funext k
  unfold rowOf row
  blk_point [iblk, V, (index t).1]

/-- A tile's row of the attention's result. -/
theorem tile_heads (t : Fin cfg0.N) (r : Fin 512) : heads (p := 512) (iblk m c 1 t) r = heads (p := 2048) (m ((c : Thread nD τ).loc main_arg1)) (row t r) := by
  funext k
  unfold heads row
  blk_point [iblk, V, (index t).2.1]

/-- A tile's row of the layer's input. -/
theorem tile_x (t : Fin cfg0.N) (r : Fin 512) : rowOf (p := 512) (q := 1024) (iblk m c 2 t) r = rowOf (p := 2048) (q := 1024) (m ((c : Thread nD τ).loc main_arg2)) (row t r) := by
  funext k
  unfold rowOf row
  blk_point [iblk, V, (index t).2.2.1]

/-- The gate's weight, whole at every grid point. -/
theorem tile_3 (t : Fin cfg0.N) : iblk m c 3 t = (m ((c : Thread nD τ).loc main_arg3)) := by
  funext i
  blk_point [iblk, V, (index t).2.2.2.1]

/-- The gate's bias, whole at every grid point. -/
theorem tile_4 (t : Fin cfg0.N) : iblk m c 4 t = (m ((c : Thread nD τ).loc main_arg4)) := by
  funext i
  blk_point [iblk, V, (index t).2.2.2.2.1]

/-- The weight of the attention's norm, whole at every grid point. -/
theorem tile_5 (t : Fin cfg0.N) : iblk m c 5 t = (m ((c : Thread nD τ).loc main_arg5)) := by
  funext i
  blk_point [iblk, V, (index t).2.2.2.2.2.1]

/-- The weight of the gated unit's norm, whole at every grid point. -/
theorem tile_6 (t : Fin cfg0.N) : iblk m c 6 t = (m ((c : Thread nD τ).loc main_arg6)) := by
  funext i
  blk_point [iblk, V, (index t).2.2.2.2.2.2.1]

/-- The output weight, whole at every grid point. -/
theorem tile_7 (t : Fin cfg0.N) : iblk m c 7 t = (m ((c : Thread nD τ).loc main_arg7)) := by
  funext i
  blk_point [iblk, V, (index t).2.2.2.2.2.2.2.1]

/-- The weight of the feed-forward's norm, whole at every grid point. -/
theorem tile_8 (t : Fin cfg0.N) : iblk m c 8 t = (m ((c : Thread nD τ).loc main_arg8)) := by
  funext i
  blk_point [iblk, V, (index t).2.2.2.2.2.2.2.2.1]

/-- What a grid point computes of the attention's normed part. -/
theorem tile_att (t : Fin cfg0.N) (r j : Fin 512) :
    k0_pay1 (k0_pay7 (View.ld (iblk m c 1 t) r0_2) (View.ld (iblk m c 1 t) r0_3) (View.ld (iblk m c 1 t) r0_4) (View.ld (iblk m c 1 t) r0_5) (View.ld (iblk m c 1 t) r0_6) (View.ld (iblk m c 1 t) r0_7) (View.ld (iblk m c 1 t) r0_8) (View.ld (iblk m c 1 t) r0_9)) (k0_pay8 (iblk m c 5 t)) (ix2 r j) = normAt 0x44000000#32 (heads (p := 2048) (m ((c : Thread nD τ).loc main_arg1)) (row t r)) (m ((c : Thread nD τ).loc main_arg5)) j := by
  exact (att_at (iblk m c 1 t) (iblk m c 5 t) r j).trans (by rw [tile_heads, tile_5])

/-- What it computes of the gated unit's normed part. -/
theorem tile_ssm (t : Fin cfg0.N) (r j : Fin 512) :
    (k0_pay6 (k0_pay4 (iblk m c 0 t) (iblk m c 3 t) (iblk m c 4 t)) (k0_pay5 (iblk m c 6 t))) (ix2 r j) = normAt 0x44000000#32 (gated (rowOf (p := 2048) (m ((c : Thread nD τ).loc main_arg0)) (row t r)) (m ((c : Thread nD τ).loc main_arg3)) (m ((c : Thread nD τ).loc main_arg4))) (m ((c : Thread nD τ).loc main_arg6)) j := by
  exact (ssm_at (iblk m c 0 t) (iblk m c 3 t) (iblk m c 4 t) (iblk m c 6 t) r j).trans (by rw [tile_y, tile_3, tile_4, tile_6])

/-- What it computes of the rows after the mixers. -/
theorem tile_after (t : Fin cfg0.N) (r : Fin 512) (j : Fin 1024) :
    k0_pay2 (k0_pay6 (k0_pay4 (iblk m c 0 t) (iblk m c 3 t) (iblk m c 4 t)) (k0_pay5 (iblk m c 6 t))) (k0_pay7 (View.ld (iblk m c 1 t) r0_2) (View.ld (iblk m c 1 t) r0_3) (View.ld (iblk m c 1 t) r0_4) (View.ld (iblk m c 1 t) r0_5) (View.ld (iblk m c 1 t) r0_6) (View.ld (iblk m c 1 t) r0_7) (View.ld (iblk m c 1 t) r0_8) (View.ld (iblk m c 1 t) r0_9)) (k0_pay8 (iblk m c 5 t)) (iblk m c 2 t) (View.ld (iblk m c 7 t) r0_13) (View.ld (iblk m c 7 t) r0_14) (ix2 r j)
      = after (heads (p := 2048) (m ((c : Thread nD τ).loc main_arg1)) (row t r)) (gated (rowOf (p := 2048) (m ((c : Thread nD τ).loc main_arg0)) (row t r)) (m ((c : Thread nD τ).loc main_arg3)) (m ((c : Thread nD τ).loc main_arg4))) (rowOf (p := 2048) (m ((c : Thread nD τ).loc main_arg2)) (row t r)) (m ((c : Thread nD τ).loc main_arg5)) (m ((c : Thread nD τ).loc main_arg6)) (m ((c : Thread nD τ).loc main_arg7)) j := by
  rw [after_at]
  unfold after
  refine congrArg₂ (· + ·) (congrFun (tile_x m c t r) j) (congrArg₂ (· + ·) (Finset.sum_congr rfl fun k _ => congrArg₂ (· * ·) (tile_att m c t r k) ?_)
    (Finset.sum_congr rfl fun k _ => congrArg₂ (· * ·) (tile_ssm m c t r k) ?_))
  · rw [tile_7]
    pointwise
  · rw [tile_7]
    pointwise

/-- An index of the array, by a tile's row and its column. -/
theorem at_row (t : Fin cfg0.N) (r : Fin 512) (j : Fin 1024) (i : S2048x1024.Idx) (h0 : (i 0).val = t.val * 512 + r.val) (h1 : (i 1).val = j.val) :
    i = ix2 (row t r) j := by
  rw [eq_ix2 i]
  exact congrArg₂ ix2 (Fin.ext h0) (Fin.ext h1)

/-! ## The three result arrays -/

/-- The first result array holds the rows after the mixers. -/
theorem final_rows :
    (dats m 0 c).arrAt 9 cfg0.N = (rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S2048x1024.Idx → EReal) := by
  refine (dats m 0 c).arrAt_eq_of_covers 9 _ (by decide +kernel) fun t _ y => ?_
  blk_simp
  rw [after0_9]
  unfold_out out0_9
  frame_out
  refine Eq.trans ?_ (congrArg (rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (at_row t (y 0) (y 1) _ (by blk_simp [(index t).2.2.2.2.2.2.2.2.2.1]) (by blk_simp [(index t).2.2.2.2.2.2.2.2.2.1]))).symm
  exact (congrArg _ (eq_ix2 y)).trans (tile_after m c t (y 0) (y 1))

/-- The third holds the rows after the mixers, normed. -/
theorem final_normed :
    (dats m 0 c).arrAt 11 cfg0.N = (normedRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S2048x1024.Idx → EReal) := by
  refine (dats m 0 c).arrAt_eq_of_covers 11 _ (by decide +kernel) fun t _ y => ?_
  blk_simp
  rw [after0_11]
  unfold_out out0_11
  frame_out
  refine Eq.trans ?_ (congrArg (normedRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (at_row t (y 0) (y 1) _ (by blk_simp [(index t).2.2.2.2.2.2.2.2.2.2.2]) (by blk_simp [(index t).2.2.2.2.2.2.2.2.2.2.2]))).symm
  rw [normed_at, tile_8]
  exact congrArg (fun f => normAt 0x44800000#32 f _ _) (funext fun j => tile_after m c t (y 0) j)

/-- The second holds the two normed parts side by side. -/
theorem final_mixed :
    (dats m 0 c).arrAt 10 cfg0.N = (mixed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) : S2048x1024.Idx → EReal) := by
  refine (dats m 0 c).arrAt_eq_of_covers 10 _ (by decide +kernel) fun t _ y => ?_
  blk_simp
  rw [after0_10]
  unfold_out out0_10
  frame_out
  refine Eq.trans ?_ (congrArg (mixed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (at_row t (y 0) (y 1) _ (by blk_simp [(index t).2.2.2.2.2.2.2.2.2.2.1]) (by blk_simp [(index t).2.2.2.2.2.2.2.2.2.2.1]))).symm
  refine View.canon_apply_of_pieces (Val := Elt Ideal) (S := S512x1024) (e := .bf16) (fun z : S512x1024.Idx => mixed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 (row t (z 0)) (z 1))) _ ?_ y (cover0_10 _ _ y)
  intro pc hpc
  rcases List.mem_cons.mp hpc with rfl | hpc
  · intro x
    refine (congrArg _ (eq_ix2 x)).trans ((tile_ssm m c t (x 0) (x 1)).trans ((mixed_right _ _ _ _ _ _ (row t (x 0)) (x 1)).symm.trans (congrArg _ (congrArg₂ ix2 (congrArg (row t) (Fin.ext ?_)) (Fin.ext ?_)))))
    · simp
    · simp
  rcases List.mem_cons.mp hpc with rfl | hpc
  · intro x
    refine (congrArg _ (eq_ix2 x)).trans ((tile_att m c t (x 0) (x 1)).trans ((mixed_left _ _ _ _ _ _ (row t (x 0)) (x 1)).symm.trans (congrArg _ (congrArg₂ ix2 (congrArg (row t) (Fin.ext ?_)) (Fin.ext ?_)))))
    · simp
    · simp
  nomatch hpc

/-! ## The claims -/

/-- The program as written has the idealized one's text. -/
theorem defs_eq {F : FTy → Type} [FloatOps F] : Cert.MixOut.defs (F := F) = Cert.MixOutIdeal.defs (F := F) := by
  refine congrArg (Pipeline.defs Cert.MixOut.pcfgs) (congrArg Defs.onTc (funext fun l => funext fun a => ?_))
  obtain ⟨n, hn⟩ := l
  match n, hn with
  | 0, _ => rfl

/-- The program as written runs. -/
theorem frame_kernel : Cert.quiescent_MixOut := fun m ρ _ => by
  rw [defs_eq, show Cert.MixOut.main (F := Bits) = Cert.MixOutIdeal.main (F := Bits) from rfl]
  exact Cert.MixOutIdeal.Gen.frame (F := Bits) m ρ

/-- The idealized program runs. -/
theorem frame_ideal : Cert.quiescent_MixOutIdeal := fun m ρ _ => Cert.MixOutIdeal.Gen.frame (F := Ideal) m ρ

/-- The reference runs. -/
theorem frame_reference : Cert.quiescent_MixOutReferenceIdeal := fun m ρ _ =>
  (θ_run Cert.MixOutReferenceIdeal.defs _ _).mono (fun r h => ⟨fun c => (h c).2.2.2, sem_eq_zero_of_no_sems (by decide) r.2⟩)
    (Cert.MixOutReferenceIdeal.Value.run (F := Ideal) m ρ)

/-- The two programs' results are equal, entry by entry. -/
theorem algebraic : Cert.algebraic_MixOutIdeal_MixOutReferenceIdeal := by
  pair_intro
  · run_from Cert.MixOutIdeal.Value.run_blocks m g
  · run_from Cert.MixOutReferenceIdeal.Value.run m' g'
    · rw [final_rows m c]
      funext i
      obtain ⟨e0, e1, e2, e3, e4, e5, e6, e7, e8⟩ := hagree c
      unfold Cert.MixOutReferenceIdeal.Value.res_main_v53
      pointwise [rows, after, normAt, factor, gated, gelu, heads, rowOf]
      simp only [e0, e1, e2, e3, e4, e5, e6, e7, e8]
    · rw [final_mixed m c]
      funext i
      obtain ⟨e0, e1, e2, e3, e4, e5, e6, e7, e8⟩ := hagree c
      unfold Cert.MixOutReferenceIdeal.Value.res_main_v54
      pointwise [mixed, normAt, factor, gated, gelu, heads, rowOf]
      simp only [e0, e1, e2, e3, e4, e5, e6, e7, e8]
    · rw [final_normed m c]
      funext i
      obtain ⟨e0, e1, e2, e3, e4, e5, e6, e7, e8⟩ := hagree c
      unfold Cert.MixOutReferenceIdeal.Value.res_main_v67
      pointwise [normedRows, after, normAt, factor, gated, gelu, heads, rowOf]
      simp only [e0, e1, e2, e3, e4, e5, e6, e7, e8]

end Cert.Proof.MixOut
-- ==== Proof.DownLoss.lean ====
module

public import proofs.«01_k».proof.Defs
public import proofs.«01_k».proof.Proof.Products
public import proofs.«01_k».proof.Proof.Gen.DownLoss
public import proofs.«01_k».proof.Proof.Gen.DownLossIdeal.Value
public import proofs.«01_k».proof.Proof.Gen.DownLossReferenceIdeal.Run

@[expose] public section

set_option maxRecDepth 16384

noncomputable section

namespace Cert.Proof.DownLoss

open Cert.DownLossIdeal Cert.DownLossIdeal.Gen
open Idealize.ShloMosaic Idealize.ShloMosaic.TcCoe Idealize.SL.Sem
open Idealize.ShloMosaic.Pipeline (Dat)

/-! # The feed-forward's second product, the layer's result and the loss -/

/-- The block of each array at a grid point: four row tiles; the weight and the loss are whole. -/
theorem index : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- The layer's result minus the target, at an entry. -/
def diff (a : FVec Ideal S2048x2816 .bf16) (w : FVec Ideal S2816x1024 .bf16) (x t : FVec Ideal S2048x1024 .f32) (s : Fin 2048) (j : Fin 1024) : EReal :=
  x (ix2 s j) + (∑ k : Fin 2816, a (ix2 s k) * w (ix2 k j)) - t (ix2 s j)

/-- The loss's gradient in the layer's result: the difference over the row's length. -/
def gradient (a : FVec Ideal S2048x2816 .bf16) (w : FVec Ideal S2816x1024 .bf16) (x t : FVec Ideal S2048x1024 .f32) : FVec Ideal S2048x1024 .f32 :=
  fun i => diff a w x t (i 0) (i 1) * Ideal.ofBits .f32 0x3A800000#32

/-- The loss: half the sum over the rows of the mean square difference, in every element of a block. -/
def loss (a : FVec Ideal S2048x2816 .bf16) (w : FVec Ideal S2816x1024 .bf16) (x t : FVec Ideal S2048x1024 .f32) : FVec Ideal S8x128 .f32 :=
  fun _ => Ideal.ofBits .f32 0x3F000000#32 * ∑ s : Fin 2048, ∑ j : Fin 1024, diff a w x t s j * (diff a w x t s j * Ideal.ofBits .f32 0x3A800000#32)

/-! ## The two programs' constants -/

theorem half : Ideal.ofBits .f32 0x3F000000#32 = ((1 / 2 : ℝ) : EReal) := by
  simp [Ideal.ofBits, Ideal.ieee, -EReal.coe_mul, -one_div]; norm_num

theorem two : Ideal.ofBits .f32 0x40000000#32 = ((2 : ℝ) : EReal) := by
  simp [Ideal.ofBits, Ideal.ieee, -EReal.coe_mul, -one_div]; norm_num

theorem width : Ideal.ofBits .f32 0x44800000#32 = ((1024 : ℝ) : EReal) := by
  simp [Ideal.ofBits, Ideal.ieee, -EReal.coe_mul, -one_div]; norm_num

theorem over_width : Ideal.ofBits .f32 0x3A800000#32 = ((1 / 1024 : ℝ) : EReal) := by
  simp [Ideal.ofBits, Ideal.ieee, -EReal.coe_mul, -one_div]; norm_num

/-- A quotient by the row's length is a product with its inverse. -/
theorem div_width (d : EReal) : Ideal.div d (Ideal.ofBits .f32 0x44800000#32) = d * Ideal.ofBits .f32 0x3A800000#32 := by
  rw [width, over_width, Ideal.div_coe (by norm_num)]

/-- The derivative of half a mean square: half over the length, times twice the difference. -/
theorem half_twice (d : EReal) :
    Ideal.div (Ideal.ofBits .f32 0x3F000000#32) (Ideal.ofBits .f32 0x44800000#32) * (Ideal.ofBits .f32 0x40000000#32 * d)
      = d * Ideal.ofBits .f32 0x3A800000#32 := by
  rw [div_width, half, two, over_width, ← mul_assoc, mul_comm d, ← EReal.coe_mul, ← EReal.coe_mul]
  norm_num

/-- A positive real factor moves out of a sum, whatever the summands. -/
theorem mul_sum {n : ℕ} {c : ℝ} (hc : 0 ≤ c) (f : Fin n → EReal) : ∑ k, (c : EReal) * f k = c * ∑ k, f k := by
  induction (Finset.univ : Finset (Fin n)) using Finset.induction_on with
  | empty => simp
  | insert k s hk ih => rw [Finset.sum_insert hk, Finset.sum_insert hk, ih,
    EReal.left_distrib_of_nonneg_of_ne_top (EReal.coe_nonneg.mpr hc) (EReal.coe_ne_top c)]

/-- The mean of a row's squares, the length divided into each square. -/
theorem mean_squares {n : ℕ} (d : Fin n → EReal) :
    Ideal.div (∑ k, d k * d k) (Ideal.ofBits .f32 0x44800000#32) = ∑ k, d k * (d k * Ideal.ofBits .f32 0x3A800000#32) := by
  rw [div_width, over_width, mul_comm, ← mul_sum (by norm_num)]
  exact Finset.sum_congr rfl fun k _ => by rw [mul_left_comm, mul_comm (d k) ((1 / 1024 : ℝ) : EReal)]

/-! ## The kernel's results -/

/-- A grid point's block of the gradient. -/
theorem gradient_at (m : (ℓ : Loc nD τ sig) → Buf (Elt Ideal) ℓ) (c : Dev nD) (t : Fin cfg0.N) (y : S512x1024.Idx) (i : S2048x1024.Idx)
    (h0 : (i 0).val = t.val * 512 + (y 0).val) (h1 : (i 1).val = (y 1).val) :
    k0_pay3 (iblk m c 2 t) (iblk m c 0 t) (iblk m c 1 t) (iblk m c 3 t) y
      = gradient (m ((c : Thread nD τ).loc main_arg0)) (m ((c : Thread nD τ).loc main_arg1)) (m ((c : Thread nD τ).loc main_arg2)) (m ((c : Thread nD τ).loc main_arg3)) i := by
  pointwise [k0_pay3, k0_pay2, gradient, diff]
  blk_point [iblk, V, (index t).1, (index t).2.1, (index t).2.2.1, (index t).2.2.2.1]

/-- The first result array is the gradient. -/
theorem final_dy (m : (ℓ : Loc nD τ sig) → Buf (Elt Ideal) ℓ) (c : Dev nD) :
    (dats m 0 c).arrAt 4 cfg0.N = gradient (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 4 = 0
  · rw [outsAt0_A m c t h]
    frame_out
    exact gradient_at m c t y _ (by blk_simp [(index t).2.2.2.2.1]) (by blk_simp [(index t).2.2.2.2.1])
  · rw [outsAt0_B m c t h]
    frame_out
    exact gradient_at m c t y _ (by blk_simp [(index t).2.2.2.2.1]) (by blk_simp [(index t).2.2.2.2.1])

/-- So is the second, the gradient once more. -/
theorem final_dyb (m : (ℓ : Loc nD τ sig) → Buf (Elt Ideal) ℓ) (c : Dev nD) :
    (dats m 0 c).arrAt 5 cfg0.N = (gradient (m ((c : Thread nD τ).loc main_arg0)) (m ((c : Thread nD τ).loc main_arg1)) (m ((c : Thread nD τ).loc main_arg2)) (m ((c : Thread nD τ).loc main_arg3)) : S2048x1024.Idx → EReal) := by
  refine (dats m 0 c).arrAt_eq_of_covers 5 _ (by decide +kernel) fun t _ y => ?_
  blk_simp
  rw [after0_5]
  by_cases h : t.val % 4 = 0
  · rw [outsAt0_A m c t h]
    frame_out
    pointwise [k0_pay4]
    exact gradient_at m c t y _ (by blk_simp [(index t).2.2.2.2.2.1]) (by blk_simp [(index t).2.2.2.2.2.1])
  · rw [outsAt0_B m c t h]
    frame_out
    pointwise [k0_pay4]
    exact gradient_at m c t y _ (by blk_simp [(index t).2.2.2.2.2.1]) (by blk_simp [(index t).2.2.2.2.2.1])

/-- A step adds half the sum of its block's differences times their gradients. -/
theorem add_at (x : Vec Ideal S512x1024 .f32) (a : Vec Ideal S512x2816 .bf16) (w : Vec Ideal S2816x1024 .bf16) (t : Vec Ideal S512x1024 .f32) (o : Vec Ideal S8x128 .f32) (j : S8x128.Idx) :
    k0_pay5 x a w t o j = o j + Ideal.ofBits .f32 0x3F000000#32 * ∑ r : Fin 512, ∑ l : Fin 1024, k0_pay2 x a w t (ix2 r l) * k0_pay3 x a w t (ix2 r l) := by
  pointwise [k0_pay5]

/-- The third result array holds the loss: the four steps add their rows' parts into one block. -/
theorem final_loss (m : (ℓ : Loc nD τ sig) → Buf (Elt Ideal) ℓ) (c : Dev nD) :
    (dats m 0 c).arrAt 6 cfg0.N = loss (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 4 (fun _ => 0) _
    (fun t h j => by
      show (outsAt0 m c t.val t.isLt).2.2 j = _
      rw [outsAt0_A m c t h]; frame_out; rw [add_at]; pointwise [k0_pay1]; rfl)
    (fun t h j => by
      show (outsAt0 m c t.val t.isLt).2.2 j = _
      rw [outsAt0_B m c t h]; frame_out; rw [add_at]) t ((flush0_6 t).mp hf) y, zero_add]
  unfold loss
  rw [half, mul_sum (by norm_num)]
  refine congrArg _ (Fin.sum_mul_add_congr fun s r hl => Finset.sum_congr rfl fun j _ => ?_)
  have ht : t.val < 4 := t.isLt
  rw [gradient_at m c _ (ix2 r j) (ix2 ⟨s.val * 512 + r.val, hl⟩ j) (by show _ = _; simp; omega) rfl]
  unfold gradient
  refine congrArg (· * _) ?_
  pointwise [k0_pay2, diff]
  blk_point [iblk, V, (index _).1, (index _).2.1, (index _).2.2.1, (index _).2.2.2.1]

/-- The program as written has the idealized one's text. -/
theorem defs_eq {F : FTy → Type} [FloatOps F] : Cert.DownLoss.defs (F := F) = Cert.DownLossIdeal.defs (F := F) := by
  refine congrArg (Pipeline.defs Cert.DownLoss.pcfgs) (congrArg Defs.onTc (funext fun l => funext fun a => ?_))
  obtain ⟨n, hn⟩ := l
  match n, hn with
  | 0, _ => rfl

/-- The program as written runs. -/
theorem frame_kernel : Cert.quiescent_DownLoss := fun m ρ _ => by
  rw [defs_eq, show Cert.DownLoss.main (F := Bits) = Cert.DownLossIdeal.main (F := Bits) from rfl]
  exact frame (F := Bits) m ρ

/-- The idealized program runs. -/
theorem frame_ideal : Cert.quiescent_DownLossIdeal := fun m ρ _ => frame (F := Ideal) m ρ

/-- The reference runs. -/
theorem frame_reference : Cert.quiescent_DownLossReferenceIdeal := fun m ρ _ =>
  (θ_run Cert.DownLossReferenceIdeal.defs _ _).mono (fun r h => ⟨fun c => (h c).2.2.2, sem_eq_zero_of_no_sems (by decide) r.2⟩)
    (Cert.DownLossReferenceIdeal.Value.run (F := Ideal) m ρ)

/-- The two programs' results are equal, entry by entry. -/
theorem algebraic : Cert.algebraic_DownLossIdeal_DownLossReferenceIdeal := by
  pair_intro
  · run_from Cert.DownLossIdeal.Value.run_blocks m g
  · run_from Cert.DownLossReferenceIdeal.Value.run m' g'
    · rw [final_dy m c]
      funext i
      pointwise [gradient, diff]
      exact half_twice _
    · rw [final_dyb m c]
      funext i
      pointwise [gradient, diff]
      exact half_twice _
    · rw [final_loss m c]
      funext i
      pointwise [loss, diff]
      exact congrArg _ (Finset.sum_congr rfl fun s _ => mean_squares _)

end Cert.Proof.DownLoss
-- ==== Proof.Adam.lean ====
module

public import proofs.«01_k».proof.Proof.Products

@[expose] public section

noncomputable section

namespace Cert.Proof.Adam

open Idealize.ShloMosaic

/-! # One AdamW step, entry by entry

The constants are named by their float words. -/

/-- The new first moment of a gradient `g` and an old moment `m`: 0.9 of the old one and 0.1 of the gradient. -/
def first (g m : EReal) : EReal :=
  Ideal.ofBits .f32 0x3F666666#32 * m + Ideal.ofBits .f32 0x3DCCCCCD#32 * g

/-- The new second moment: 0.999 of the old one and 0.001 of the gradient's square. -/
def second (g v : EReal) : EReal :=
  Ideal.ofBits .f32 0x3F7FBE77#32 * v + Ideal.ofBits .f32 0x3A83126F#32 * (g * g)

/-- The change of the weight `w`: both moments divided by their corrections at the tenth step, the first over the root of
the second plus 1e-8, with 0.01 of the weight added, times −0.001. -/
def delta (w g m v : EReal) : EReal :=
  Ideal.ofBits .f32 0xBA83126F#32 *
    (Ideal.div (Ideal.div (first g m) (Ideal.ofBits .f32 0x3F26BD02#32))
      (Ideal.sqrt (Ideal.div (second g v) (Ideal.ofBits .f32 0x3C231ACC#32)) + Ideal.ofBits .f32 0x322BCC77#32)
      + Ideal.ofBits .f32 0x3C23D70A#32 * w)

variable {S : Shape}

/-- The changes of an array of weights. -/
def deltas (w g m v : FVec Ideal S .f32) : FVec Ideal S .f32 := fun i => delta (w i) (g i) (m i) (v i)

/-- The new first moments of an array. -/
def firsts (g m : FVec Ideal S .f32) : FVec Ideal S .f32 := fun i => first (g i) (m i)

/-- The new second moments of an array. -/
def seconds (g v : FVec Ideal S .f32) : FVec Ideal S .f32 := fun i => second (g i) (v i)

end Cert.Proof.Adam
-- ==== Proof.AdamIn.lean ====
module

public import proofs.«01_k».proof.Defs
public import proofs.«01_k».proof.Proof.Adam
public import proofs.«01_k».proof.Proof.Gen.AdamIn
public import proofs.«01_k».proof.Proof.Gen.AdamInIdeal.Value
public import proofs.«01_k».proof.Proof.Gen.AdamInReferenceIdeal.Run

@[expose] public section

set_option maxRecDepth 16384

noncomputable section

namespace Cert.Proof.AdamIn

open Cert.AdamInIdeal Cert.AdamInIdeal.Gen Cert.Proof.Adam
open Idealize.ShloMosaic Idealize.ShloMosaic.TcCoe Idealize.SL.Sem
open Idealize.ShloMosaic.Pipeline (Dat)

/-! # The optimiser's step of the input projection's weight -/

/-- The block of every array at a grid point: the row tile of the point's number. -/
theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The first result array holds the changes of the weights. -/
theorem final_delta (m : (ℓ : Loc nD τ sig) → Buf (Elt Ideal) ℓ) (c : Dev nD) :
    (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  frame_out
  pointwise [k0_pay1, k0_pay2, k0_pay3, deltas, delta, first, second]
  blk_point [iblk, V, (index t).1, (index t).2.1, (index t).2.2.1, (index t).2.2.2.1, (index t).2.2.2.2.1]

/-- The second holds the new first moments. -/
theorem final_first (m : (ℓ : Loc nD τ sig) → Buf (Elt Ideal) ℓ) (c : Dev nD) :
    (dats m 0 c).arrAt 5 cfg0.N = firsts (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  pointwise [k0_pay1, firsts, first]
  blk_point [iblk, V, (index t).2.1, (index t).2.2.1, (index t).2.2.2.2.2.1]

/-- The third holds the new second moments. -/
theorem final_second (m : (ℓ : Loc nD τ sig) → Buf (Elt Ideal) ℓ) (c : Dev nD) :
    (dats m 0 c).arrAt 6 cfg0.N = seconds (m ((c : Thread nD τ).loc main_arg1)) (m ((c : Thread nD τ).loc main_arg3)) := by
  refine (dats m 0 c).arrAt_eq_of_covers 6 _ (by decide +kernel) fun t _ y => ?_
  blk_simp
  rw [after0_6]
  unfold out0_6
  frame_out
  pointwise [k0_pay2, seconds, second]
  blk_point [iblk, V, (index t).2.1, (index t).2.2.2.1, (index t).2.2.2.2.2.2]

/-- The program as written has the idealized one's text. -/
theorem defs_eq {F : FTy → Type} [FloatOps F] : Cert.AdamIn.defs (F := F) = Cert.AdamInIdeal.defs (F := F) := by
  refine congrArg (Pipeline.defs Cert.AdamIn.pcfgs) (congrArg Defs.onTc (funext fun l => funext fun a => ?_))
  obtain ⟨n, hn⟩ := l
  match n, hn with
  | 0, _ => rfl

/-- The program as written runs. -/
theorem frame_kernel : Cert.quiescent_AdamIn := fun m ρ _ => by
  rw [defs_eq, show Cert.AdamIn.main (F := Bits) = Cert.AdamInIdeal.main (F := Bits) from rfl]
  exact frame (F := Bits) m ρ

/-- The idealized program runs. -/
theorem frame_ideal : Cert.quiescent_AdamInIdeal := fun m ρ _ => frame (F := Ideal) m ρ

/-- The reference runs. -/
theorem frame_reference : Cert.quiescent_AdamInReferenceIdeal := fun m ρ _ =>
  (θ_run Cert.AdamInReferenceIdeal.defs _ _).mono (fun r h => ⟨fun c => (h c).2.2.2, sem_eq_zero_of_no_sems (by decide) r.2⟩)
    (Cert.AdamInReferenceIdeal.Value.run (F := Ideal) m ρ)

/-- The two programs' results are equal, entry by entry. -/
theorem algebraic : Cert.algebraic_AdamInIdeal_AdamInReferenceIdeal := by
  pair_intro
  · run_from Cert.AdamInIdeal.Value.run_blocks m g
  · run_from Cert.AdamInReferenceIdeal.Value.run m' g'
    · rw [final_delta m c]
      funext i
      pointwise [deltas, delta, first, second]
    · rw [final_first m c]
      funext i
      pointwise [firsts, first]
    · rw [final_second m c]
      funext i
      pointwise [seconds, second]

end Cert.Proof.AdamIn
-- ==== Proof.AdamGlu.lean ====
module

public import proofs.«01_k».proof.Defs
public import proofs.«01_k».proof.Proof.Adam
public import proofs.«01_k».proof.Proof.Gen.AdamGlu
public import proofs.«01_k».proof.Proof.Gen.AdamGluIdeal.Value
public import proofs.«01_k».proof.Proof.Gen.AdamGluReferenceIdeal.Run

@[expose] public section

set_option maxRecDepth 16384

noncomputable section

namespace Cert.Proof.AdamGlu

open Cert.AdamGluIdeal Cert.AdamGluIdeal.Gen Cert.Proof.Adam
open Idealize.ShloMosaic Idealize.ShloMosaic.TcCoe Idealize.SL.Sem
open Idealize.ShloMosaic.Pipeline (Dat)

/-! # The optimiser's step of the gated unit's weight -/

/-- The block of every array at a grid point: the row tile of the point's number. -/
theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The first result array holds the changes of the weights. -/
theorem final_delta (m : (ℓ : Loc nD τ sig) → Buf (Elt Ideal) ℓ) (c : Dev nD) :
    (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  frame_out
  pointwise [k0_pay1, k0_pay2, k0_pay3, deltas, delta, first, second]
  blk_point [iblk, V, (index t).1, (index t).2.1, (index t).2.2.1, (index t).2.2.2.1, (index t).2.2.2.2.1]

/-- The second holds the new first moments. -/
theorem final_first (m : (ℓ : Loc nD τ sig) → Buf (Elt Ideal) ℓ) (c : Dev nD) :
    (dats m 0 c).arrAt 5 cfg0.N = firsts (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  pointwise [k0_pay1, firsts, first]
  blk_point [iblk, V, (index t).2.1, (index t).2.2.1, (index t).2.2.2.2.2.1]

/-- The third holds the new second moments. -/
theorem final_second (m : (ℓ : Loc nD τ sig) → Buf (Elt Ideal) ℓ) (c : Dev nD) :
    (dats m 0 c).arrAt 6 cfg0.N = seconds (m ((c : Thread nD τ).loc main_arg1)) (m ((c : Thread nD τ).loc main_arg3)) := by
  refine (dats m 0 c).arrAt_eq_of_covers 6 _ (by decide +kernel) fun t _ y => ?_
  blk_simp
  rw [after0_6]
  unfold out0_6
  frame_out
  pointwise [k0_pay2, seconds, second]
  blk_point [iblk, V, (index t).2.1, (index t).2.2.2.1, (index t).2.2.2.2.2.2]

/-- The program as written has the idealized one's text. -/
theorem defs_eq {F : FTy → Type} [FloatOps F] : Cert.AdamGlu.defs (F := F) = Cert.AdamGluIdeal.defs (F := F) := by
  refine congrArg (Pipeline.defs Cert.AdamGlu.pcfgs) (congrArg Defs.onTc (funext fun l => funext fun a => ?_))
  obtain ⟨n, hn⟩ := l
  match n, hn with
  | 0, _ => rfl

/-- The program as written runs. -/
theorem frame_kernel : Cert.quiescent_AdamGlu := fun m ρ _ => by
  rw [defs_eq, show Cert.AdamGlu.main (F := Bits) = Cert.AdamGluIdeal.main (F := Bits) from rfl]
  exact frame (F := Bits) m ρ

/-- The idealized program runs. -/
theorem frame_ideal : Cert.quiescent_AdamGluIdeal := fun m ρ _ => frame (F := Ideal) m ρ

/-- The reference runs. -/
theorem frame_reference : Cert.quiescent_AdamGluReferenceIdeal := fun m ρ _ =>
  (θ_run Cert.AdamGluReferenceIdeal.defs _ _).mono (fun r h => ⟨fun c => (h c).2.2.2, sem_eq_zero_of_no_sems (by decide) r.2⟩)
    (Cert.AdamGluReferenceIdeal.Value.run (F := Ideal) m ρ)

/-- The two programs' results are equal, entry by entry. -/
theorem algebraic : Cert.algebraic_AdamGluIdeal_AdamGluReferenceIdeal := by
  pair_intro
  · run_from Cert.AdamGluIdeal.Value.run_blocks m g
  · run_from Cert.AdamGluReferenceIdeal.Value.run m' g'
    · rw [final_delta m c]
      funext i
      pointwise [deltas, delta, first, second]
    · rw [final_first m c]
      funext i
      pointwise [firsts, first]
    · rw [final_second m c]
      funext i
      pointwise [seconds, second]

end Cert.Proof.AdamGlu
-- ==== Proof.AdamOut.lean ====
module

public import proofs.«01_k».proof.Defs
public import proofs.«01_k».proof.Proof.Adam
public import proofs.«01_k».proof.Proof.Gen.AdamOut
public import proofs.«01_k».proof.Proof.Gen.AdamOutIdeal.Value
public import proofs.«01_k».proof.Proof.Gen.AdamOutReferenceIdeal.Run

@[expose] public section

set_option maxRecDepth 16384

noncomputable section

namespace Cert.Proof.AdamOut

open Cert.AdamOutIdeal Cert.AdamOutIdeal.Gen Cert.Proof.Adam
open Idealize.ShloMosaic Idealize.ShloMosaic.TcCoe Idealize.SL.Sem
open Idealize.ShloMosaic.Pipeline (Dat)

/-! # The optimiser's step of the mixers' output weight -/

/-- The block of every array at a grid point: the row tile of the point's number. -/
theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The first result array holds the changes of the weights. -/
theorem final_delta (m : (ℓ : Loc nD τ sig) → Buf (Elt Ideal) ℓ) (c : Dev nD) :
    (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  frame_out
  pointwise [k0_pay1, k0_pay2, k0_pay3, deltas, delta, first, second]
  blk_point [iblk, V, (index t).1, (index t).2.1, (index t).2.2.1, (index t).2.2.2.1, (index t).2.2.2.2.1]

/-- The second holds the new first moments. -/
theorem final_first (m : (ℓ : Loc nD τ sig) → Buf (Elt Ideal) ℓ) (c : Dev nD) :
    (dats m 0 c).arrAt 5 cfg0.N = firsts (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  pointwise [k0_pay1, firsts, first]
  blk_point [iblk, V, (index t).2.1, (index t).2.2.1, (index t).2.2.2.2.2.1]

/-- The third holds the new second moments. -/
theorem final_second (m : (ℓ : Loc nD τ sig) → Buf (Elt Ideal) ℓ) (c : Dev nD) :
    (dats m 0 c).arrAt 6 cfg0.N = seconds (m ((c : Thread nD τ).loc main_arg1)) (m ((c : Thread nD τ).loc main_arg3)) := by
  refine (dats m 0 c).arrAt_eq_of_covers 6 _ (by decide +kernel) fun t _ y => ?_
  blk_simp
  rw [after0_6]
  unfold out0_6
  frame_out
  pointwise [k0_pay2, seconds, second]
  blk_point [iblk, V, (index t).2.1, (index t).2.2.2.1, (index t).2.2.2.2.2.2]

/-- The program as written has the idealized one's text. -/
theorem defs_eq {F : FTy → Type} [FloatOps F] : Cert.AdamOut.defs (F := F) = Cert.AdamOutIdeal.defs (F := F) := by
  refine congrArg (Pipeline.defs Cert.AdamOut.pcfgs) (congrArg Defs.onTc (funext fun l => funext fun a => ?_))
  obtain ⟨n, hn⟩ := l
  match n, hn with
  | 0, _ => rfl

/-- The program as written runs. -/
theorem frame_kernel : Cert.quiescent_AdamOut := fun m ρ _ => by
  rw [defs_eq, show Cert.AdamOut.main (F := Bits) = Cert.AdamOutIdeal.main (F := Bits) from rfl]
  exact frame (F := Bits) m ρ

/-- The idealized program runs. -/
theorem frame_ideal : Cert.quiescent_AdamOutIdeal := fun m ρ _ => frame (F := Ideal) m ρ

/-- The reference runs. -/
theorem frame_reference : Cert.quiescent_AdamOutReferenceIdeal := fun m ρ _ =>
  (θ_run Cert.AdamOutReferenceIdeal.defs _ _).mono (fun r h => ⟨fun c => (h c).2.2.2, sem_eq_zero_of_no_sems (by decide) r.2⟩)
    (Cert.AdamOutReferenceIdeal.Value.run (F := Ideal) m ρ)

/-- The two programs' results are equal, entry by entry. -/
theorem algebraic : Cert.algebraic_AdamOutIdeal_AdamOutReferenceIdeal := by
  pair_intro
  · run_from Cert.AdamOutIdeal.Value.run_blocks m g
  · run_from Cert.AdamOutReferenceIdeal.Value.run m' g'
    · rw [final_delta m c]
      funext i
      pointwise [deltas, delta, first, second]
    · rw [final_first m c]
      funext i
      pointwise [firsts, first]
    · rw [final_second m c]
      funext i
      pointwise [seconds, second]

end Cert.Proof.AdamOut
-- ==== Proof.AdamUp.lean ====
module

public import proofs.«01_k».proof.Defs
public import proofs.«01_k».proof.Proof.Adam
public import proofs.«01_k».proof.Proof.Gen.AdamUp
public import proofs.«01_k».proof.Proof.Gen.AdamUpIdeal.Value
public import proofs.«01_k».proof.Proof.Gen.AdamUpReferenceIdeal.Run

@[expose] public section

set_option maxRecDepth 16384

noncomputable section

namespace Cert.Proof.AdamUp

open Cert.AdamUpIdeal Cert.AdamUpIdeal.Gen Cert.Proof.Adam
open Idealize.ShloMosaic Idealize.ShloMosaic.TcCoe Idealize.SL.Sem
open Idealize.ShloMosaic.Pipeline (Dat)

/-! # The optimiser's step of the feed-forward's first weight -/

/-- The block of every array at a grid point: the row tile of the point's number. -/
theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The first result array holds the changes of the weights. -/
theorem final_delta (m : (ℓ : Loc nD τ sig) → Buf (Elt Ideal) ℓ) (c : Dev nD) :
    (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  frame_out
  pointwise [k0_pay1, k0_pay2, k0_pay3, deltas, delta, first, second]
  blk_point [iblk, V, (index t).1, (index t).2.1, (index t).2.2.1, (index t).2.2.2.1, (index t).2.2.2.2.1]

/-- The second holds the new first moments. -/
theorem final_first (m : (ℓ : Loc nD τ sig) → Buf (Elt Ideal) ℓ) (c : Dev nD) :
    (dats m 0 c).arrAt 5 cfg0.N = firsts (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  pointwise [k0_pay1, firsts, first]
  blk_point [iblk, V, (index t).2.1, (index t).2.2.1, (index t).2.2.2.2.2.1]

/-- The third holds the new second moments. -/
theorem final_second (m : (ℓ : Loc nD τ sig) → Buf (Elt Ideal) ℓ) (c : Dev nD) :
    (dats m 0 c).arrAt 6 cfg0.N = seconds (m ((c : Thread nD τ).loc main_arg1)) (m ((c : Thread nD τ).loc main_arg3)) := by
  refine (dats m 0 c).arrAt_eq_of_covers 6 _ (by decide +kernel) fun t _ y => ?_
  blk_simp
  rw [after0_6]
  unfold out0_6
  frame_out
  pointwise [k0_pay2, seconds, second]
  blk_point [iblk, V, (index t).2.1, (index t).2.2.2.1, (index t).2.2.2.2.2.2]

/-- The program as written has the idealized one's text. -/
theorem defs_eq {F : FTy → Type} [FloatOps F] : Cert.AdamUp.defs (F := F) = Cert.AdamUpIdeal.defs (F := F) := by
  refine congrArg (Pipeline.defs Cert.AdamUp.pcfgs) (congrArg Defs.onTc (funext fun l => funext fun a => ?_))
  obtain ⟨n, hn⟩ := l
  match n, hn with
  | 0, _ => rfl

/-- The program as written runs. -/
theorem frame_kernel : Cert.quiescent_AdamUp := fun m ρ _ => by
  rw [defs_eq, show Cert.AdamUp.main (F := Bits) = Cert.AdamUpIdeal.main (F := Bits) from rfl]
  exact frame (F := Bits) m ρ

/-- The idealized program runs. -/
theorem frame_ideal : Cert.quiescent_AdamUpIdeal := fun m ρ _ => frame (F := Ideal) m ρ

/-- The reference runs. -/
theorem frame_reference : Cert.quiescent_AdamUpReferenceIdeal := fun m ρ _ =>
  (θ_run Cert.AdamUpReferenceIdeal.defs _ _).mono (fun r h => ⟨fun c => (h c).2.2.2, sem_eq_zero_of_no_sems (by decide) r.2⟩)
    (Cert.AdamUpReferenceIdeal.Value.run (F := Ideal) m ρ)

/-- The two programs' results are equal, entry by entry. -/
theorem algebraic : Cert.algebraic_AdamUpIdeal_AdamUpReferenceIdeal := by
  pair_intro
  · run_from Cert.AdamUpIdeal.Value.run_blocks m g
  · run_from Cert.AdamUpReferenceIdeal.Value.run m' g'
    · rw [final_delta m c]
      funext i
      pointwise [deltas, delta, first, second]
    · rw [final_first m c]
      funext i
      pointwise [firsts, first]
    · rw [final_second m c]
      funext i
      pointwise [seconds, second]

end Cert.Proof.AdamUp
-- ==== Proof.AdamDown.lean ====
module

public import proofs.«01_k».proof.Defs
public import proofs.«01_k».proof.Proof.Adam
public import proofs.«01_k».proof.Proof.Gen.AdamDown
public import proofs.«01_k».proof.Proof.Gen.AdamDownIdeal.Value
public import proofs.«01_k».proof.Proof.Gen.AdamDownReferenceIdeal.Run

@[expose] public section

set_option maxRecDepth 16384

noncomputable section

namespace Cert.Proof.AdamDown

open Cert.AdamDownIdeal Cert.AdamDownIdeal.Gen Cert.Proof.Adam
open Idealize.ShloMosaic Idealize.ShloMosaic.TcCoe Idealize.SL.Sem
open Idealize.ShloMosaic.Pipeline (Dat)

/-! # The optimiser's step of the feed-forward's second weight -/

/-- The block of every array at a grid point: the row tile of the point's number. -/
theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The first result array holds the changes of the weights. -/
theorem final_delta (m : (ℓ : Loc nD τ sig) → Buf (Elt Ideal) ℓ) (c : Dev nD) :
    (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  frame_out
  pointwise [k0_pay1, k0_pay2, k0_pay3, deltas, delta, first, second]
  blk_point [iblk, V, (index t).1, (index t).2.1, (index t).2.2.1, (index t).2.2.2.1, (index t).2.2.2.2.1]

/-- The second holds the new first moments. -/
theorem final_first (m : (ℓ : Loc nD τ sig) → Buf (Elt Ideal) ℓ) (c : Dev nD) :
    (dats m 0 c).arrAt 5 cfg0.N = firsts (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  pointwise [k0_pay1, firsts, first]
  blk_point [iblk, V, (index t).2.1, (index t).2.2.1, (index t).2.2.2.2.2.1]

/-- The third holds the new second moments. -/
theorem final_second (m : (ℓ : Loc nD τ sig) → Buf (Elt Ideal) ℓ) (c : Dev nD) :
    (dats m 0 c).arrAt 6 cfg0.N = seconds (m ((c : Thread nD τ).loc main_arg1)) (m ((c : Thread nD τ).loc main_arg3)) := by
  refine (dats m 0 c).arrAt_eq_of_covers 6 _ (by decide +kernel) fun t _ y => ?_
  blk_simp
  rw [after0_6]
  unfold out0_6
  frame_out
  pointwise [k0_pay2, seconds, second]
  blk_point [iblk, V, (index t).2.1, (index t).2.2.2.1, (index t).2.2.2.2.2.2]

/-- The program as written has the idealized one's text. -/
theorem defs_eq {F : FTy → Type} [FloatOps F] : Cert.AdamDown.defs (F := F) = Cert.AdamDownIdeal.defs (F := F) := by
  refine congrArg (Pipeline.defs Cert.AdamDown.pcfgs) (congrArg Defs.onTc (funext fun l => funext fun a => ?_))
  obtain ⟨n, hn⟩ := l
  match n, hn with
  | 0, _ => rfl

/-- The program as written runs. -/
theorem frame_kernel : Cert.quiescent_AdamDown := fun m ρ _ => by
  rw [defs_eq, show Cert.AdamDown.main (F := Bits) = Cert.AdamDownIdeal.main (F := Bits) from rfl]
  exact frame (F := Bits) m ρ

/-- The idealized program runs. -/
theorem frame_ideal : Cert.quiescent_AdamDownIdeal := fun m ρ _ => frame (F := Ideal) m ρ

/-- The reference runs. -/
theorem frame_reference : Cert.quiescent_AdamDownReferenceIdeal := fun m ρ _ =>
  (θ_run Cert.AdamDownReferenceIdeal.defs _ _).mono (fun r h => ⟨fun c => (h c).2.2.2, sem_eq_zero_of_no_sems (by decide) r.2⟩)
    (Cert.AdamDownReferenceIdeal.Value.run (F := Ideal) m ρ)

/-- The two programs' results are equal, entry by entry. -/
theorem algebraic : Cert.algebraic_AdamDownIdeal_AdamDownReferenceIdeal := by
  pair_intro
  · run_from Cert.AdamDownIdeal.Value.run_blocks m g
  · run_from Cert.AdamDownReferenceIdeal.Value.run m' g'
    · rw [final_delta m c]
      funext i
      pointwise [deltas, delta, first, second]
    · rw [final_first m c]
      funext i
      pointwise [firsts, first]
    · rw [final_second m c]
      funext i
      pointwise [seconds, second]

end Cert.Proof.AdamDown
-- ==== Proof.AdamConv.lean ====
module

public import proofs.«01_k».proof.Defs
public import proofs.«01_k».proof.Proof.Adam
public import proofs.«01_k».proof.Proof.Gen.AdamConv
public import proofs.«01_k».proof.Proof.Gen.AdamConvIdeal.Value
public import proofs.«01_k».proof.Proof.Gen.AdamConvReferenceIdeal.Run

@[expose] public section

set_option maxRecDepth 16384

noncomputable section

namespace Cert.Proof.AdamConv

open Cert.AdamConvIdeal Cert.AdamConvIdeal.Gen Cert.Proof.Adam
open Idealize.ShloMosaic Idealize.ShloMosaic.TcCoe Idealize.SL.Sem
open Idealize.ShloMosaic.Pipeline (Dat)

/-! # The optimiser's step of the convolution's weight -/

/-- The block of every array at a grid point: the row tile of the point's number. -/
theorem index : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The first result array holds the changes of the weights. -/
theorem final_delta (m : (ℓ : Loc nD τ sig) → Buf (Elt Ideal) ℓ) (c : Dev nD) :
    (dats m 0 c).arrAt 4 cfg0.N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold out0_4
  frame_out
  pointwise [k0_pay1, k0_pay2, k0_pay3, deltas, delta, first, second]
  blk_point [iblk, V, (index t).1, (index t).2.1, (index t).2.2.1, (index t).2.2.2.1, (index t).2.2.2.2.1]

/-- The second holds the new first moments. -/
theorem final_first (m : (ℓ : Loc nD τ sig) → Buf (Elt Ideal) ℓ) (c : Dev nD) :
    (dats m 0 c).arrAt 5 cfg0.N = firsts (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  pointwise [k0_pay1, firsts, first]
  blk_point [iblk, V, (index t).2.1, (index t).2.2.1, (index t).2.2.2.2.2.1]

/-- The third holds the new second moments. -/
theorem final_second (m : (ℓ : Loc nD τ sig) → Buf (Elt Ideal) ℓ) (c : Dev nD) :
    (dats m 0 c).arrAt 6 cfg0.N = seconds (m ((c : Thread nD τ).loc main_arg1)) (m ((c : Thread nD τ).loc main_arg3)) := by
  refine (dats m 0 c).arrAt_eq_of_covers 6 _ (by decide +kernel) fun t _ y => ?_
  blk_simp
  rw [after0_6]
  unfold out0_6
  frame_out
  pointwise [k0_pay2, seconds, second]
  blk_point [iblk, V, (index t).2.1, (index t).2.2.2.1, (index t).2.2.2.2.2.2]

/-- The program as written has the idealized one's text. -/
theorem defs_eq {F : FTy → Type} [FloatOps F] : Cert.AdamConv.defs (F := F) = Cert.AdamConvIdeal.defs (F := F) := by
  refine congrArg (Pipeline.defs Cert.AdamConv.pcfgs) (congrArg Defs.onTc (funext fun l => funext fun a => ?_))
  obtain ⟨n, hn⟩ := l
  match n, hn with
  | 0, _ => rfl

/-- The program as written runs. -/
theorem frame_kernel : Cert.quiescent_AdamConv := fun m ρ _ => by
  rw [defs_eq, show Cert.AdamConv.main (F := Bits) = Cert.AdamConvIdeal.main (F := Bits) from rfl]
  exact frame (F := Bits) m ρ

/-- The idealized program runs. -/
theorem frame_ideal : Cert.quiescent_AdamConvIdeal := fun m ρ _ => frame (F := Ideal) m ρ

/-- The reference runs. -/
theorem frame_reference : Cert.quiescent_AdamConvReferenceIdeal := fun m ρ _ =>
  (θ_run Cert.AdamConvReferenceIdeal.defs _ _).mono (fun r h => ⟨fun c => (h c).2.2.2, sem_eq_zero_of_no_sems (by decide) r.2⟩)
    (Cert.AdamConvReferenceIdeal.Value.run (F := Ideal) m ρ)

/-- The two programs' results are equal, entry by entry. -/
theorem algebraic : Cert.algebraic_AdamConvIdeal_AdamConvReferenceIdeal := by
  pair_intro
  · run_from Cert.AdamConvIdeal.Value.run_blocks m g
  · run_from Cert.AdamConvReferenceIdeal.Value.run m' g'
    · rw [final_delta m c]
      funext i
      pointwise [deltas, delta, first, second]
    · rw [final_first m c]
      funext i
      pointwise [firsts, first]
    · rw [final_second m c]
      funext i
      pointwise [seconds, second]

end Cert.Proof.AdamConv
-- ==== Proof.NormGrad.lean ====
module

public import proofs.«01_k».proof.Proof.Norms

@[expose] public section

noncomputable section

namespace Cert.Proof.Norms

open Idealize.ShloMosaic

/-! # The gradient of a row's norm in the row, in the kernel's form and in the reference's -/

/-- The row's length as a real number. -/
theorem row_length : Ideal.ofBits .f32 0x44800000#32 = ((1024 : ℝ) : EReal) := by
  simp [Ideal.ofBits, Ideal.ieee, -EReal.coe_mul, -one_div]; norm_num

/-- Minus one half, as the derivative of the inverse root has it. -/
theorem minus_half : Ideal.ofBits .f32 0xBF000000#32 = ((-(1 / 2) : ℝ) : EReal) := by
  simp [Ideal.ofBits, Ideal.ieee, -EReal.coe_mul, -one_div]; norm_num

/-- The number added to the mean is a positive real. -/
theorem added_pos : ∃ e : ℝ, 0 < e ∧ Ideal.ofBits .f32 0x358637BD#32 = (e : EReal) := by
  refine ⟨_, ?_, by simp [Ideal.ofBits, Ideal.ieee, -EReal.coe_mul, -one_div]; rfl⟩
  norm_num

/-- A square is not negative. -/
theorem square_nonneg (x : EReal) : 0 ≤ x * x := by
  induction x with
  | bot => simp
  | top => simp
  | coe r => rw [← EReal.coe_mul]; exact EReal.coe_nonneg.mpr (mul_self_nonneg r)

/-- The mean of a row's squares plus the added number is infinite or a positive real. -/
theorem mean_cases {n : ℕ} (x : Fin n → EReal) (v : EReal)
    (h : v = Ideal.div (∑ k, x k * x k) (Ideal.ofBits .f32 0x44800000#32) + Ideal.ofBits .f32 0x358637BD#32) :
    v = ⊤ ∨ ∃ r : ℝ, 0 < r ∧ v = (r : EReal) := by
  obtain ⟨e, he, hE⟩ := added_pos
  have h0 : 0 ≤ ∑ k, x k * x k := Finset.sum_nonneg fun k _ => square_nonneg _
  rw [h, row_length, hE, Ideal.div_coe (by norm_num)]
  generalize ∑ k, x k * x k = s at h0
  induction s with
  | bot => simp at h0
  | top =>
    left
    rw [EReal.top_mul_coe_of_pos (by norm_num), EReal.top_add_coe]
  | coe r =>
    right
    have hr : 0 ≤ r := EReal.coe_nonneg.mp h0
    exact ⟨r * (1 / 1024) + e, by positivity, by norm_cast⟩

/-- A quantity taken off is minus its half added twice. -/
theorem neg_eq_twice (p : EReal) {k : ℝ} (hk : 0 < k) : -(p * (k : EReal)) = p * ((-(1 / 2) * k : ℝ) : EReal) + p * ((-(1 / 2) * k : ℝ) : EReal) := by
  have hn : -(1 / 2) * k < 0 := by linarith
  induction p with
  | bot => rw [EReal.bot_mul_coe_of_pos hk, EReal.bot_mul_coe_of_neg hn]; simp
  | top => rw [EReal.top_mul_coe_of_pos hk, EReal.top_mul_coe_of_neg hn]; simp
  | coe r => norm_cast; ring

/-- The derivative of the inverse root: the kernel has its cube, the reference the root over its argument, and half of it twice. -/
theorem through_root (v s x : EReal) (h : v = ⊤ ∨ ∃ r : ℝ, 0 < r ∧ v = (r : EReal)) :
    -(x * (Ideal.rsqrt v * Ideal.rsqrt v * Ideal.rsqrt v) * Ideal.div s (Ideal.ofBits .f32 0x44800000#32))
      = x * Ideal.div (s * (Ideal.ofBits .f32 0xBF000000#32 * Ideal.div (Ideal.rsqrt v) v)) (Ideal.ofBits .f32 0x44800000#32)
        + Ideal.div (s * (Ideal.ofBits .f32 0xBF000000#32 * Ideal.div (Ideal.rsqrt v) v)) (Ideal.ofBits .f32 0x44800000#32) * x := by
  rw [row_length, minus_half, Ideal.div_coe (by norm_num), Ideal.div_coe (by norm_num)]
  rcases h with rfl | ⟨r, hr, rfl⟩
  · have hz : Ideal.rsqrt ⊤ = 0 := rfl
    rw [hz]
    simp [Ideal.div]
  · have hroot : Ideal.rsqrt (r : EReal) = (((√r)⁻¹ : ℝ) : EReal) := by
      rw [Ideal.rsqrt_coe, if_neg (not_lt.mpr hr.le), if_neg hr.ne']
    have hq : 0 < √r := Real.sqrt_pos.mpr hr
    have hk : 0 < (√r)⁻¹ * (√r)⁻¹ * (√r)⁻¹ * (1 / 1024) := by positivity
    have e : (√r)⁻¹ * (1 / r) = (√r)⁻¹ * (√r)⁻¹ * (√r)⁻¹ := by
      nth_rewrite 2 [← Real.mul_self_sqrt hr.le]
      field_simp
    rw [hroot, Ideal.div_coe hr.ne', ← EReal.coe_mul, ← EReal.coe_mul, ← EReal.coe_mul, ← EReal.coe_mul, e]
    generalize (√r)⁻¹ * (√r)⁻¹ * (√r)⁻¹ = a at hk
    have l : x * (a : EReal) * (s * ((1 / 1024 : ℝ) : EReal)) = x * s * ((a * (1 / 1024) : ℝ) : EReal) := by
      rw [EReal.coe_mul, mul_mul_mul_comm]
    have w : x * (s * ((-(1 / 2) * a : ℝ) : EReal) * ((1 / 1024 : ℝ) : EReal)) = x * s * ((-(1 / 2) * (a * (1 / 1024)) : ℝ) : EReal) := by
      rw [mul_assoc s, ← EReal.coe_mul, ← mul_assoc x, mul_assoc (-(1 / 2))]
    rw [mul_comm _ x, l, w]
    exact neg_eq_twice _ hk

variable {p q : ℕ}

/-- The gradient of a row's norm in an entry of the row, the kernel's form: `w` is the gradient of the normed row times the weight. -/
def rowGrad (row w : Fin q → EReal) (j : Fin q) : EReal :=
  factor 0x44800000#32 row * w j - row j * (factor 0x44800000#32 row * factor 0x44800000#32 row * factor 0x44800000#32 row)
    * Ideal.div (∑ k : Fin q, w k * row k) (Ideal.ofBits .f32 0x44800000#32)

/-- The reference's form: through the inverse root, its derivative the root over its argument times minus a half, and through
both factors of the squares. -/
theorem rowGrad_eq (row w : Fin q → EReal) (j : Fin q) (v : EReal)
    (h : v = Ideal.div (∑ k, row k * row k) (Ideal.ofBits .f32 0x44800000#32) + Ideal.ofBits .f32 0x358637BD#32) :
    rowGrad row w j = w j * Ideal.rsqrt v
      + row j * Ideal.div ((∑ k, row k * w k) * (Ideal.ofBits .f32 0xBF000000#32 * Ideal.div (Ideal.rsqrt v) v)) (Ideal.ofBits .f32 0x44800000#32)
      + Ideal.div ((∑ k, row k * w k) * (Ideal.ofBits .f32 0xBF000000#32 * Ideal.div (Ideal.rsqrt v) v)) (Ideal.ofBits .f32 0x44800000#32) * row j := by
  have hf : factor 0x44800000#32 row = Ideal.rsqrt v := by rw [h]; rfl
  rw [add_assoc, ← through_root v _ _ (mean_cases row v h), ← hf, mul_comm (w j), ← sub_eq_add_neg]
  simp only [mul_comm (row _) (w _)]
  rfl

end Cert.Proof.Norms
-- ==== Proof.InNormBwd.lean ====
module

public import proofs.«01_k».proof.Defs
public import proofs.«01_k».proof.Proof.NormGrad
public import proofs.«01_k».proof.Proof.Gen.InNormBwd
public import proofs.«01_k».proof.Proof.Gen.InNormBwdIdeal.Value
public import proofs.«01_k».proof.Proof.Gen.InNormBwdReferenceIdeal.Run

@[expose] public section

set_option maxRecDepth 16384

noncomputable section

namespace Cert.Proof.InNormBwd

open Cert.InNormBwdIdeal Cert.InNormBwdIdeal.Gen Cert.Proof.Norms
open Idealize.ShloMosaic Idealize.ShloMosaic.TcCoe Idealize.SL.Sem
open Idealize.ShloMosaic.Pipeline (Dat)

/-! # The gradient of the first norm, added to that of the layer's other path -/

/-- The block of each array at a grid point: four row tiles; the norm's weight and its gradient are whole. -/
theorem index : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The gradient in the layer's input: the other path's, and the norm's. -/
def gradX (x : FVec Ideal S2048x1024 .f32) (g : FVec Ideal S1x1024 .f32) (dh d : FVec Ideal S2048x1024 .f32) : FVec Ideal S2048x1024 .f32 :=
  fun i => d (ix2 (i 0) (i 1)) + rowGrad (rowOf x (i 0)) (fun k => dh (ix2 (i 0) k) * g (ix2 0 k)) (i 1)

/-- The gradient in the norm's weight: over the rows, the given gradient times the entry over its row's root mean square. -/
def gradG (x dh : FVec Ideal S2048x1024 .f32) : FVec Ideal S1x1024 .f32 :=
  fun i => ∑ s : Fin 2048, dh (ix2 s (i 1)) * x (ix2 s (i 1)) * factor 0x44800000#32 (rowOf x s)

/-- The reference's formula for an entry of the gradient in the input; its sums over one summand come from its arrays of one column. -/
theorem reference_x (x : FVec Ideal S2048x1024 .f32) (g : FVec Ideal S1x1024 .f32) (dh d : FVec Ideal S2048x1024 .f32) (i : S2048x1024.Idx) (v : EReal)
    (h : v = Ideal.div (∑ k : Fin 1024, x (ix2 (i 0) k) * x (ix2 (i 0) k)) (Ideal.ofBits .f32 0x44800000#32) + Ideal.ofBits .f32 0x358637BD#32) :
    d i + (dh i * g (ix2 0 (i 1)) * Ideal.rsqrt v
        + x i * (∑ _ : Fin 1, Ideal.div ((∑ k : Fin 1024, x (ix2 (i 0) k) * (dh (ix2 (i 0) k) * g (ix2 0 k)))
            * (Ideal.ofBits .f32 0xBF000000#32 * Ideal.div (Ideal.rsqrt v) v)) (Ideal.ofBits .f32 0x44800000#32))
        + (∑ _ : Fin 1, Ideal.div ((∑ k : Fin 1024, x (ix2 (i 0) k) * (dh (ix2 (i 0) k) * g (ix2 0 k)))
            * (Ideal.ofBits .f32 0xBF000000#32 * Ideal.div (Ideal.rsqrt v) v)) (Ideal.ofBits .f32 0x44800000#32)) * x i)
      = d i + rowGrad (rowOf x (i 0)) (fun k => dh (ix2 (i 0) k) * g (ix2 0 k)) (i 1) := by
  obtain ⟨a, b, rfl⟩ : ∃ (a : Fin 2048) (b : Fin 1024), i = ix2 a b := ⟨i 0, i 1, by funext d; fin_cases d <;> rfl⟩
  rw [Fin.sum_univ_one]
  exact congrArg (d (ix2 a b) + ·) (rowGrad_eq (rowOf x a) (fun k => dh (ix2 a k) * g (ix2 0 k)) b v h).symm

/-- A grid point's block of the gradient in the input. -/
theorem gradX_at (m : (ℓ : Loc nD τ sig) → Buf (Elt Ideal) ℓ) (c : Dev nD) (t : Fin cfg0.N) (y : S512x1024.Idx) (i : S2048x1024.Idx)
    (h0 : (i 0).val = t.val * 512 + (y 0).val) (h1 : (i 1).val = (y 1).val) :
    k0_pay5 (iblk m c 0 t) (iblk m c 1 t) (iblk m c 2 t) (iblk m c 3 t) y
      = gradX (m ((c : Thread nD τ).loc main_arg0)) (m ((c : Thread nD τ).loc main_arg1)) (m ((c : Thread nD τ).loc main_arg2)) (m ((c : Thread nD τ).loc main_arg3)) i := by
  pointwise [k0_pay5, k0_pay3, gradX, rowGrad, factor, rowOf]
  blk_point [iblk, V, (index t).1, (index t).2.1, (index t).2.2.1, (index t).2.2.2.1]

/-- The first result array is the gradient in the input. -/
theorem final_x (m : (ℓ : Loc nD τ sig) → Buf (Elt Ideal) ℓ) (c : Dev nD) :
    (dats m 0 c).arrAt 4 cfg0.N = gradX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 4 = 0
  · rw [outsAt0_A m c t h]
    frame_out
    exact gradX_at m c t y _ (by blk_simp [(index t).2.2.2.2.1]) (by blk_simp [(index t).2.2.2.2.1])
  · rw [outsAt0_B m c t h]
    frame_out
    exact gradX_at m c t y _ (by blk_simp [(index t).2.2.2.2.1]) (by blk_simp [(index t).2.2.2.2.1])

/-- A step adds its block's part, summed over the block's rows. -/
theorem add_at (x dh : Vec Ideal S512x1024 .f32) (o : Vec Ideal S1x1024 .f32) (j : S1x1024.Idx) :
    k0_pay1 (k0_pay4 x dh) o j = o j + ∑ r : Fin 512, dh (ix2 r (j 1)) * x (ix2 r (j 1)) * factor 0x44800000#32 (rowOf x r) := by
  obtain ⟨a, b, rfl⟩ : ∃ (a : Fin 1) (b : Fin 1024), j = ix2 a b := ⟨j 0, j 1, by funext d; fin_cases d <;> rfl⟩
  obtain rfl : a = 0 := Subsingleton.elim _ _
  pointwise [k0_pay1, k0_pay4, k0_pay3, factor, rowOf]

/-- The second result array is the gradient in the weight: the four steps add their rows' parts into one block. -/
theorem final_g (m : (ℓ : Loc nD τ sig) → Buf (Elt Ideal) ℓ) (c : Dev nD) :
    (dats m 0 c).arrAt 5 cfg0.N = gradG (m ((c : Thread nD τ).loc main_arg0)) (m ((c : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).2) 4 (fun _ => 0) _
    (fun t h j => by
      show (outsAt0 m c t.val t.isLt).2 j = _
      rw [outsAt0_A m c t h]; frame_out; rw [add_at]; pointwise [k0_pay2]; rfl)
    (fun t h j => by
      show (outsAt0 m c t.val t.isLt).2 j = _
      rw [outsAt0_B m c t h]; frame_out; rw [add_at]) t ((flush0_5 t).mp hf) y, zero_add]
  unfold gradG
  refine Fin.sum_mul_add_congr fun s r hl => ?_
  have ht : t.val < 4 := t.isLt
  simp only [factor, rowOf]
  blk_point [iblk, V, (index _).1, (index _).2.2.1, (index t).2.2.2.2.2]

/-- The program as written has the idealized one's text. -/
theorem defs_eq {F : FTy → Type} [FloatOps F] : Cert.InNormBwd.defs (F := F) = Cert.InNormBwdIdeal.defs (F := F) := by
  refine congrArg (Pipeline.defs Cert.InNormBwd.pcfgs) (congrArg Defs.onTc (funext fun l => funext fun a => ?_))
  obtain ⟨n, hn⟩ := l
  match n, hn with
  | 0, _ => rfl

/-- The program as written runs. -/
theorem frame_kernel : Cert.quiescent_InNormBwd := fun m ρ _ => by
  rw [defs_eq, show Cert.InNormBwd.main (F := Bits) = Cert.InNormBwdIdeal.main (F := Bits) from rfl]
  exact frame (F := Bits) m ρ

/-- The idealized program runs. -/
theorem frame_ideal : Cert.quiescent_InNormBwdIdeal := fun m ρ _ => frame (F := Ideal) m ρ

/-- The reference runs. -/
theorem frame_reference : Cert.quiescent_InNormBwdReferenceIdeal := fun m ρ _ =>
  (θ_run Cert.InNormBwdReferenceIdeal.defs _ _).mono (fun r h => ⟨fun c => (h c).2.2, sem_eq_zero_of_no_sems (by decide) r.2⟩)
    (Cert.InNormBwdReferenceIdeal.Value.run (F := Ideal) m ρ)

set_option maxHeartbeats 1600000 in
/-- The two programs' results are equal, entry by entry. -/
theorem algebraic : Cert.algebraic_InNormBwdIdeal_InNormBwdReferenceIdeal := by
  pair_intro
  · run_from Cert.InNormBwdIdeal.Value.run_blocks m g
  · run_from Cert.InNormBwdReferenceIdeal.Value.run m' g'
    · rw [final_x m c]
      funext i
      pointwise [gradX]
      exact reference_x _ _ _ _ i _ rfl
    · rw [final_g m c]
      funext i
      pointwise [gradG, factor, rowOf]
      exact Finset.sum_congr rfl fun s _ => (mul_comm _ _).trans (mul_assoc _ _ _).symm

end Cert.Proof.InNormBwd
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.FfnUp
public import proofs.«01_k».proof.Proof.Gen.FfnUpIdeal
public import proofs.«01_k».proof.Proof.Gen.FfnUpIdeal.Value
public import proofs.«01_k».proof.Proof.Gen.FfnUpReferenceIdeal
public import proofs.«01_k».proof.Proof.Gen.FfnUpReferenceIdeal.Run
public import proofs.«01_k».proof.Proof.Gen.DWUp
public import proofs.«01_k».proof.Proof.Gen.DWUpIdeal
public import proofs.«01_k».proof.Proof.Gen.DWUpIdeal.Value
public import proofs.«01_k».proof.Proof.Gen.DWUpReferenceIdeal
public import proofs.«01_k».proof.Proof.Gen.DWUpReferenceIdeal.Run
public import proofs.«01_k».proof.Proof.Gen.DH2
public import proofs.«01_k».proof.Proof.Gen.DH2Ideal
public import proofs.«01_k».proof.Proof.Gen.DH2Ideal.Value
public import proofs.«01_k».proof.Proof.Gen.DH2ReferenceIdeal
public import proofs.«01_k».proof.Proof.Gen.DH2ReferenceIdeal.Run
public import proofs.«01_k».proof.Proof.Gen.DWDown
public import proofs.«01_k».proof.Proof.Gen.DWDownIdeal
public import proofs.«01_k».proof.Proof.Gen.DWDownIdeal.Value
public import proofs.«01_k».proof.Proof.Gen.DWDownReferenceIdeal
public import proofs.«01_k».proof.Proof.Gen.DWDownReferenceIdeal.Run
public import proofs.«01_k».proof.Proof.Gen.DAct
public import proofs.«01_k».proof.Proof.Gen.DActIdeal
public import proofs.«01_k».proof.Proof.Gen.DActIdeal.Value
public import proofs.«01_k».proof.Proof.Gen.DActReferenceIdeal
public import proofs.«01_k».proof.Proof.Gen.DActReferenceIdeal.Run
public import proofs.«01_k».proof.Proof.Gen.DWOut
public import proofs.«01_k».proof.Proof.Gen.DWOutIdeal
public import proofs.«01_k».proof.Proof.Gen.DWOutIdeal.Value
public import proofs.«01_k».proof.Proof.Gen.DWOutReferenceIdeal
public import proofs.«01_k».proof.Proof.Gen.DWOutReferenceIdeal.Run
public import proofs.«01_k».proof.Proof.Gen.DWIn
public import proofs.«01_k».proof.Proof.Gen.DWInIdeal
public import proofs.«01_k».proof.Proof.Gen.DWInIdeal.Value
public import proofs.«01_k».proof.Proof.Gen.DWInReferenceIdeal
public import proofs.«01_k».proof.Proof.Gen.DWInReferenceIdeal.Run
public import proofs.«01_k».proof.Proof.Gen.DH
public import proofs.«01_k».proof.Proof.Gen.DHIdeal
public import proofs.«01_k».proof.Proof.Gen.DHIdeal.Value
public import proofs.«01_k».proof.Proof.Gen.DHReferenceIdeal
public import proofs.«01_k».proof.Proof.Gen.DHReferenceIdeal.Run
public import proofs.«01_k».proof.Proof.Gen.InProj
public import proofs.«01_k».proof.Proof.Gen.InProjIdeal
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.MixOut
public import proofs.«01_k».proof.Proof.Gen.MixOutIdeal
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.DownLoss
public import proofs.«01_k».proof.Proof.Gen.DownLossIdeal
public import proofs.«01_k».proof.Proof.Gen.DownLossIdeal.Value
public import proofs.«01_k».proof.Proof.Gen.DownLossReferenceIdeal
public import proofs.«01_k».proof.Proof.Gen.DownLossReferenceIdeal.Run
public import proofs.«01_k».proof.Proof.Gen.AdamIn
public import proofs.«01_k».proof.Proof.Gen.AdamInIdeal
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamGlu
public import proofs.«01_k».proof.Proof.Gen.AdamGluIdeal
public import proofs.«01_k».proof.Proof.Gen.AdamGluIdeal.Value
public import proofs.«01_k».proof.Proof.Gen.AdamGluReferenceIdeal
public import proofs.«01_k».proof.Proof.Gen.AdamGluReferenceIdeal.Run
public import proofs.«01_k».proof.Proof.Gen.AdamOut
public import proofs.«01_k».proof.Proof.Gen.AdamOutIdeal
public import proofs.«01_k».proof.Proof.Gen.AdamOutIdeal.Value
public import proofs.«01_k».proof.Proof.Gen.AdamOutReferenceIdeal
public import proofs.«01_k».proof.Proof.Gen.AdamOutReferenceIdeal.Run
public import proofs.«01_k».proof.Proof.Gen.AdamUp
public import proofs.«01_k».proof.Proof.Gen.AdamUpIdeal
public import proofs.«01_k».proof.Proof.Gen.AdamUpIdeal.Value
public import proofs.«01_k».proof.Proof.Gen.AdamUpReferenceIdeal
public import proofs.«01_k».proof.Proof.Gen.AdamUpReferenceIdeal.Run
public import proofs.«01_k».proof.Proof.Gen.AdamDown
public import proofs.«01_k».proof.Proof.Gen.AdamDownIdeal
public import proofs.«01_k».proof.Proof.Gen.AdamDownIdeal.Value
public import proofs.«01_k».proof.Proof.Gen.AdamDownReferenceIdeal
public import proofs.«01_k».proof.Proof.Gen.AdamDownReferenceIdeal.Run
public import proofs.«01_k».proof.Proof.Gen.AdamConv
public import proofs.«01_k».proof.Proof.Gen.AdamConvIdeal
public import proofs.«01_k».proof.Proof.Gen.AdamConvIdeal.Value
public import proofs.«01_k».proof.Proof.Gen.AdamConvReferenceIdeal
public import proofs.«01_k».proof.Proof.Gen.AdamConvReferenceIdeal.Run
public import proofs.«01_k».proof.Proof.Gen.InNormBwd
public import proofs.«01_k».proof.Proof.Gen.InNormBwdIdeal
public import proofs.«01_k».proof.Proof.Gen.InNormBwdIdeal.Value
public import proofs.«01_k».proof.Proof.Gen.InNormBwdReferenceIdeal
public import proofs.«01_k».proof.Proof.Gen.InNormBwdReferenceIdeal.Run
public import proofs.«01_k».proof.Proof.Launched
public import proofs.«01_k».proof.Proof.Same
public import proofs.«01_k».proof.Proof.Results
public import proofs.«01_k».proof.Proof.Finite
public import proofs.«01_k».proof.Proof.FfnUp
public import proofs.«01_k».proof.Proof.DWUp
public import proofs.«01_k».proof.Proof.DH2
public import proofs.«01_k».proof.Proof.DWDown
public import proofs.«01_k».proof.Proof.DAct
public import proofs.«01_k».proof.Proof.DWOut
public import proofs.«01_k».proof.Proof.DWIn
public import proofs.«01_k».proof.Proof.DH
public import proofs.«01_k».proof.Proof.InProj
public import proofs.«01_k».proof.Proof.MixOut
public import proofs.«01_k».proof.Proof.DownLoss
public import proofs.«01_k».proof.Proof.AdamIn
public import proofs.«01_k».proof.Proof.AdamGlu
public import proofs.«01_k».proof.Proof.AdamOut
public import proofs.«01_k».proof.Proof.AdamUp
public import proofs.«01_k».proof.Proof.AdamDown
public import proofs.«01_k».proof.Proof.AdamConv
public import proofs.«01_k».proof.Proof.InNormBwd
public import Idealize.ShloMosaic.Lib.Claim
public import Idealize.ShloMosaic.Lib.Quiescent

@[expose] public section

noncomputable section

namespace Cert.Proof

open Idealize.ShloMosaic Idealize.SL.Sem

/-- The program as written runs: its text is the idealized program's, so its run is that run at the machine's words. -/
theorem frame_kernel : Cert.quiescent_Kernel := fun m ρ _ => by
  rw [Attn.defs_eq, Attn.mains_eq]
  exact Attn.frame_run (F := Bits) m ρ

/-- The idealized program runs. -/
theorem frame_ideal : Cert.quiescent_KernelIdeal := fun m ρ _ =>
  Attn.frame_run (F := Ideal) m ρ

/-- The reference runs. -/
theorem frame_reference : Cert.quiescent_ReferenceIdeal := fun m ρ _ =>
  (θ_run Cert.ReferenceIdeal.defs _ _).mono (fun r h => ⟨fun c => (h c).2.2.2.2,
      sem_eq_zero_of_no_sems (by decide) r.2⟩) (Cert.ReferenceIdeal.Value.run (F := Ideal) m ρ)

instance : Cert.Pre_finite.Facts := Attn.Finite.facts

/-- The idealized program's four results, for finite arguments, are the gradients of the heads the arguments hold. -/
theorem run_ideal (m : (ℓ : Loc Cert.KernelIdeal.nD Cert.KernelIdeal.τ Cert.KernelIdeal.sig) → Buf (Elt Ideal) ℓ)
    (ρ : Dev Cert.KernelIdeal.nD → PrngReg) (H : Dev Cert.KernelIdeal.nD → Fin 8 → Attn.Head) (R : ∀ c, Attn.HeldBy m c (H c)) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v25_0) = Attn.gradQ (c := c) (H c)
        ∧ r.2.mem ((c.tc : Thread Cert.KernelIdeal.nD Cert.KernelIdeal.τ).loc Cert.KernelIdeal.main_v25_1) = Attn.gradK (c := c) (H c)
        ∧ r.2.mem ((c.tc : Thread Cert.KernelIdeal.nD Cert.KernelIdeal.τ).loc Cert.KernelIdeal.main_v25_2) = Attn.gradV (c := c) (H c)
        ∧ r.2.mem ((c.tc : Thread Cert.KernelIdeal.nD Cert.KernelIdeal.τ).loc Cert.KernelIdeal.main_v25_3) = Attn.gradC (c := c) (H c) :=
  (θ_run Cert.KernelIdeal.defs _ _).mono (fun _ h c => ⟨((h.1 c).1 6).trans (Attn.final_q (R c)), ((h.1 c).1 7).trans (Attn.final_k (R c)),
    ((h.1 c).1 8).trans (Attn.final_v (R c)), ((h.1 c).1 9).trans (Attn.final_c (R c))⟩) (Attn.run_main (F := Ideal) m ρ)

/-- For finite arguments the two programs' results are equal. -/
theorem algebraic : Cert.algebraic_KernelIdeal_ReferenceIdeal_pre_finite := by
  intro m ρ m' ρ' hpre hagree
  let H : Dev Cert.KernelIdeal.nD → Fin 8 → Attn.Head := fun c => Attn.Finite.heads
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
  have R : ∀ c, Attn.HeldBy m c (H c) := fun c => Attn.Finite.held (hpre c)
  refine ⟨fun c => Attn.gradQ (c := c) (H c), fun c => Attn.gradK (c := c) (H c), fun c => Attn.gradV (c := c) (H c), fun c => Attn.gradC (c := c) (H c), ?_, ?_⟩
  · exact (θ_run Cert.KernelIdeal.defs _ _).mono (fun _ h c => ⟨(h.1 c).1, (h.1 c).2.1, (h.1 c).2.2.1, (h.1 c).2.2.2, (h.2.1 c)⟩)
      (θ_run_and (run_ideal m ρ H R) (Attn.frame_run (F := Ideal) m ρ))
  · refine (θ_run Cert.ReferenceIdeal.defs _ _).mono (fun _ h c => ⟨(h c).1.trans ?_, (h c).2.1.trans ?_, (h c).2.2.1.trans ?_, (h c).2.2.2.1.trans ?_, (h c).2.2.2.2⟩)
      (Cert.ReferenceIdeal.Value.run (F := Ideal) m' ρ')
    all_goals obtain ⟨e0, e1, e2, e3, e4⟩ := hagree c
    · rw [Attn.Ref.res_dq, e0, e1, e2, e3, e4]
      exact Attn.Ref.dq_eq (R c)
    · rw [Attn.Ref.res_dk, e0, e1, e2, e3, e4]
      exact Attn.Ref.dk_eq (R c)
    · rw [Attn.Ref.res_dv, e0, e1, e3, e4]
      exact Attn.Ref.dv_eq (R c)
    · rw [Attn.Ref.res_dc, e0, e1, e2, e3, e4]
      exact Attn.Ref.dc_eq (R c)

/-- Every claim, in the order in which they are stated. -/
theorem claim : Cert.Claim := ⟨Cert.Kernel.Gen.facts, Cert.KernelIdeal.Gen.facts, Cert.ReferenceIdeal.Gen.facts,
  Cert.FfnUp.Gen.facts, Cert.FfnUpIdeal.Gen.facts, Cert.FfnUpReferenceIdeal.Gen.facts,
  Cert.DWUp.Gen.facts, Cert.DWUpIdeal.Gen.facts, Cert.DWUpReferenceIdeal.Gen.facts,
  Cert.DH2.Gen.facts, Cert.DH2Ideal.Gen.facts, Cert.DH2ReferenceIdeal.Gen.facts,
  Cert.DWDown.Gen.facts, Cert.DWDownIdeal.Gen.facts, Cert.DWDownReferenceIdeal.Gen.facts,
  Cert.DAct.Gen.facts, Cert.DActIdeal.Gen.facts, Cert.DActReferenceIdeal.Gen.facts,
  Cert.DWOut.Gen.facts, Cert.DWOutIdeal.Gen.facts, Cert.DWOutReferenceIdeal.Gen.facts,
  Cert.DWIn.Gen.facts, Cert.DWInIdeal.Gen.facts, Cert.DWInReferenceIdeal.Gen.facts,
  Cert.DH.Gen.facts, Cert.DHIdeal.Gen.facts, Cert.DHReferenceIdeal.Gen.facts,
  Cert.InProj.Gen.facts, Cert.InProjIdeal.Gen.facts, Cert.InProjReferenceIdeal.Gen.facts,
  Cert.MixOut.Gen.facts, Cert.MixOutIdeal.Gen.facts, Cert.MixOutReferenceIdeal.Gen.facts,
  Cert.DownLoss.Gen.facts, Cert.DownLossIdeal.Gen.facts, Cert.DownLossReferenceIdeal.Gen.facts,
  Cert.AdamIn.Gen.facts, Cert.AdamInIdeal.Gen.facts, Cert.AdamInReferenceIdeal.Gen.facts,
  Cert.AdamGlu.Gen.facts, Cert.AdamGluIdeal.Gen.facts, Cert.AdamGluReferenceIdeal.Gen.facts,
  Cert.AdamOut.Gen.facts, Cert.AdamOutIdeal.Gen.facts, Cert.AdamOutReferenceIdeal.Gen.facts,
  Cert.AdamUp.Gen.facts, Cert.AdamUpIdeal.Gen.facts, Cert.AdamUpReferenceIdeal.Gen.facts,
  Cert.AdamDown.Gen.facts, Cert.AdamDownIdeal.Gen.facts, Cert.AdamDownReferenceIdeal.Gen.facts,
  Cert.AdamConv.Gen.facts, Cert.AdamConvIdeal.Gen.facts, Cert.AdamConvReferenceIdeal.Gen.facts,
  Cert.InNormBwd.Gen.facts, Cert.InNormBwdIdeal.Gen.facts, Cert.InNormBwdReferenceIdeal.Gen.facts,
  Attn.Finite.facts,
  frame_kernel, frame_ideal, fun m ρ _ => frame_ideal m ρ trivial, frame_reference, fun m ρ _ => frame_reference m ρ trivial,
  FfnUp.frame_kernel, FfnUp.frame_ideal, FfnUp.frame_reference,
  DWUp.frame_kernel, DWUp.frame_ideal, DWUp.frame_reference,
  DH2.frame_kernel, DH2.frame_ideal, DH2.frame_reference,
  DWDown.frame_kernel, DWDown.frame_ideal, DWDown.frame_reference,
  DAct.frame_kernel, DAct.frame_ideal, DAct.frame_reference,
  DWOut.frame_kernel, DWOut.frame_ideal, DWOut.frame_reference,
  DWIn.frame_kernel, DWIn.frame_ideal, DWIn.frame_reference,
  DH.frame_kernel, DH.frame_ideal, DH.frame_reference,
  InProj.frame_kernel, InProj.frame_ideal, InProj.frame_reference,
  MixOut.frame_kernel, MixOut.frame_ideal, MixOut.frame_reference,
  DownLoss.frame_kernel, DownLoss.frame_ideal, DownLoss.frame_reference,
  AdamIn.frame_kernel, AdamIn.frame_ideal, AdamIn.frame_reference,
  AdamGlu.frame_kernel, AdamGlu.frame_ideal, AdamGlu.frame_reference,
  AdamOut.frame_kernel, AdamOut.frame_ideal, AdamOut.frame_reference,
  AdamUp.frame_kernel, AdamUp.frame_ideal, AdamUp.frame_reference,
  AdamDown.frame_kernel, AdamDown.frame_ideal, AdamDown.frame_reference,
  AdamConv.frame_kernel, AdamConv.frame_ideal, AdamConv.frame_reference,
  InNormBwd.frame_kernel, InNormBwd.frame_ideal, InNormBwd.frame_reference,
  trivial, algebraic,
  trivial, FfnUp.algebraic, trivial, DWUp.algebraic, trivial, DH2.algebraic, trivial, DWDown.algebraic, trivial, DAct.algebraic, trivial, DWOut.algebraic, trivial, DWIn.algebraic, trivial, DH.algebraic,
  trivial, InProj.algebraic, trivial, MixOut.algebraic, trivial, DownLoss.algebraic,
  trivial, AdamIn.algebraic, trivial, AdamGlu.algebraic, trivial, AdamOut.algebraic, trivial, AdamUp.algebraic, trivial, AdamDown.algebraic, trivial, AdamConv.algebraic, trivial, InNormBwd.algebraic⟩

end Cert.Proof

end
